-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_bx_finite [hPre_bx_finite : Cert.Pre_bx_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_bx_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_bx_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_bx_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_bx_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_bx_finite [hPre_bx_finite : Cert.Pre_bx_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_bx_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_bx_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_bx_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_bx_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_bx_finite [hKernel3Ideal : Cert.Kernel3Ideal.Facts] [hPre_bx_finite : Cert.Pre_bx_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_bx_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_bx_finite [hReference3Ideal : Cert.Reference3Ideal.Facts] [hPre_bx_finite : Cert.Pre_bx_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_bx_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)) (v3 : (c : Dev Cert.KernelIdeal.nD) → Buf (Elt Ideal) ((c.tc : Thread Cert.KernelIdeal.nD Cert.KernelIdeal.τ).loc Cert.KernelIdeal.main_v34_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_v34_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_v12) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_bx_finite [hKernel3Ideal : Cert.Kernel3Ideal.Facts] [hReference3Ideal : Cert.Reference3Ideal.Facts] [hPre_bx_finite : Cert.Pre_bx_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_bx_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)) (v2 : (c : Dev Cert.Kernel3Ideal.nD) → Buf (Elt Ideal) ((c.tc : Thread Cert.Kernel3Ideal.nD Cert.Kernel3Ideal.τ).loc Cert.Kernel3Ideal.main_v17_2)) (v3 : (c : Dev Cert.Kernel3Ideal.nD) → Buf (Elt Ideal) ((c.tc : Thread Cert.Kernel3Ideal.nD Cert.Kernel3Ideal.τ).loc Cert.Kernel3Ideal.main_v17_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_v17_2) = v2 c
          ∧ r.2.mem ((c.tc : Thread Cert.Kernel3Ideal.nD Cert.Kernel3Ideal.τ).loc Cert.Kernel3Ideal.main_v17_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v10)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v19)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v19) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v11)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v11) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v8)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v10)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v16)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v16) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_all_finite : Cert.Pre_all_finite.Facts) (hPre_bx_finite : Cert.Pre_bx_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_bx_finite (hKernel3Ideal := hKernel3Ideal) (hPre_bx_finite := hPre_bx_finite)
    ∧ quiescent_Reference3Ideal (hReference3Ideal := hReference3Ideal)
    ∧ quiescent_Reference3Ideal_pre_bx_finite (hReference3Ideal := hReference3Ideal) (hPre_bx_finite := hPre_bx_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_bx_finite (hKernel3Ideal := hKernel3Ideal) (hReference3Ideal := hReference3Ideal) (hPre_bx_finite := hPre_bx_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_all_finite.lean ====
abbrev S4224x3584 : Shape := ⟨2, ![4224, 3584]⟩
abbrev S4224x512 : Shape := ⟨2, ![4224, 512]⟩
abbrev S4224x1024 : Shape := ⟨2, ![4224, 1024]⟩
abbrev S_ : Shape := ⟨0, ![]⟩

class Facts : Prop where
  bcast_S_S4224x3584 : S_.BroadcastsInDim S4224x3584 (![] : Fin 0 → Fin S4224x3584.rank)
  bcast_S_S4224x512 : S_.BroadcastsInDim S4224x512 (![] : Fin 0 → Fin S4224x512.rank)
  bcast_S_S4224x1024 : S_.BroadcastsInDim S4224x1024 (![] : Fin 0 → Fin S4224x1024.rank)

variable [Facts]

def fn {F : FTy → Type} [FloatOps F] (main_arg0 : FVec F S4224x3584 .f32) (main_arg1 : FVec F S4224x512 .f32) (main_arg2 : FVec F S4224x1024 .f32) : IVec S4224x3584 1 × IVec S4224x512 1 × IVec S4224x1024 1 :=
  let main_v0 : FVec F S4224x3584 .f32 := Host.absf main_arg0
  let main_cst : FVec F S_ .f32 := constant S_ .f32 0x7F800000#32
  let main_v1 : FVec F S4224x3584 .f32 := broadcastInDim S4224x3584 ![] bcast_S_S4224x3584 main_cst
  let main_v2 : IVec S4224x3584 1 := cmpf .olt main_v0 main_v1
  let main_v3 : FVec F S4224x512 .f32 := Host.absf main_arg1
  let main_cst_0 : FVec F S_ .f32 := constant S_ .f32 0x7F800000#32
  let main_v4 : FVec F S4224x512 .f32 := broadcastInDim S4224x512 ![] bcast_S_S4224x512 main_cst_0
  let main_v5 : IVec S4224x512 1 := cmpf .olt main_v3 main_v4
  let main_v6 : FVec F S4224x1024 .f32 := Host.absf main_arg2
  let main_cst_1 : FVec F S_ .f32 := constant S_ .f32 0x7F800000#32
  let main_v7 : FVec F S4224x1024 .f32 := broadcastInDim S4224x1024 ![] bcast_S_S4224x1024 main_cst_1
  let main_v8 : IVec S4224x1024 1 := cmpf .olt main_v6 main_v7
  (main_v2, main_v5, main_v8)
-- ==== Pre_bx_finite.lean ====
abbrev S4224x1024 : Shape := ⟨2, ![4224, 1024]⟩
abbrev S1024x2816 : Shape := ⟨2, ![1024, 2816]⟩
abbrev S2816x1024 : Shape := ⟨2, ![2816, 1024]⟩
abbrev S_ : Shape := ⟨0, ![]⟩

class Facts : Prop where
  bcast_S_S4224x1024 : S_.BroadcastsInDim S4224x1024 (![] : Fin 0 → Fin S4224x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4224x1024 .f32) (main_arg1 : FVec F S1024x2816 .f32) (main_arg2 : FVec F S1024x2816 .f32) (main_arg3 : FVec F S2816x1024 .f32) (main_arg4 : FVec F S4224x1024 .f32) : IVec S4224x1024 1 × IVec S1024x2816 1 × IVec S2816x1024 1 × IVec S4224x1024 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4224x1024 .f32 := Host.absf main_arg4
  let main_cst_2 : FVec F S_ .f32 := constant S_ .f32 0x7F800000#32
  let main_v10 : FVec F S4224x1024 .f32 := broadcastInDim S4224x1024 ![] bcast_S_S4224x1024 main_cst_2
  let main_v11 : IVec S4224x1024 1 := cmpf .olt main_v9 main_v10
  (main_v2, main_v5, main_v8, main_v11)
-- ==== Kernel.lean ====
abbrev S4224x3584 : Shape := ⟨2, ![4224, 3584]⟩
abbrev S4224x512 : Shape := ⟨2, ![4224, 512]⟩
abbrev S4224x1024 : Shape := ⟨2, ![4224, 1024]⟩
abbrev S4224x4x128 : Shape := ⟨3, ![4224, 4, 128]⟩
abbrev S4x4224x128 : Shape := ⟨3, ![4, 4224, 128]⟩
abbrev S4224x4x256 : Shape := ⟨3, ![4224, 4, 256]⟩
abbrev S4x4224x256 : Shape := ⟨3, ![4, 4224, 256]⟩
abbrev S66x4224 : Shape := ⟨2, ![66, 4224]⟩
abbrev S_ : Shape := ⟨0, ![]⟩
abbrev S66x4224x1 : Shape := ⟨3, ![66, 4224, 1]⟩
abbrev S4x1x4224x128 : Shape := ⟨4, ![4, 1, 4224, 128]⟩
abbrev S4x66x4224x128 : Shape := ⟨4, ![4, 66, 4224, 128]⟩
abbrev S4x66x128 : Shape := ⟨3, ![4, 66, 128]⟩
abbrev S1x66x4224x1 : Shape := ⟨4, ![1, 66, 4224, 1]⟩
abbrev S4224x4224 : Shape := ⟨2, ![4224, 4224]⟩
abbrev S4224x4224x1 : Shape := ⟨3, ![4224, 4224, 1]⟩
abbrev S4x4224x4224x128 : Shape := ⟨4, ![4, 4224, 4224, 128]⟩
abbrev S4x66x128x1 : Shape := ⟨4, ![4, 66, 128, 1]⟩
abbrev S4x66x128x256 : Shape := ⟨4, ![4, 66, 128, 256]⟩
abbrev S192x512 : Shape := ⟨2, ![192, 512]⟩
abbrev S192x1024 : Shape := ⟨2, ![192, 1024]⟩
abbrev S4x3x128x256 : Shape := ⟨4, ![4, 3, 128, 256]⟩
abbrev S4x128x256 : Shape := ⟨3, ![4, 128, 256]⟩
abbrev S64x128 : Shape := ⟨2, ![64, 128]⟩
abbrev S64x256 : Shape := ⟨2, ![64, 256]⟩
abbrev S1x1x128x256 : Shape := ⟨4, ![1, 1, 128, 256]⟩
abbrev S128x256 : Shape := ⟨2, ![128, 256]⟩
abbrev S64x64 : Shape := ⟨2, ![64, 64]⟩
abbrev S128 : Shape := ⟨1, ![128]⟩
abbrev S1x128 : Shape := ⟨2, ![1, 128]⟩
abbrev S1x128x256 : Shape := ⟨3, ![1, 128, 256]⟩

abbrev nBuf : Space → Nat
  | .hbm => 68
  | .vmem => 21
  | .smem => 0
  | _ => 0

abbrev bufTy : (tb : Table) → Fin (tcTables nBuf tb) → BufTy
  | .hbm, ⟨0, _⟩ => ⟨S4224x3584, .f32⟩
  | .hbm, ⟨1, _⟩ => ⟨S4224x512, .f32⟩
  | .hbm, ⟨2, _⟩ => ⟨S4224x1024, .f32⟩
  | .hbm, ⟨3, _⟩ => ⟨S4224x512, .f32⟩
  | .hbm, ⟨4, _⟩ => ⟨S4224x4x128, .f32⟩
  | .hbm, ⟨5, _⟩ => ⟨S4x4224x128, .f32⟩
  | .hbm, ⟨6, _⟩ => ⟨S4224x1024, .f32⟩
  | .hbm, ⟨7, _⟩ => ⟨S4224x4x256, .f32⟩
  | .hbm, ⟨8, _⟩ => ⟨S4x4224x256, .f32⟩
  | .hbm, ⟨9, _⟩ => ⟨S4224x4x128, .f32⟩
  | .hbm, ⟨10, _⟩ => ⟨S4x4224x128, .f32⟩
  | .hbm, ⟨11, _⟩ => ⟨S66x4224, .i32⟩
  | .hbm, ⟨12, _⟩ => ⟨S66x4224, .i32⟩
  | .hbm, ⟨13, _⟩ => ⟨S_, .i32⟩
  | .hbm, ⟨14, _⟩ => ⟨S66x4224, .i32⟩
  | .hbm, ⟨15, _⟩ => ⟨S66x4224, .i32⟩
  | .hbm, ⟨16, _⟩ => ⟨S66x4224, .i1⟩
  | .hbm, ⟨17, _⟩ => ⟨S66x4224x1, .i1⟩
  | .hbm, ⟨18, _⟩ => ⟨S4x1x4224x128, .f32⟩
  | .hbm, ⟨19, _⟩ => ⟨S_, .f32⟩
  | .hbm, ⟨20, _⟩ => ⟨S_, .f32⟩
  | .hbm, ⟨21, _⟩ => ⟨S4x66x4224x128, .i1⟩
  | .hbm, ⟨22, _⟩ => ⟨S4x66x4224x128, .f32⟩
  | .hbm, ⟨23, _⟩ => ⟨S4x66x4224x128, .f32⟩
  | .hbm, ⟨24, _⟩ => ⟨S4x66x4224x128, .f32⟩
  | .hbm, ⟨25, _⟩ => ⟨S_, .f32⟩
  | .hbm, ⟨26, _⟩ => ⟨S4x66x128, .f32⟩
  | .hbm, ⟨27, _⟩ => ⟨S1x66x4224x1, .i1⟩
  | .hbm, ⟨28, _⟩ => ⟨S_, .i1⟩
  | .hbm, ⟨29, _⟩ => ⟨S4224x4224, .i1⟩
  | .hbm, ⟨30, _⟩ => ⟨S4224x4224, .i32⟩
  | .hbm, ⟨31, _⟩ => ⟨S_, .i32⟩
  | .hbm, ⟨32, _⟩ => ⟨S4224x4224, .i32⟩
  | .hbm, ⟨33, _⟩ => ⟨S4224x4224, .i32⟩
  | .hbm, ⟨34, _⟩ => ⟨S4224x4224, .i32⟩
  | .hbm, ⟨35, _⟩ => ⟨S4224x4224, .i1⟩
  | .hbm, ⟨36, _⟩ => ⟨S_, .i1⟩
  | .hbm, ⟨37, _⟩ => ⟨S4224x4224, .i1⟩
  | .hbm, ⟨38, _⟩ => ⟨S4224x4224, .i1⟩
  | .hbm, ⟨39, _⟩ => ⟨S4224x4224x1, .i1⟩
  | .hbm, ⟨40, _⟩ => ⟨S4x1x4224x128, .f32⟩
  | .hbm, ⟨41, _⟩ => ⟨S_, .f32⟩
  | .hbm, ⟨42, _⟩ => ⟨S_, .f32⟩
  | .hbm, ⟨43, _⟩ => ⟨S4x4224x4224x128, .i1⟩
  | .hbm, ⟨44, _⟩ => ⟨S4x4224x4224x128, .f32⟩
  | .hbm, ⟨45, _⟩ => ⟨S4x4224x4224x128, .f32⟩
  | .hbm, ⟨46, _⟩ => ⟨S4x4224x4224x128, .f32⟩
  | .hbm, ⟨47, _⟩ => ⟨S_, .f32⟩
  | .hbm, ⟨48, _⟩ => ⟨S4x4224x128, .f32⟩
  | .hbm, ⟨49, _⟩ => ⟨S4x4224x128, .f32⟩
  | .hbm, ⟨50, _⟩ => ⟨S4x4224x128, .f32⟩
  | .hbm, ⟨51, _⟩ => ⟨S4x4224x128, .f32⟩
  | .hbm, ⟨52, _⟩ => ⟨S4x1x4224x128, .f32⟩
  | .hbm, ⟨53, _⟩ => ⟨S_, .f32⟩
  | .hbm, ⟨54, _⟩ => ⟨S_, .f32⟩
  | .hbm, ⟨55, _⟩ => ⟨S4x66x4224x128, .i1⟩
  | .hbm, ⟨56, _⟩ => ⟨S4x66x4224x128, .f32⟩
  | .hbm, ⟨57, _⟩ => ⟨S4x66x4224x128, .f32⟩
  | .hbm, ⟨58, _⟩ => ⟨S4x66x4224x128, .f32⟩
  | .hbm, ⟨59, _⟩ => ⟨S4x66x128, .f32⟩
  | .hbm, ⟨60, _⟩ => ⟨S4x66x128x1, .f32⟩
  | .hbm, ⟨61, _⟩ => ⟨S4x66x128x256, .f32⟩
  | .hbm, ⟨62, _⟩ => ⟨S4x66x128x256, .f32⟩
  | .hbm, ⟨63, _⟩ => ⟨S4x66x128x256, .f32⟩
  | .hbm, ⟨64, _⟩ => ⟨S4224x512, .f32⟩
  | .hbm, ⟨65, _⟩ => ⟨S4224x512, .f32⟩
  | .hbm, ⟨66, _⟩ => ⟨S4224x1024, .f32⟩
  | .hbm, ⟨67, _⟩ => ⟨S4224x512, .f32⟩
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S192x1024, .f32⟩
  | .local _ .vmem, ⟨5, _⟩ => ⟨S192x1024, .f32⟩
  | .local _ .vmem, ⟨6, _⟩ => ⟨S192x512, .f32⟩
  | .local _ .vmem, ⟨7, _⟩ => ⟨S192x512, .f32⟩
  | .local _ .vmem, ⟨8, _⟩ => ⟨S4x3x128x256, .f32⟩
  | .local _ .vmem, ⟨9, _⟩ => ⟨S4x3x128x256, .f32⟩
  | .local _ .vmem, ⟨10, _⟩ => ⟨S192x1024, .f32⟩
  | .local _ .vmem, ⟨11, _⟩ => ⟨S192x1024, .f32⟩
  | .local _ .vmem, ⟨12, _⟩ => ⟨S192x512, .f32⟩
  | .local _ .vmem, ⟨13, _⟩ => ⟨S192x512, .f32⟩
  | .local _ .vmem, ⟨14, _⟩ => ⟨S192x512, .f32⟩
  | .local _ .vmem, ⟨15, _⟩ => ⟨S192x512, .f32⟩
  | .local _ .vmem, ⟨16, _⟩ => ⟨S192x1024, .f32⟩
  | .local _ .vmem, ⟨17, _⟩ => ⟨S192x1024, .f32⟩
  | .local _ .vmem, ⟨18, _⟩ => ⟨S192x512, .f32⟩
  | .local _ .vmem, ⟨19, _⟩ => ⟨S192x512, .f32⟩
  | .local _ .vmem, ⟨20, _⟩ => ⟨S4x128x256, .f32⟩
  | _, _ => ⟨S4224x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_0 : Ref sig .tc := ⟨.hbm, 36, rfl⟩
abbrev main_call1_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34_0 : Ref sig .tc := ⟨.hbm, 64, rfl⟩
abbrev main_v34_1 : Ref sig .tc := ⟨.hbm, 65, rfl⟩
abbrev main_v34_2 : Ref sig .tc := ⟨.hbm, 66, rfl⟩
abbrev main_v34_3 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c21_i32 : BitVec 32 := 21#32
  let v0 : BitVec 32 := Scalar.subi c21_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c21_i32 : BitVec 32 := 21#32
  let v0 : BitVec 32 := Scalar.subi c21_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c21_i32 : BitVec 32 := 21#32
  let v0 : BitVec 32 := Scalar.subi c21_i32 arg0
  let c0_i32 : BitVec 32 := 0#32
  let c0_i32_0 : BitVec 32 := 0#32
  ![v0.toNat, c0_i32.toNat]

abbrev stage0_0 : Fin 2 → Memref sig .tc .vmem S192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x3x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S192x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4224x3584 : Shape := ⟨2, ![4224, 3584]⟩
abbrev S4224x512 : Shape := ⟨2, ![4224, 512]⟩
abbrev S4224x1024 : Shape := ⟨2, ![4224, 1024]⟩
abbrev S4224x4x128 : Shape := ⟨3, ![4224, 4, 128]⟩
abbrev S4x4224x128 : Shape := ⟨3, ![4, 4224, 128]⟩
abbrev S_ : Shape := ⟨0, ![]⟩
abbrev S4224x4x256 : Shape := ⟨3, ![4224, 4, 256]⟩
abbrev S4x4224x256 : Shape := ⟨3, ![4, 4224, 256]⟩
abbrev S4224x4224 : Shape := ⟨2, ![4224, 4224]⟩
abbrev S4224x4224x1 : Shape := ⟨3, ![4224, 4224, 1]⟩
abbrev S4x1x4224x128 : Shape := ⟨4, ![4, 1, 4224, 128]⟩
abbrev S4x4224x4224x128 : Shape := ⟨4, ![4, 4224, 4224, 128]⟩
abbrev S4x4224x4224 : Shape := ⟨3, ![4, 4224, 4224]⟩
abbrev S4x256x4224 : Shape := ⟨3, ![4, 256, 4224]⟩

abbrev nBuf : Space → Nat
  | .hbm => 105
  | .vmem => 0
  | .smem => 0
  | _ => 0

abbrev bufTy : (tb : Table) → Fin (tcTables nBuf tb) → BufTy
  | .hbm, ⟨0, _⟩ => ⟨S4224x3584, .f32⟩
  | .hbm, ⟨1, _⟩ => ⟨S4224x512, .f32⟩
  | .hbm, ⟨2, _⟩ => ⟨S4224x1024, .f32⟩
  | .hbm, ⟨3, _⟩ => ⟨S4224x512, .f32⟩
  | .hbm, ⟨4, _⟩ => ⟨S4224x512, .f32⟩
  | .hbm, ⟨5, _⟩ => ⟨S4224x1024, .f32⟩
  | .hbm, ⟨6, _⟩ => ⟨S4224x4x128, .f32⟩
  | .hbm, ⟨7, _⟩ => ⟨S4x4224x128, .f32⟩
  | .hbm, ⟨8, _⟩ => ⟨S_, .f32⟩
  | .hbm, ⟨9, _⟩ => ⟨S4x4224x128, .f32⟩
  | .hbm, ⟨10, _⟩ => ⟨S4x4224x128, .f32⟩
  | .hbm, ⟨11, _⟩ => ⟨S4224x4x128, .f32⟩
  | .hbm, ⟨12, _⟩ => ⟨S4x4224x128, .f32⟩
  | .hbm, ⟨13, _⟩ => ⟨S4224x4x256, .f32⟩
  | .hbm, ⟨14, _⟩ => ⟨S4x4224x256, .f32⟩
  | .hbm, ⟨15, _⟩ => ⟨S4224x4x128, .f32⟩
  | .hbm, ⟨16, _⟩ => ⟨S4x4224x128, .f32⟩
  | .hbm, ⟨17, _⟩ => ⟨S_, .i1⟩
  | .hbm, ⟨18, _⟩ => ⟨S4224x4224, .i1⟩
  | .hbm, ⟨19, _⟩ => ⟨S4224x4224, .i32⟩
  | .hbm, ⟨20, _⟩ => ⟨S_, .i32⟩
  | .hbm, ⟨21, _⟩ => ⟨S4224x4224, .i32⟩
  | .hbm, ⟨22, _⟩ => ⟨S4224x4224, .i32⟩
  | .hbm, ⟨23, _⟩ => ⟨S4224x4224, .i32⟩
  | .hbm, ⟨24, _⟩ => ⟨S4224x4224, .i1⟩
  | .hbm, ⟨25, _⟩ => ⟨S_, .i1⟩
  | .hbm, ⟨26, _⟩ => ⟨S4224x4224, .i1⟩
  | .hbm, ⟨27, _⟩ => ⟨S4224x4224, .i1⟩
  | .hbm, ⟨28, _⟩ => ⟨S4224x4224x1, .i1⟩
  | .hbm, ⟨29, _⟩ => ⟨S4x1x4224x128, .f32⟩
  | .hbm, ⟨30, _⟩ => ⟨S_, .f32⟩
  | .hbm, ⟨31, _⟩ => ⟨S_, .f32⟩
  | .hbm, ⟨32, _⟩ => ⟨S4x4224x4224x128, .i1⟩
  | .hbm, ⟨33, _⟩ => ⟨S4x4224x4224x128, .f32⟩
  | .hbm, ⟨34, _⟩ => ⟨S4x4224x4224x128, .f32⟩
  | .hbm, ⟨35, _⟩ => ⟨S4x4224x4224x128, .f32⟩
  | .hbm, ⟨36, _⟩ => ⟨S_, .f32⟩
  | .hbm, ⟨37, _⟩ => ⟨S4x4224x4224x128, .f32⟩
  | .hbm, ⟨38, _⟩ => ⟨S_, .f32⟩
  | .hbm, ⟨39, _⟩ => ⟨S4x4224x128, .f32⟩
  | .hbm, ⟨40, _⟩ => ⟨S4x4224x128, .f32⟩
  | .hbm, ⟨41, _⟩ => ⟨S4x4224x128, .f32⟩
  | .hbm, ⟨42, _⟩ => ⟨S4x4224x128, .f32⟩
  | .hbm, ⟨43, _⟩ => ⟨S4x4224x128, .f32⟩
  | .hbm, ⟨44, _⟩ => ⟨S4x4224x128, .f32⟩
  | .hbm, ⟨45, _⟩ => ⟨S4x4224x4224, .f32⟩
  | .hbm, ⟨46, _⟩ => ⟨S_, .i1⟩
  | .hbm, ⟨47, _⟩ => ⟨S4224x4224, .i1⟩
  | .hbm, ⟨48, _⟩ => ⟨S4224x4224, .i32⟩
  | .hbm, ⟨49, _⟩ => ⟨S_, .i32⟩
  | .hbm, ⟨50, _⟩ => ⟨S4224x4224, .i32⟩
  | .hbm, ⟨51, _⟩ => ⟨S4224x4224, .i32⟩
  | .hbm, ⟨52, _⟩ => ⟨S4224x4224, .i32⟩
  | .hbm, ⟨53, _⟩ => ⟨S4224x4224, .i1⟩
  | .hbm, ⟨54, _⟩ => ⟨S_, .i1⟩
  | .hbm, ⟨55, _⟩ => ⟨S4224x4224, .i1⟩
  | .hbm, ⟨56, _⟩ => ⟨S4224x4224, .i1⟩
  | .hbm, ⟨57, _⟩ => ⟨S_, .f32⟩
  | .hbm, ⟨58, _⟩ => ⟨S_, .f32⟩
  | .hbm, ⟨59, _⟩ => ⟨S4x4224x4224, .i1⟩
  | .hbm, ⟨60, _⟩ => ⟨S4x4224x4224, .f32⟩
  | .hbm, ⟨61, _⟩ => ⟨S4x4224x4224, .f32⟩
  | .hbm, ⟨62, _⟩ => ⟨S_, .f32⟩
  | .hbm, ⟨63, _⟩ => ⟨S4x4224x4224, .f32⟩
  | .hbm, ⟨64, _⟩ => ⟨S4x4224x256, .f32⟩
  | .hbm, ⟨65, _⟩ => ⟨S4224x4x256, .f32⟩
  | .hbm, ⟨66, _⟩ => ⟨S4224x1024, .f32⟩
  | .hbm, ⟨67, _⟩ => ⟨S4224x4x256, .f32⟩
  | .hbm, ⟨68, _⟩ => ⟨S4x4224x256, .f32⟩
  | .hbm, ⟨69, _⟩ => ⟨S4x256x4224, .f32⟩
  | .hbm, ⟨70, _⟩ => ⟨S4x4224x256, .f32⟩
  | .hbm, ⟨71, _⟩ => ⟨S4x4224x4224, .f32⟩
  | .hbm, ⟨72, _⟩ => ⟨S_, .f32⟩
  | .hbm, ⟨73, _⟩ => ⟨S4x4224x4224, .f32⟩
  | .hbm, ⟨74, _⟩ => ⟨S4x4224x4224, .f32⟩
  | .hbm, ⟨75, _⟩ => ⟨S4x4224x128, .f32⟩
  | .hbm, ⟨76, _⟩ => ⟨S4x4224x128, .f32⟩
  | .hbm, ⟨77, _⟩ => ⟨S4x4224x128, .f32⟩
  | .hbm, ⟨78, _⟩ => ⟨S4x4224x128, .f32⟩
  | .hbm, ⟨79, _⟩ => ⟨S4x4224x128, .f32⟩
  | .hbm, ⟨80, _⟩ => ⟨S4x4224x128, .f32⟩
  | .hbm, ⟨81, _⟩ => ⟨S4x4224x128, .f32⟩
  | .hbm, ⟨82, _⟩ => ⟨S4x4224x128, .f32⟩
  | .hbm, ⟨83, _⟩ => ⟨S4x4224x128, .f32⟩
  | .hbm, ⟨84, _⟩ => ⟨S4x4224x128, .f32⟩
  | .hbm, ⟨85, _⟩ => ⟨S4x4224x4224x128, .f32⟩
  | .hbm, ⟨86, _⟩ => ⟨S_, .f32⟩
  | .hbm, ⟨87, _⟩ => ⟨S4x4224x4224x128, .f32⟩
  | .hbm, ⟨88, _⟩ => ⟨S4x4224x4224x128, .f32⟩
  | .hbm, ⟨89, _⟩ => ⟨S_, .f32⟩
  | .hbm, ⟨90, _⟩ => ⟨S4x4224x128, .f32⟩
  | .hbm, ⟨91, _⟩ => ⟨S4x1x4224x128, .f32⟩
  | .hbm, ⟨92, _⟩ => ⟨S_, .f32⟩
  | .hbm, ⟨93, _⟩ => ⟨S4x4224x128, .f32⟩
  | .hbm, ⟨94, _⟩ => ⟨S4224x4x128, .f32⟩
  | .hbm, ⟨95, _⟩ => ⟨S4224x512, .f32⟩
  | .hbm, ⟨96, _⟩ => ⟨S4224x4x256, .f32⟩
  | .hbm, ⟨97, _⟩ => ⟨S4224x1024, .f32⟩
  | .hbm, ⟨98, _⟩ => ⟨S4224x4x128, .f32⟩
  | .hbm, ⟨99, _⟩ => ⟨S4224x512, .f32⟩
  | .hbm, ⟨100, _⟩ => ⟨S_, .f32⟩
  | .hbm, ⟨101, _⟩ => ⟨S4x4224x128, .f32⟩
  | .hbm, ⟨102, _⟩ => ⟨S4x4224x128, .f32⟩
  | .hbm, ⟨103, _⟩ => ⟨S4224x4x128, .f32⟩
  | .hbm, ⟨104, _⟩ => ⟨S4224x512, .f32⟩
  | _, _ => ⟨S4224x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_call1_v0 : Ref sig .tc := ⟨.hbm, 31, rfl⟩
abbrev main_v17_1 : Ref sig .tc := ⟨.hbm, 32, rfl⟩
abbrev main_call1_v2 : Ref sig .tc := ⟨.hbm, 33, rfl⟩
abbrev main_call1_v3 : Ref sig .tc := ⟨.hbm, 34, rfl⟩
abbrev main_v17_0 : Ref sig .tc := ⟨.hbm, 35, rfl⟩
abbrev main_call1_cst : Ref sig .tc := ⟨.hbm, 36, rfl⟩
abbrev main_v17_2 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_call2_v0 : Ref sig .tc := ⟨.hbm, 48, rfl⟩
abbrev main_call2_c : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_0 : Ref sig .tc := ⟨.hbm, 54, rfl⟩
abbrev main_call2_v5 : Ref sig .tc := ⟨.hbm, 55, rfl⟩
abbrev main_v26 : Ref sig .tc := ⟨.hbm, 56, rfl⟩
abbrev main_cst_3 : Ref sig .tc := ⟨.hbm, 57, rfl⟩
abbrev main_call3_v0 : Ref sig .tc := ⟨.hbm, 58, rfl⟩
abbrev main_v27_1 : Ref sig .tc := ⟨.hbm, 59, rfl⟩
abbrev main_call3_v2 : Ref sig .tc := ⟨.hbm, 60, rfl⟩
abbrev main_v27_0 : Ref sig .tc := ⟨.hbm, 61, rfl⟩
abbrev main_call3_cst : Ref sig .tc := ⟨.hbm, 62, rfl⟩
abbrev main_v27_2 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_call4_cst : Ref sig .tc := ⟨.hbm, 72, rfl⟩
abbrev main_call4_v0 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_call5_cst : Ref sig .tc := ⟨.hbm, 86, rfl⟩
abbrev main_call5_v0 : Ref sig .tc := ⟨.hbm, 87, rfl⟩
abbrev main_call5_v1 : Ref sig .tc := ⟨.hbm, 88, rfl⟩
abbrev main_call5_cst_0 : Ref sig .tc := ⟨.hbm, 89, rfl⟩
abbrev main_call5_v2 : Ref sig .tc := ⟨.hbm, 90, rfl⟩
abbrev main_v48 : Ref sig .tc := ⟨.hbm, 91, rfl⟩
abbrev main_cst_4 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_5 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩

abbrev nD : Nat := 1
abbrev τ : Topo := Topo.v7x

variable {F : FTy → Type} [FloatOps F]
-- ==== Kernel2.lean ====
abbrev S4224x1024 : Shape := ⟨2, ![4224, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4224x704 : Shape := ⟨3, ![4, 4224, 704]⟩
abbrev S1408x1024 : Shape := ⟨2, ![1408, 1024]⟩
abbrev S1x704x1024 : Shape := ⟨3, ![1, 704, 1024]⟩
abbrev S1x1408x704 : Shape := ⟨3, ![1, 1408, 704]⟩
abbrev S704x1024 : Shape := ⟨2, ![704, 1024]⟩
abbrev S1408x704 : Shape := ⟨2, ![1408, 704]⟩

abbrev nBuf : Space → Nat
  | .hbm => 16
  | .vmem => 14
  | .smem => 0
  | _ => 0

abbrev bufTy : (tb : Table) → Fin (tcTables nBuf tb) → BufTy
  | .hbm, ⟨0, _⟩ => ⟨S4224x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4224x1024, .bf16⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S4224x1024, .f32⟩
  | .hbm, ⟨14, _⟩ => ⟨S4x4224x704, .bf16⟩
  | .hbm, ⟨15, _⟩ => ⟨S4x4224x704, .bf16⟩
  | .local _ .vmem, ⟨0, _⟩ => ⟨S1408x1024, .bf16⟩
  | .local _ .vmem, ⟨1, _⟩ => ⟨S1408x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1408x1024, .f32⟩
  | .local _ .vmem, ⟨9, _⟩ => ⟨S1408x1024, .f32⟩
  | .local _ .vmem, ⟨10, _⟩ => ⟨S1x1408x704, .bf16⟩
  | .local _ .vmem, ⟨11, _⟩ => ⟨S1x1408x704, .bf16⟩
  | .local _ .vmem, ⟨12, _⟩ => ⟨S1x1408x704, .bf16⟩
  | .local _ .vmem, ⟨13, _⟩ => ⟨S1x1408x704, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_15 : BitVec 32 := 0#32
  let v23 : BitVec 1 := Scalar.cmpi .ne v22 c0_i32_15
  v23

def k0_cond2 (i : grid0.Coords) : BitVec 1 :=
  let arg1 : BitVec 32 := BitVec.ofNat 32 (i 1).val
  let c0_i32_16 : BitVec 32 := 0#32
  let v24 : BitVec 1 := Scalar.cmpi .sgt arg1 c0_i32_16
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1408x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4224x1024 : Shape := ⟨2, ![4224, 1024]⟩
abbrev S1024x2816 : Shape := ⟨2, ![1024, 2816]⟩
abbrev S2816x1024 : Shape := ⟨2, ![2816, 1024]⟩
abbrev S4224x2816 : Shape := ⟨2, ![4224, 2816]⟩
abbrev S_ : Shape := ⟨0, ![]⟩
abbrev S4224x4x704 : Shape := ⟨3, ![4224, 4, 704]⟩
abbrev S4x4224x704 : Shape := ⟨3, ![4, 4224, 704]⟩

abbrev nBuf : Space → Nat
  | .hbm => 25
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4224x2816, .f32⟩
  | .hbm, ⟨5, _⟩ => ⟨S4224x2816, .f32⟩
  | .hbm, ⟨6, _⟩ => ⟨S4224x2816, .f32⟩
  | .hbm, ⟨7, _⟩ => ⟨S_, .f32⟩
  | .hbm, ⟨8, _⟩ => ⟨S4224x2816, .f32⟩
  | .hbm, ⟨9, _⟩ => ⟨S4224x2816, .f32⟩
  | .hbm, ⟨10, _⟩ => ⟨S_, .f32⟩
  | .hbm, ⟨11, _⟩ => ⟨S4224x2816, .f32⟩
  | .hbm, ⟨12, _⟩ => ⟨S4224x2816, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x1024, .f32⟩
  | .hbm, ⟨17, _⟩ => ⟨S4224x2816, .f32⟩
  | .hbm, ⟨18, _⟩ => ⟨S4224x4x704, .f32⟩
  | .hbm, ⟨19, _⟩ => ⟨S4x4224x704, .f32⟩
  | .hbm, ⟨20, _⟩ => ⟨S4x4224x704, .bf16⟩
  | .hbm, ⟨21, _⟩ => ⟨S4224x2816, .f32⟩
  | .hbm, ⟨22, _⟩ => ⟨S4224x4x704, .f32⟩
  | .hbm, ⟨23, _⟩ => ⟨S4x4224x704, .f32⟩
  | .hbm, ⟨24, _⟩ => ⟨S4x4224x704, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel3.lean ====
abbrev S4224x1024 : Shape := ⟨2, ![4224, 1024]⟩
abbrev S1024x2816 : Shape := ⟨2, ![1024, 2816]⟩
abbrev S2816x1024 : Shape := ⟨2, ![2816, 1024]⟩
abbrev S4224x2816 : Shape := ⟨2, ![4224, 2816]⟩
abbrev S4224x4x704 : Shape := ⟨3, ![4224, 4, 704]⟩
abbrev S4x4224x704 : Shape := ⟨3, ![4, 4224, 704]⟩
abbrev S4x704x1024 : Shape := ⟨3, ![4, 704, 1024]⟩
abbrev S704x1024 : Shape := ⟨2, ![704, 1024]⟩
abbrev S1x704x704 : Shape := ⟨3, ![1, 704, 704]⟩
abbrev S1x704x1024 : Shape := ⟨3, ![1, 704, 1024]⟩
abbrev S1x176x704 : Shape := ⟨3, ![1, 176, 704]⟩
abbrev S176x704 : Shape := ⟨2, ![176, 704]⟩
abbrev S176x1024 : Shape := ⟨2, ![176, 1024]⟩

abbrev nBuf : Space → Nat
  | .hbm => 26
  | .vmem => 20
  | .smem => 0
  | _ => 0

abbrev bufTy : (tb : Table) → Fin (tcTables nBuf tb) → BufTy
  | .hbm, ⟨0, _⟩ => ⟨S4224x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4224x1024, .f32⟩
  | .hbm, ⟨5, _⟩ => ⟨S4224x2816, .f32⟩
  | .hbm, ⟨6, _⟩ => ⟨S4224x4x704, .f32⟩
  | .hbm, ⟨7, _⟩ => ⟨S4x4224x704, .f32⟩
  | .hbm, ⟨8, _⟩ => ⟨S4x4224x704, .bf16⟩
  | .hbm, ⟨9, _⟩ => ⟨S4224x2816, .f32⟩
  | .hbm, ⟨10, _⟩ => ⟨S4224x4x704, .f32⟩
  | .hbm, ⟨11, _⟩ => ⟨S4x4224x704, .f32⟩
  | .hbm, ⟨12, _⟩ => ⟨S4x4224x704, .bf16⟩
  | .hbm, ⟨13, _⟩ => ⟨S4224x1024, .bf16⟩
  | .hbm, ⟨14, _⟩ => ⟨S2816x1024, .f32⟩
  | .hbm, ⟨15, _⟩ => ⟨S4x704x1024, .f32⟩
  | .hbm, ⟨16, _⟩ => ⟨S4x704x1024, .bf16⟩
  | .hbm, ⟨17, _⟩ => ⟨S2816x1024, .f32⟩
  | .hbm, ⟨18, _⟩ => ⟨S4x704x1024, .f32⟩
  | .hbm, ⟨19, _⟩ => ⟨S4x704x1024, .bf16⟩
  | .hbm, ⟨20, _⟩ => ⟨S4x704x1024, .f32⟩
  | .hbm, ⟨21, _⟩ => ⟨S4x704x1024, .bf16⟩
  | .hbm, ⟨22, _⟩ => ⟨S4224x1024, .f32⟩
  | .hbm, ⟨23, _⟩ => ⟨S4x4224x704, .bf16⟩
  | .hbm, ⟨24, _⟩ => ⟨S4x4224x704, .bf16⟩
  | .hbm, ⟨25, _⟩ => ⟨S4x4224x704, .bf16⟩
  | .local _ .vmem, ⟨0, _⟩ => ⟨S704x1024, .bf16⟩
  | .local _ .vmem, ⟨1, _⟩ => ⟨S704x1024, .bf16⟩
  | .local _ .vmem, ⟨2, _⟩ => ⟨S1x704x704, .bf16⟩
  | .local _ .vmem, ⟨3, _⟩ => ⟨S1x704x704, .bf16⟩
  | .local _ .vmem, ⟨4, _⟩ => ⟨S1x704x704, .bf16⟩
  | .local _ .vmem, ⟨5, _⟩ => ⟨S1x704x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x704x1024, .bf16⟩
  | .local _ .vmem, ⟨11, _⟩ => ⟨S1x704x1024, .bf16⟩
  | .local _ .vmem, ⟨12, _⟩ => ⟨S704x1024, .f32⟩
  | .local _ .vmem, ⟨13, _⟩ => ⟨S704x1024, .f32⟩
  | .local _ .vmem, ⟨14, _⟩ => ⟨S1x704x704, .bf16⟩
  | .local _ .vmem, ⟨15, _⟩ => ⟨S1x704x704, .bf16⟩
  | .local _ .vmem, ⟨16, _⟩ => ⟨S1x704x704, .bf16⟩
  | .local _ .vmem, ⟨17, _⟩ => ⟨S1x704x704, .bf16⟩
  | .local _ .vmem, ⟨18, _⟩ => ⟨S1x704x704, .bf16⟩
  | .local _ .vmem, ⟨19, _⟩ => ⟨S1x704x704, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x704x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4224x1024 : Shape := ⟨2, ![4224, 1024]⟩
abbrev S1024x2816 : Shape := ⟨2, ![1024, 2816]⟩
abbrev S2816x1024 : Shape := ⟨2, ![2816, 1024]⟩
abbrev S4224x2816 : Shape := ⟨2, ![4224, 2816]⟩
abbrev S_ : Shape := ⟨0, ![]⟩
abbrev S4224x4x704 : Shape := ⟨3, ![4224, 4, 704]⟩
abbrev S4x4224x704 : Shape := ⟨3, ![4, 4224, 704]⟩

abbrev nBuf : Space → Nat
  | .hbm => 75
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S_, .f32⟩
  | .hbm, ⟨9, _⟩ => ⟨S4224x2816, .f32⟩
  | .hbm, ⟨10, _⟩ => ⟨S4224x2816, .f32⟩
  | .hbm, ⟨11, _⟩ => ⟨S_, .f32⟩
  | .hbm, ⟨12, _⟩ => ⟨S4224x2816, .f32⟩
  | .hbm, ⟨13, _⟩ => ⟨S4224x2816, .f32⟩
  | .hbm, ⟨14, _⟩ => ⟨S_, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x1024, .f32⟩
  | .hbm, ⟨26, _⟩ => ⟨S4224x2816, .f32⟩
  | .hbm, ⟨27, _⟩ => ⟨S4224x2816, .f32⟩
  | .hbm, ⟨28, _⟩ => ⟨S4224x2816, .f32⟩
  | .hbm, ⟨29, _⟩ => ⟨S4224x2816, .f32⟩
  | .hbm, ⟨30, _⟩ => ⟨S4224x1024, .f32⟩
  | .hbm, ⟨31, _⟩ => ⟨S4224x1024, .f32⟩
  | .hbm, ⟨32, _⟩ => ⟨S4224x2816, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S_, .f32⟩
  | .hbm, ⟨37, _⟩ => ⟨S4224x2816, .f32⟩
  | .hbm, ⟨38, _⟩ => ⟨S4224x2816, .f32⟩
  | .hbm, ⟨39, _⟩ => ⟨S_, .f32⟩
  | .hbm, ⟨40, _⟩ => ⟨S4224x2816, .f32⟩
  | .hbm, ⟨41, _⟩ => ⟨S4224x2816, .f32⟩
  | .hbm, ⟨42, _⟩ => ⟨S_, .f32⟩
  | .hbm, ⟨43, _⟩ => ⟨S4224x2816, .f32⟩
  | .hbm, ⟨44, _⟩ => ⟨S4224x2816, .f32⟩
  | .hbm, ⟨45, _⟩ => ⟨S4224x2816, .f32⟩
  | .hbm, ⟨46, _⟩ => ⟨S4224x2816, .f32⟩
  | .hbm, ⟨47, _⟩ => ⟨S4224x2816, .f32⟩
  | .hbm, ⟨48, _⟩ => ⟨S4224x1024, .f32⟩
  | .hbm, ⟨49, _⟩ => ⟨S4224x2816, .f32⟩
  | .hbm, ⟨50, _⟩ => ⟨S4224x2816, .f32⟩
  | .hbm, ⟨51, _⟩ => ⟨S4224x2816, .f32⟩
  | .hbm, ⟨52, _⟩ => ⟨S4224x2816, .f32⟩
  | .hbm, ⟨53, _⟩ => ⟨S4224x2816, .f32⟩
  | .hbm, ⟨54, _⟩ => ⟨S4224x2816, .f32⟩
  | .hbm, ⟨55, _⟩ => ⟨S4224x2816, .f32⟩
  | .hbm, ⟨56, _⟩ => ⟨S4224x4x704, .f32⟩
  | .hbm, ⟨57, _⟩ => ⟨S4x4224x704, .f32⟩
  | .hbm, ⟨58, _⟩ => ⟨S4x4224x704, .bf16⟩
  | .hbm, ⟨59, _⟩ => ⟨S4224x4x704, .f32⟩
  | .hbm, ⟨60, _⟩ => ⟨S4x4224x704, .f32⟩
  | .hbm, ⟨61, _⟩ => ⟨S4x4224x704, .bf16⟩
  | .hbm, ⟨62, _⟩ => ⟨S4224x2816, .f32⟩
  | .hbm, ⟨63, _⟩ => ⟨S4224x2816, .f32⟩
  | .hbm, ⟨64, _⟩ => ⟨S_, .f32⟩
  | .hbm, ⟨65, _⟩ => ⟨S4224x2816, .f32⟩
  | .hbm, ⟨66, _⟩ => ⟨S4224x2816, .f32⟩
  | .hbm, ⟨67, _⟩ => ⟨S_, .f32⟩
  | .hbm, ⟨68, _⟩ => ⟨S4224x2816, .f32⟩
  | .hbm, ⟨69, _⟩ => ⟨S4224x2816, .f32⟩
  | .hbm, ⟨70, _⟩ => ⟨S4224x2816, .f32⟩
  | .hbm, ⟨71, _⟩ => ⟨S4224x2816, .f32⟩
  | .hbm, ⟨72, _⟩ => ⟨S4224x4x704, .f32⟩
  | .hbm, ⟨73, _⟩ => ⟨S4x4224x704, .f32⟩
  | .hbm, ⟨74, _⟩ => ⟨S4x4224x704, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call2_v0 : Ref sig .tc := ⟨.hbm, 34, rfl⟩
abbrev main_call2_v1 : Ref sig .tc := ⟨.hbm, 35, rfl⟩
abbrev main_call2_cst : Ref sig .tc := ⟨.hbm, 36, rfl⟩
abbrev main_call2_v2 : Ref sig .tc := ⟨.hbm, 37, rfl⟩
abbrev main_call2_v3 : Ref sig .tc := ⟨.hbm, 38, rfl⟩
abbrev main_call2_cst_0 : Ref sig .tc := ⟨.hbm, 39, rfl⟩
abbrev main_call2_v4 : Ref sig .tc := ⟨.hbm, 40, rfl⟩
abbrev main_v14_2 : Ref sig .tc := ⟨.hbm, 41, rfl⟩
abbrev main_call2_cst_1 : Ref sig .tc := ⟨.hbm, 42, rfl⟩
abbrev main_call2_v6 : Ref sig .tc := ⟨.hbm, 43, rfl⟩
abbrev main_call2_v7 : Ref sig .tc := ⟨.hbm, 44, rfl⟩
abbrev main_v14_1 : Ref sig .tc := ⟨.hbm, 45, rfl⟩
abbrev main_v14_0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call4_v0 : Ref sig .tc := ⟨.hbm, 62, rfl⟩
abbrev main_call4_v1 : Ref sig .tc := ⟨.hbm, 63, rfl⟩
abbrev main_call4_cst : Ref sig .tc := ⟨.hbm, 64, rfl⟩
abbrev main_call4_v2 : Ref sig .tc := ⟨.hbm, 65, rfl⟩
abbrev main_call4_v3 : Ref sig .tc := ⟨.hbm, 66, rfl⟩
abbrev main_call4_cst_0 : Ref sig .tc := ⟨.hbm, 67, rfl⟩
abbrev main_call4_v4 : Ref sig .tc := ⟨.hbm, 68, rfl⟩
abbrev main_call4_v5 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩

abbrev nD : Nat := 1
abbrev τ : Topo := Topo.v7x

variable {F : FTy → Type} [FloatOps F]
-- ==== Kernel4.lean ====
abbrev S4224x1024 : Shape := ⟨2, ![4224, 1024]⟩
abbrev S1024x2816 : Shape := ⟨2, ![1024, 2816]⟩
abbrev S2816x1024 : Shape := ⟨2, ![2816, 1024]⟩
abbrev S4224x2816 : Shape := ⟨2, ![4224, 2816]⟩
abbrev S_ : Shape := ⟨0, ![]⟩
abbrev S4224x4x704 : Shape := ⟨3, ![4224, 4, 704]⟩
abbrev S4x4224x704 : Shape := ⟨3, ![4, 4224, 704]⟩
abbrev S4x704x1024 : Shape := ⟨3, ![4, 704, 1024]⟩
abbrev S1408x1024 : Shape := ⟨2, ![1408, 1024]⟩
abbrev S1x1408x704 : Shape := ⟨3, ![1, 1408, 704]⟩
abbrev S1x704x1024 : Shape := ⟨3, ![1, 704, 1024]⟩
abbrev S704x1024 : Shape := ⟨2, ![704, 1024]⟩
abbrev S1408x704 : Shape := ⟨2, ![1408, 704]⟩

abbrev nBuf : Space → Nat
  | .hbm => 43
  | .vmem => 19
  | .smem => 0
  | _ => 0

abbrev bufTy : (tb : Table) → Fin (tcTables nBuf tb) → BufTy
  | .hbm, ⟨0, _⟩ => ⟨S4224x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S_, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S1024x2816, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S4224x2816, .f32⟩
  | .hbm, ⟨28, _⟩ => ⟨S4224x2816, .f32⟩
  | .hbm, ⟨29, _⟩ => ⟨S4224x1024, .bf16⟩
  | .hbm, ⟨30, _⟩ => ⟨S4224x1024, .bf16⟩
  | .hbm, ⟨31, _⟩ => ⟨S4224x4x704, .f32⟩
  | .hbm, ⟨32, _⟩ => ⟨S4x4224x704, .f32⟩
  | .hbm, ⟨33, _⟩ => ⟨S4x4224x704, .bf16⟩
  | .hbm, ⟨34, _⟩ => ⟨S4224x4x704, .f32⟩
  | .hbm, ⟨35, _⟩ => ⟨S4x4224x704, .f32⟩
  | .hbm, ⟨36, _⟩ => ⟨S4x4224x704, .bf16⟩
  | .hbm, ⟨37, _⟩ => ⟨S4224x4x704, .f32⟩
  | .hbm, ⟨38, _⟩ => ⟨S4x4224x704, .f32⟩
  | .hbm, ⟨39, _⟩ => ⟨S4x4224x704, .bf16⟩
  | .hbm, ⟨40, _⟩ => ⟨S4x704x1024, .bf16⟩
  | .hbm, ⟨41, _⟩ => ⟨S4x704x1024, .bf16⟩
  | .hbm, ⟨42, _⟩ => ⟨S4x704x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1x1408x704, .bf16⟩
  | .local _ .vmem, ⟨5, _⟩ => ⟨S1x1408x704, .bf16⟩
  | .local _ .vmem, ⟨6, _⟩ => ⟨S1x1408x704, .bf16⟩
  | .local _ .vmem, ⟨7, _⟩ => ⟨S1x1408x704, .bf16⟩
  | .local _ .vmem, ⟨8, _⟩ => ⟨S1x1408x704, .bf16⟩
  | .local _ .vmem, ⟨9, _⟩ => ⟨S1x1408x704, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S704x1024, .f32⟩
  | .local _ .vmem, ⟨17, _⟩ => ⟨S704x1024, .f32⟩
  | .local _ .vmem, ⟨18, _⟩ => ⟨S704x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 3], ![false, false]⟩

def k0_cond3 (i : grid0.Coords) : BitVec 1 :=
  let arg1 : BitVec 32 := BitVec.ofNat 32 (i 1).val
  let c2_i32 : BitVec 32 := 2#32
  let v19 : BitVec 1 := Scalar.cmpi .eq arg1 c2_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1408x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S4224x1024 : Shape := ⟨2, ![4224, 1024]⟩
abbrev S1024x2816 : Shape := ⟨2, ![1024, 2816]⟩
abbrev S2816x1024 : Shape := ⟨2, ![2816, 1024]⟩
abbrev S4224x2816 : Shape := ⟨2, ![4224, 2816]⟩
abbrev S_ : Shape := ⟨0, ![]⟩
abbrev S4x704x1024 : Shape := ⟨3, ![4, 704, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S_, .f32⟩
  | .hbm, ⟨9, _⟩ => ⟨S4224x2816, .f32⟩
  | .hbm, ⟨10, _⟩ => ⟨S4224x2816, .f32⟩
  | .hbm, ⟨11, _⟩ => ⟨S_, .f32⟩
  | .hbm, ⟨12, _⟩ => ⟨S4224x2816, .f32⟩
  | .hbm, ⟨13, _⟩ => ⟨S4224x2816, .f32⟩
  | .hbm, ⟨14, _⟩ => ⟨S_, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S4224x1024, .f32⟩
  | .hbm, ⟨22, _⟩ => ⟨S1024x2816, .f32⟩
  | .hbm, ⟨23, _⟩ => ⟨S2816x1024, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S2816x1024, .f32⟩
  | .hbm, ⟨28, _⟩ => ⟨S1024x2816, .f32⟩
  | .hbm, ⟨29, _⟩ => ⟨S4224x2816, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S2816x1024, .f32⟩
  | .hbm, ⟨34, _⟩ => ⟨S1024x2816, .f32⟩
  | .hbm, ⟨35, _⟩ => ⟨S2816x1024, .f32⟩
  | .hbm, ⟨36, _⟩ => ⟨S4x704x1024, .f32⟩
  | .hbm, ⟨37, _⟩ => ⟨S4x704x1024, .bf16⟩
  | .hbm, ⟨38, _⟩ => ⟨S2816x1024, .f32⟩
  | .hbm, ⟨39, _⟩ => ⟨S4x704x1024, .f32⟩
  | .hbm, ⟨40, _⟩ => ⟨S4x704x1024, .bf16⟩
  | .hbm, ⟨41, _⟩ => ⟨S4x704x1024, .f32⟩
  | .hbm, ⟨42, _⟩ => ⟨S4x704x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel5.lean ====
abbrev S4224x1024 : Shape := ⟨2, ![4224, 1024]⟩
abbrev S1024x3088 : Shape := ⟨2, ![1024, 3088]⟩
abbrev S4224x3088 : Shape := ⟨2, ![4224, 3088]⟩
abbrev S_ : Shape := ⟨0, ![]⟩
abbrev S4224x3584 : Shape := ⟨2, ![4224, 3584]⟩
abbrev S3584x1024 : Shape := ⟨2, ![3584, 1024]⟩
abbrev S4224x512 : Shape := ⟨2, ![4224, 512]⟩
abbrev S512x512 : Shape := ⟨2, ![512, 512]⟩

abbrev nBuf : Space → Nat
  | .hbm => 9
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x3088, .f32⟩
  | .hbm, ⟨2, _⟩ => ⟨S4224x3088, .f32⟩
  | .hbm, ⟨3, _⟩ => ⟨S_, .i32⟩
  | .hbm, ⟨4, _⟩ => ⟨S_, .f32⟩
  | .hbm, ⟨5, _⟩ => ⟨S4224x3584, .f32⟩
  | .hbm, ⟨6, _⟩ => ⟨S4224x3584, .bf16⟩
  | .hbm, ⟨7, _⟩ => ⟨S4224x1024, .bf16⟩
  | .hbm, ⟨8, _⟩ => ⟨S3584x1024, .f32⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S512x512, .f32⟩
  | .local _ .vmem, ⟨5, _⟩ => ⟨S512x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4224x1024 : Shape := ⟨2, ![4224, 1024]⟩
abbrev S1024x3088 : Shape := ⟨2, ![1024, 3088]⟩
abbrev S4224x3088 : Shape := ⟨2, ![4224, 3088]⟩
abbrev S3088x1024 : Shape := ⟨2, ![3088, 1024]⟩
abbrev S_ : Shape := ⟨0, ![]⟩
abbrev S3584x1024 : Shape := ⟨2, ![3584, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x3088, .f32⟩
  | .hbm, ⟨2, _⟩ => ⟨S4224x3088, .f32⟩
  | .hbm, ⟨3, _⟩ => ⟨S4224x3088, .f32⟩
  | .hbm, ⟨4, _⟩ => ⟨S3088x1024, .f32⟩
  | .hbm, ⟨5, _⟩ => ⟨S1024x3088, .f32⟩
  | .hbm, ⟨6, _⟩ => ⟨S4224x1024, .f32⟩
  | .hbm, ⟨7, _⟩ => ⟨S3088x1024, .f32⟩
  | .hbm, ⟨8, _⟩ => ⟨S_, .i32⟩
  | .hbm, ⟨9, _⟩ => ⟨S_, .f32⟩
  | .hbm, ⟨10, _⟩ => ⟨S3584x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel6.lean ====
abbrev S4224x1024 : Shape := ⟨2, ![4224, 1024]⟩
abbrev S1024x3088 : Shape := ⟨2, ![1024, 3088]⟩
abbrev S4224x3088 : Shape := ⟨2, ![4224, 3088]⟩
abbrev S_ : Shape := ⟨0, ![]⟩
abbrev S4224x3584 : Shape := ⟨2, ![4224, 3584]⟩
abbrev S3088x1024 : Shape := ⟨2, ![3088, 1024]⟩
abbrev S3584x1024 : Shape := ⟨2, ![3584, 1024]⟩
abbrev S704x3584 : Shape := ⟨2, ![704, 3584]⟩
abbrev S3584x512 : Shape := ⟨2, ![3584, 512]⟩
abbrev S704x512 : Shape := ⟨2, ![704, 512]⟩

abbrev nBuf : Space → Nat
  | .hbm => 13
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x3088, .f32⟩
  | .hbm, ⟨2, _⟩ => ⟨S4224x3088, .f32⟩
  | .hbm, ⟨3, _⟩ => ⟨S_, .i32⟩
  | .hbm, ⟨4, _⟩ => ⟨S_, .f32⟩
  | .hbm, ⟨5, _⟩ => ⟨S4224x3584, .f32⟩
  | .hbm, ⟨6, _⟩ => ⟨S4224x3584, .bf16⟩
  | .hbm, ⟨7, _⟩ => ⟨S3088x1024, .f32⟩
  | .hbm, ⟨8, _⟩ => ⟨S_, .i32⟩
  | .hbm, ⟨9, _⟩ => ⟨S_, .f32⟩
  | .hbm, ⟨10, _⟩ => ⟨S3584x1024, .f32⟩
  | .hbm, ⟨11, _⟩ => ⟨S3584x1024, .bf16⟩
  | .hbm, ⟨12, _⟩ => ⟨S4224x1024, .f32⟩
  | .local _ .vmem, ⟨0, _⟩ => ⟨S704x3584, .bf16⟩
  | .local _ .vmem, ⟨1, _⟩ => ⟨S704x3584, .bf16⟩
  | .local _ .vmem, ⟨2, _⟩ => ⟨S3584x512, .bf16⟩
  | .local _ .vmem, ⟨3, _⟩ => ⟨S3584x512, .bf16⟩
  | .local _ .vmem, ⟨4, _⟩ => ⟨S704x512, .f32⟩
  | .local _ .vmem, ⟨5, _⟩ => ⟨S704x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3584x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4224x1024 : Shape := ⟨2, ![4224, 1024]⟩
abbrev S1024x3088 : Shape := ⟨2, ![1024, 3088]⟩
abbrev S4224x3088 : Shape := ⟨2, ![4224, 3088]⟩
abbrev S3088x1024 : Shape := ⟨2, ![3088, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x3088, .f32⟩
  | .hbm, ⟨2, _⟩ => ⟨S4224x3088, .f32⟩
  | .hbm, ⟨3, _⟩ => ⟨S4224x3088, .f32⟩
  | .hbm, ⟨4, _⟩ => ⟨S3088x1024, .f32⟩
  | .hbm, ⟨5, _⟩ => ⟨S1024x3088, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4224x1024 : Shape := ⟨2, ![4224, 1024]⟩
abbrev S1024x3088 : Shape := ⟨2, ![1024, 3088]⟩
abbrev S3088x1024 : Shape := ⟨2, ![3088, 1024]⟩
abbrev S_ : Shape := ⟨0, ![]⟩
abbrev S3584x1024 : Shape := ⟨2, ![3584, 1024]⟩
abbrev S4224x3584 : Shape := ⟨2, ![4224, 3584]⟩
abbrev S1408x1024 : Shape := ⟨2, ![1408, 1024]⟩
abbrev S896x1024 : Shape := ⟨2, ![896, 1024]⟩
abbrev S1408x896 : Shape := ⟨2, ![1408, 896]⟩

abbrev nBuf : Space → Nat
  | .hbm => 9
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x3088, .f32⟩
  | .hbm, ⟨2, _⟩ => ⟨S4224x1024, .bf16⟩
  | .hbm, ⟨3, _⟩ => ⟨S3088x1024, .f32⟩
  | .hbm, ⟨4, _⟩ => ⟨S_, .i32⟩
  | .hbm, ⟨5, _⟩ => ⟨S_, .f32⟩
  | .hbm, ⟨6, _⟩ => ⟨S3584x1024, .f32⟩
  | .hbm, ⟨7, _⟩ => ⟨S3584x1024, .bf16⟩
  | .hbm, ⟨8, _⟩ => ⟨S4224x3584, .f32⟩
  | .local _ .vmem, ⟨0, _⟩ => ⟨S1408x1024, .bf16⟩
  | .local _ .vmem, ⟨1, _⟩ => ⟨S1408x1024, .bf16⟩
  | .local _ .vmem, ⟨2, _⟩ => ⟨S896x1024, .bf16⟩
  | .local _ .vmem, ⟨3, _⟩ => ⟨S896x1024, .bf16⟩
  | .local _ .vmem, ⟨4, _⟩ => ⟨S1408x896, .f32⟩
  | .local _ .vmem, ⟨5, _⟩ => ⟨S1408x896, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4224x1024 : Shape := ⟨2, ![4224, 1024]⟩
abbrev S1024x3088 : Shape := ⟨2, ![1024, 3088]⟩
abbrev S4224x3088 : Shape := ⟨2, ![4224, 3088]⟩
abbrev S_ : Shape := ⟨0, ![]⟩
abbrev S4224x3584 : Shape := ⟨2, ![4224, 3584]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x3088, .f32⟩
  | .hbm, ⟨2, _⟩ => ⟨S4224x3088, .f32⟩
  | .hbm, ⟨3, _⟩ => ⟨S_, .i32⟩
  | .hbm, ⟨4, _⟩ => ⟨S_, .f32⟩
  | .hbm, ⟨5, _⟩ => ⟨S4224x3584, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel8.lean ====
abbrev S4224x1024 : Shape := ⟨2, ![4224, 1024]⟩
abbrev S1024x1024 : Shape := ⟨2, ![1024, 1024]⟩
abbrev S4224x512 : Shape := ⟨2, ![4224, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | .hbm, ⟨4, _⟩ => ⟨S4224x1024, .bf16⟩
  | .hbm, ⟨5, _⟩ => ⟨S1024x1024, .f32⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S512x512, .f32⟩
  | .local _ .vmem, ⟨5, _⟩ => ⟨S512x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | .hbm, ⟨4, _⟩ => ⟨S1024x1024, .bf16⟩
  | .hbm, ⟨5, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4224x1024 : Shape := ⟨2, ![4224, 1024]⟩
abbrev S1024x1024 : Shape := ⟨2, ![1024, 1024]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .bf16⟩
  | .hbm, ⟨3, _⟩ => ⟨S1024x1024, .bf16⟩
  | .hbm, ⟨4, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4224x1024 : Shape := ⟨2, ![4224, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S4224x1024 : Shape := ⟨2, ![4224, 1024]⟩
abbrev S1024x2824 : Shape := ⟨2, ![1024, 2824]⟩
abbrev S4224x2824 : Shape := ⟨2, ![4224, 2824]⟩
abbrev S4224x768 : Shape := ⟨2, ![4224, 768]⟩
abbrev S4224x12x64 : Shape := ⟨3, ![4224, 12, 64]⟩
abbrev S_ : Shape := ⟨0, ![]⟩
abbrev S4224x12x128 : Shape := ⟨3, ![4224, 12, 128]⟩
abbrev S4224x1536 : Shape := ⟨2, ![4224, 1536]⟩
abbrev S4224x2048 : Shape := ⟨2, ![4224, 2048]⟩
abbrev S4224x8 : Shape := ⟨2, ![4224, 8]⟩
abbrev S4224x512 : Shape := ⟨2, ![4224, 512]⟩
abbrev S4224x4096 : Shape := ⟨2, ![4224, 4096]⟩
abbrev S4096x1024 : Shape := ⟨2, ![4096, 1024]⟩
abbrev S512x512 : Shape := ⟨2, ![512, 512]⟩

abbrev nBuf : Space → Nat
  | .hbm => 18
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x2824, .f32⟩
  | .hbm, ⟨2, _⟩ => ⟨S4224x2824, .f32⟩
  | .hbm, ⟨3, _⟩ => ⟨S4224x768, .f32⟩
  | .hbm, ⟨4, _⟩ => ⟨S4224x12x64, .f32⟩
  | .hbm, ⟨5, _⟩ => ⟨S_, .i32⟩
  | .hbm, ⟨6, _⟩ => ⟨S_, .f32⟩
  | .hbm, ⟨7, _⟩ => ⟨S4224x12x128, .f32⟩
  | .hbm, ⟨8, _⟩ => ⟨S4224x1536, .f32⟩
  | .hbm, ⟨9, _⟩ => ⟨S4224x2048, .f32⟩
  | .hbm, ⟨10, _⟩ => ⟨S4224x8, .f32⟩
  | .hbm, ⟨11, _⟩ => ⟨S_, .i32⟩
  | .hbm, ⟨12, _⟩ => ⟨S_, .f32⟩
  | .hbm, ⟨13, _⟩ => ⟨S4224x512, .f32⟩
  | .hbm, ⟨14, _⟩ => ⟨S4224x4096, .f32⟩
  | .hbm, ⟨15, _⟩ => ⟨S4224x4096, .bf16⟩
  | .hbm, ⟨16, _⟩ => ⟨S4224x1024, .bf16⟩
  | .hbm, ⟨17, _⟩ => ⟨S4096x1024, .f32⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S512x512, .f32⟩
  | .local _ .vmem, ⟨5, _⟩ => ⟨S512x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4224x1024 : Shape := ⟨2, ![4224, 1024]⟩
abbrev S1024x2824 : Shape := ⟨2, ![1024, 2824]⟩
abbrev S4224x2824 : Shape := ⟨2, ![4224, 2824]⟩
abbrev S2824x1024 : Shape := ⟨2, ![2824, 1024]⟩
abbrev S1024x768 : Shape := ⟨2, ![1024, 768]⟩
abbrev S1024x12x64 : Shape := ⟨3, ![1024, 12, 64]⟩
abbrev S_ : Shape := ⟨0, ![]⟩
abbrev S1024x12x128 : Shape := ⟨3, ![1024, 12, 128]⟩
abbrev S1024x1536 : Shape := ⟨2, ![1024, 1536]⟩
abbrev S1024x2056 : Shape := ⟨2, ![1024, 2056]⟩
abbrev S1024x504 : Shape := ⟨2, ![1024, 504]⟩
abbrev S1024x4096 : Shape := ⟨2, ![1024, 4096]⟩
abbrev S4096x1024 : Shape := ⟨2, ![4096, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2824, .f32⟩
  | .hbm, ⟨2, _⟩ => ⟨S4224x2824, .f32⟩
  | .hbm, ⟨3, _⟩ => ⟨S4224x2824, .f32⟩
  | .hbm, ⟨4, _⟩ => ⟨S2824x1024, .f32⟩
  | .hbm, ⟨5, _⟩ => ⟨S1024x2824, .f32⟩
  | .hbm, ⟨6, _⟩ => ⟨S4224x1024, .f32⟩
  | .hbm, ⟨7, _⟩ => ⟨S1024x768, .f32⟩
  | .hbm, ⟨8, _⟩ => ⟨S1024x12x64, .f32⟩
  | .hbm, ⟨9, _⟩ => ⟨S_, .f32⟩
  | .hbm, ⟨10, _⟩ => ⟨S1024x12x64, .f32⟩
  | .hbm, ⟨11, _⟩ => ⟨S1024x12x128, .f32⟩
  | .hbm, ⟨12, _⟩ => ⟨S1024x1536, .f32⟩
  | .hbm, ⟨13, _⟩ => ⟨S1024x2056, .f32⟩
  | .hbm, ⟨14, _⟩ => ⟨S1024x504, .f32⟩
  | .hbm, ⟨15, _⟩ => ⟨S_, .f32⟩
  | .hbm, ⟨16, _⟩ => ⟨S1024x504, .f32⟩
  | .hbm, ⟨17, _⟩ => ⟨S1024x4096, .f32⟩
  | .hbm, ⟨18, _⟩ => ⟨S4096x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S4224x1024 : Shape := ⟨2, ![4224, 1024]⟩
abbrev S1024x2824 : Shape := ⟨2, ![1024, 2824]⟩
abbrev S4224x2824 : Shape := ⟨2, ![4224, 2824]⟩
abbrev S4224x768 : Shape := ⟨2, ![4224, 768]⟩
abbrev S4224x12x64 : Shape := ⟨3, ![4224, 12, 64]⟩
abbrev S_ : Shape := ⟨0, ![]⟩
abbrev S4224x12x128 : Shape := ⟨3, ![4224, 12, 128]⟩
abbrev S4224x1536 : Shape := ⟨2, ![4224, 1536]⟩
abbrev S4224x2048 : Shape := ⟨2, ![4224, 2048]⟩
abbrev S4224x8 : Shape := ⟨2, ![4224, 8]⟩
abbrev S4224x512 : Shape := ⟨2, ![4224, 512]⟩
abbrev S4224x4096 : Shape := ⟨2, ![4224, 4096]⟩
abbrev S1024x768 : Shape := ⟨2, ![1024, 768]⟩
abbrev S1024x12x64 : Shape := ⟨3, ![1024, 12, 64]⟩
abbrev S1024x12x128 : Shape := ⟨3, ![1024, 12, 128]⟩
abbrev S1024x1536 : Shape := ⟨2, ![1024, 1536]⟩
abbrev S1024x2048 : Shape := ⟨2, ![1024, 2048]⟩
abbrev S1024x8 : Shape := ⟨2, ![1024, 8]⟩
abbrev S1024x512 : Shape := ⟨2, ![1024, 512]⟩
abbrev S1024x4096 : Shape := ⟨2, ![1024, 4096]⟩
abbrev S4096x1024 : Shape := ⟨2, ![4096, 1024]⟩
abbrev S704x4096 : Shape := ⟨2, ![704, 4096]⟩
abbrev S4096x512 : Shape := ⟨2, ![4096, 512]⟩
abbrev S704x512 : Shape := ⟨2, ![704, 512]⟩

abbrev nBuf : Space → Nat
  | .hbm => 31
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x2824, .f32⟩
  | .hbm, ⟨2, _⟩ => ⟨S4224x2824, .f32⟩
  | .hbm, ⟨3, _⟩ => ⟨S4224x768, .f32⟩
  | .hbm, ⟨4, _⟩ => ⟨S4224x12x64, .f32⟩
  | .hbm, ⟨5, _⟩ => ⟨S_, .i32⟩
  | .hbm, ⟨6, _⟩ => ⟨S_, .f32⟩
  | .hbm, ⟨7, _⟩ => ⟨S4224x12x128, .f32⟩
  | .hbm, ⟨8, _⟩ => ⟨S4224x1536, .f32⟩
  | .hbm, ⟨9, _⟩ => ⟨S4224x2048, .f32⟩
  | .hbm, ⟨10, _⟩ => ⟨S4224x8, .f32⟩
  | .hbm, ⟨11, _⟩ => ⟨S_, .i32⟩
  | .hbm, ⟨12, _⟩ => ⟨S_, .f32⟩
  | .hbm, ⟨13, _⟩ => ⟨S4224x512, .f32⟩
  | .hbm, ⟨14, _⟩ => ⟨S4224x4096, .f32⟩
  | .hbm, ⟨15, _⟩ => ⟨S4224x4096, .bf16⟩
  | .hbm, ⟨16, _⟩ => ⟨S1024x768, .f32⟩
  | .hbm, ⟨17, _⟩ => ⟨S1024x12x64, .f32⟩
  | .hbm, ⟨18, _⟩ => ⟨S_, .i32⟩
  | .hbm, ⟨19, _⟩ => ⟨S_, .f32⟩
  | .hbm, ⟨20, _⟩ => ⟨S1024x12x128, .f32⟩
  | .hbm, ⟨21, _⟩ => ⟨S1024x1536, .f32⟩
  | .hbm, ⟨22, _⟩ => ⟨S1024x2048, .f32⟩
  | .hbm, ⟨23, _⟩ => ⟨S1024x8, .f32⟩
  | .hbm, ⟨24, _⟩ => ⟨S_, .i32⟩
  | .hbm, ⟨25, _⟩ => ⟨S_, .f32⟩
  | .hbm, ⟨26, _⟩ => ⟨S1024x512, .f32⟩
  | .hbm, ⟨27, _⟩ => ⟨S1024x4096, .f32⟩
  | .hbm, ⟨28, _⟩ => ⟨S4096x1024, .f32⟩
  | .hbm, ⟨29, _⟩ => ⟨S4096x1024, .bf16⟩
  | .hbm, ⟨30, _⟩ => ⟨S4224x1024, .f32⟩
  | .local _ .vmem, ⟨0, _⟩ => ⟨S704x4096, .bf16⟩
  | .local _ .vmem, ⟨1, _⟩ => ⟨S704x4096, .bf16⟩
  | .local _ .vmem, ⟨2, _⟩ => ⟨S4096x512, .bf16⟩
  | .local _ .vmem, ⟨3, _⟩ => ⟨S4096x512, .bf16⟩
  | .local _ .vmem, ⟨4, _⟩ => ⟨S704x512, .f32⟩
  | .local _ .vmem, ⟨5, _⟩ => ⟨S704x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call3_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4224x1024 : Shape := ⟨2, ![4224, 1024]⟩
abbrev S1024x2824 : Shape := ⟨2, ![1024, 2824]⟩
abbrev S4224x2824 : Shape := ⟨2, ![4224, 2824]⟩
abbrev S2824x1024 : Shape := ⟨2, ![2824, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2824, .f32⟩
  | .hbm, ⟨2, _⟩ => ⟨S4224x2824, .f32⟩
  | .hbm, ⟨3, _⟩ => ⟨S4224x2824, .f32⟩
  | .hbm, ⟨4, _⟩ => ⟨S2824x1024, .f32⟩
  | .hbm, ⟨5, _⟩ => ⟨S1024x2824, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4224x1024 : Shape := ⟨2, ![4224, 1024]⟩
abbrev S1024x2824 : Shape := ⟨2, ![1024, 2824]⟩
abbrev S1024x768 : Shape := ⟨2, ![1024, 768]⟩
abbrev S1024x12x64 : Shape := ⟨3, ![1024, 12, 64]⟩
abbrev S_ : Shape := ⟨0, ![]⟩
abbrev S1024x12x128 : Shape := ⟨3, ![1024, 12, 128]⟩
abbrev S1024x1536 : Shape := ⟨2, ![1024, 1536]⟩
abbrev S1024x2048 : Shape := ⟨2, ![1024, 2048]⟩
abbrev S1024x8 : Shape := ⟨2, ![1024, 8]⟩
abbrev S1024x512 : Shape := ⟨2, ![1024, 512]⟩
abbrev S1024x4096 : Shape := ⟨2, ![1024, 4096]⟩
abbrev S4096x1024 : Shape := ⟨2, ![4096, 1024]⟩
abbrev S4224x4096 : Shape := ⟨2, ![4224, 4096]⟩
abbrev S1408x1024 : Shape := ⟨2, ![1408, 1024]⟩
abbrev S1024x1024 : Shape := ⟨2, ![1024, 1024]⟩

abbrev nBuf : Space → Nat
  | .hbm => 18
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x2824, .f32⟩
  | .hbm, ⟨2, _⟩ => ⟨S4224x1024, .bf16⟩
  | .hbm, ⟨3, _⟩ => ⟨S1024x768, .f32⟩
  | .hbm, ⟨4, _⟩ => ⟨S1024x12x64, .f32⟩
  | .hbm, ⟨5, _⟩ => ⟨S_, .i32⟩
  | .hbm, ⟨6, _⟩ => ⟨S_, .f32⟩
  | .hbm, ⟨7, _⟩ => ⟨S1024x12x128, .f32⟩
  | .hbm, ⟨8, _⟩ => ⟨S1024x1536, .f32⟩
  | .hbm, ⟨9, _⟩ => ⟨S1024x2048, .f32⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x512, .f32⟩
  | .hbm, ⟨14, _⟩ => ⟨S1024x4096, .f32⟩
  | .hbm, ⟨15, _⟩ => ⟨S4096x1024, .f32⟩
  | .hbm, ⟨16, _⟩ => ⟨S4096x1024, .bf16⟩
  | .hbm, ⟨17, _⟩ => ⟨S4224x4096, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S4224x1024 : Shape := ⟨2, ![4224, 1024]⟩
abbrev S1024x2824 : Shape := ⟨2, ![1024, 2824]⟩
abbrev S4224x2824 : Shape := ⟨2, ![4224, 2824]⟩
abbrev S4224x768 : Shape := ⟨2, ![4224, 768]⟩
abbrev S4224x12x64 : Shape := ⟨3, ![4224, 12, 64]⟩
abbrev S_ : Shape := ⟨0, ![]⟩
abbrev S4224x12x128 : Shape := ⟨3, ![4224, 12, 128]⟩
abbrev S4224x1536 : Shape := ⟨2, ![4224, 1536]⟩
abbrev S4224x2056 : Shape := ⟨2, ![4224, 2056]⟩
abbrev S4224x504 : Shape := ⟨2, ![4224, 504]⟩
abbrev S4224x4096 : Shape := ⟨2, ![4224, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x2824, .f32⟩
  | .hbm, ⟨2, _⟩ => ⟨S4224x2824, .f32⟩
  | .hbm, ⟨3, _⟩ => ⟨S4224x768, .f32⟩
  | .hbm, ⟨4, _⟩ => ⟨S4224x12x64, .f32⟩
  | .hbm, ⟨5, _⟩ => ⟨S_, .f32⟩
  | .hbm, ⟨6, _⟩ => ⟨S4224x12x64, .f32⟩
  | .hbm, ⟨7, _⟩ => ⟨S4224x12x128, .f32⟩
  | .hbm, ⟨8, _⟩ => ⟨S4224x1536, .f32⟩
  | .hbm, ⟨9, _⟩ => ⟨S4224x2056, .f32⟩
  | .hbm, ⟨10, _⟩ => ⟨S4224x504, .f32⟩
  | .hbm, ⟨11, _⟩ => ⟨S_, .f32⟩
  | .hbm, ⟨12, _⟩ => ⟨S4224x504, .f32⟩
  | .hbm, ⟨13, _⟩ => ⟨S4224x4096, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel14.lean ====
abbrev S4224x1024 : Shape := ⟨2, ![4224, 1024]⟩
abbrev S1024x1024 : Shape := ⟨2, ![1024, 1024]⟩
abbrev S4224x512 : Shape := ⟨2, ![4224, 512]⟩
abbrev S4224x8x64 : Shape := ⟨3, ![4224, 8, 64]⟩
abbrev S_ : Shape := ⟨0, ![]⟩
abbrev S4224x8x128 : Shape := ⟨3, ![4224, 8, 128]⟩
abbrev S4224x1536 : Shape := ⟨2, ![4224, 1536]⟩
abbrev S1536x1024 : Shape := ⟨2, ![1536, 1024]⟩
abbrev S512x512 : Shape := ⟨2, ![512, 512]⟩

abbrev nBuf : Space → Nat
  | .hbm => 14
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x512, .f32⟩
  | .hbm, ⟨4, _⟩ => ⟨S4224x8x64, .f32⟩
  | .hbm, ⟨5, _⟩ => ⟨S_, .i32⟩
  | .hbm, ⟨6, _⟩ => ⟨S_, .f32⟩
  | .hbm, ⟨7, _⟩ => ⟨S4224x8x128, .f32⟩
  | .hbm, ⟨8, _⟩ => ⟨S4224x1024, .f32⟩
  | .hbm, ⟨9, _⟩ => ⟨S4224x512, .f32⟩
  | .hbm, ⟨10, _⟩ => ⟨S4224x1536, .f32⟩
  | .hbm, ⟨11, _⟩ => ⟨S4224x1536, .bf16⟩
  | .hbm, ⟨12, _⟩ => ⟨S4224x1024, .bf16⟩
  | .hbm, ⟨13, _⟩ => ⟨S1536x1024, .f32⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S512x512, .f32⟩
  | .local _ .vmem, ⟨5, _⟩ => ⟨S512x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4224x1024 : Shape := ⟨2, ![4224, 1024]⟩
abbrev S1024x1024 : Shape := ⟨2, ![1024, 1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1536 : Shape := ⟨2, ![1024, 1536]⟩
abbrev S1536x1024 : Shape := ⟨2, ![1536, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | .hbm, ⟨7, _⟩ => ⟨S1024x1024, .f32⟩
  | .hbm, ⟨8, _⟩ => ⟨S1024x512, .f32⟩
  | .hbm, ⟨9, _⟩ => ⟨S1024x8x64, .f32⟩
  | .hbm, ⟨10, _⟩ => ⟨S_, .f32⟩
  | .hbm, ⟨11, _⟩ => ⟨S1024x8x64, .f32⟩
  | .hbm, ⟨12, _⟩ => ⟨S1024x8x128, .f32⟩
  | .hbm, ⟨13, _⟩ => ⟨S1024x1024, .f32⟩
  | .hbm, ⟨14, _⟩ => ⟨S1024x512, .f32⟩
  | .hbm, ⟨15, _⟩ => ⟨S1024x1536, .f32⟩
  | .hbm, ⟨16, _⟩ => ⟨S1536x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel15.lean ====
abbrev S4224x1024 : Shape := ⟨2, ![4224, 1024]⟩
abbrev S1024x1024 : Shape := ⟨2, ![1024, 1024]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1536 : Shape := ⟨2, ![1024, 1536]⟩
abbrev S1536x1024 : Shape := ⟨2, ![1536, 1024]⟩
abbrev S4224x1536 : Shape := ⟨2, ![4224, 1536]⟩
abbrev S1408x1024 : Shape := ⟨2, ![1408, 1024]⟩
abbrev S768x1024 : Shape := ⟨2, ![768, 1024]⟩
abbrev S1408x768 : Shape := ⟨2, ![1408, 768]⟩

abbrev nBuf : Space → Nat
  | .hbm => 16
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | .hbm, ⟨4, _⟩ => ⟨S1024x1024, .f32⟩
  | .hbm, ⟨5, _⟩ => ⟨S1024x512, .f32⟩
  | .hbm, ⟨6, _⟩ => ⟨S1024x8x64, .f32⟩
  | .hbm, ⟨7, _⟩ => ⟨S_, .i32⟩
  | .hbm, ⟨8, _⟩ => ⟨S_, .f32⟩
  | .hbm, ⟨9, _⟩ => ⟨S1024x8x128, .f32⟩
  | .hbm, ⟨10, _⟩ => ⟨S1024x1024, .f32⟩
  | .hbm, ⟨11, _⟩ => ⟨S1024x512, .f32⟩
  | .hbm, ⟨12, _⟩ => ⟨S1024x1536, .f32⟩
  | .hbm, ⟨13, _⟩ => ⟨S1536x1024, .f32⟩
  | .hbm, ⟨14, _⟩ => ⟨S1536x1024, .bf16⟩
  | .hbm, ⟨15, _⟩ => ⟨S4224x1536, .f32⟩
  | .local _ .vmem, ⟨0, _⟩ => ⟨S1408x1024, .bf16⟩
  | .local _ .vmem, ⟨1, _⟩ => ⟨S1408x1024, .bf16⟩
  | .local _ .vmem, ⟨2, _⟩ => ⟨S768x1024, .bf16⟩
  | .local _ .vmem, ⟨3, _⟩ => ⟨S768x1024, .bf16⟩
  | .local _ .vmem, ⟨4, _⟩ => ⟨S1408x768, .f32⟩
  | .local _ .vmem, ⟨5, _⟩ => ⟨S1408x768, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4224x1024 : Shape := ⟨2, ![4224, 1024]⟩
abbrev S1024x1024 : Shape := ⟨2, ![1024, 1024]⟩
abbrev S4224x512 : Shape := ⟨2, ![4224, 512]⟩
abbrev S4224x8x64 : Shape := ⟨3, ![4224, 8, 64]⟩
abbrev S_ : Shape := ⟨0, ![]⟩
abbrev S4224x8x128 : Shape := ⟨3, ![4224, 8, 128]⟩
abbrev S4224x1536 : Shape := ⟨2, ![4224, 1536]⟩

abbrev nBuf : Space → Nat
  | .hbm => 15
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | .hbm, ⟨7, _⟩ => ⟨S4224x512, .f32⟩
  | .hbm, ⟨8, _⟩ => ⟨S4224x8x64, .f32⟩
  | .hbm, ⟨9, _⟩ => ⟨S_, .f32⟩
  | .hbm, ⟨10, _⟩ => ⟨S4224x8x64, .f32⟩
  | .hbm, ⟨11, _⟩ => ⟨S4224x8x128, .f32⟩
  | .hbm, ⟨12, _⟩ => ⟨S4224x1024, .f32⟩
  | .hbm, ⟨13, _⟩ => ⟨S4224x512, .f32⟩
  | .hbm, ⟨14, _⟩ => ⟨S4224x1536, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel16.lean ====
abbrev S4224x1024 : Shape := ⟨2, ![4224, 1024]⟩
abbrev S1024x1024 : Shape := ⟨2, ![1024, 1024]⟩
abbrev S4224x512 : Shape := ⟨2, ![4224, 512]⟩
abbrev S4224x8x64 : Shape := ⟨3, ![4224, 8, 64]⟩
abbrev S_ : Shape := ⟨0, ![]⟩
abbrev S4224x8x128 : Shape := ⟨3, ![4224, 8, 128]⟩
abbrev S4224x1536 : Shape := ⟨2, ![4224, 1536]⟩
abbrev S1024x512 : Shape := ⟨2, ![1024, 512]⟩
abbrev S1024x8x64 : Shape := ⟨3, ![1024, 8, 64]⟩
abbrev S1024x8x128 : Shape := ⟨3, ![1024, 8, 128]⟩
abbrev S1024x1536 : Shape := ⟨2, ![1024, 1536]⟩
abbrev S1536x1024 : Shape := ⟨2, ![1536, 1024]⟩
abbrev S1408x1536 : Shape := ⟨2, ![1408, 1536]⟩
abbrev S1536x512 : Shape := ⟨2, ![1536, 512]⟩
abbrev S1408x512 : Shape := ⟨2, ![1408, 512]⟩

abbrev nBuf : Space → Nat
  | .hbm => 23
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x512, .f32⟩
  | .hbm, ⟨3, _⟩ => ⟨S4224x8x64, .f32⟩
  | .hbm, ⟨4, _⟩ => ⟨S_, .i32⟩
  | .hbm, ⟨5, _⟩ => ⟨S_, .f32⟩
  | .hbm, ⟨6, _⟩ => ⟨S4224x8x128, .f32⟩
  | .hbm, ⟨7, _⟩ => ⟨S4224x1024, .f32⟩
  | .hbm, ⟨8, _⟩ => ⟨S4224x512, .f32⟩
  | .hbm, ⟨9, _⟩ => ⟨S4224x1536, .f32⟩
  | .hbm, ⟨10, _⟩ => ⟨S4224x1536, .bf16⟩
  | .hbm, ⟨11, _⟩ => ⟨S1024x1024, .f32⟩
  | .hbm, ⟨12, _⟩ => ⟨S1024x512, .f32⟩
  | .hbm, ⟨13, _⟩ => ⟨S1024x8x64, .f32⟩
  | .hbm, ⟨14, _⟩ => ⟨S_, .i32⟩
  | .hbm, ⟨15, _⟩ => ⟨S_, .f32⟩
  | .hbm, ⟨16, _⟩ => ⟨S1024x8x128, .f32⟩
  | .hbm, ⟨17, _⟩ => ⟨S1024x1024, .f32⟩
  | .hbm, ⟨18, _⟩ => ⟨S1024x512, .f32⟩
  | .hbm, ⟨19, _⟩ => ⟨S1024x1536, .f32⟩
  | .hbm, ⟨20, _⟩ => ⟨S1536x1024, .f32⟩
  | .hbm, ⟨21, _⟩ => ⟨S1536x1024, .bf16⟩
  | .hbm, ⟨22, _⟩ => ⟨S4224x1024, .f32⟩
  | .local _ .vmem, ⟨0, _⟩ => ⟨S1408x1536, .bf16⟩
  | .local _ .vmem, ⟨1, _⟩ => ⟨S1408x1536, .bf16⟩
  | .local _ .vmem, ⟨2, _⟩ => ⟨S1536x512, .bf16⟩
  | .local _ .vmem, ⟨3, _⟩ => ⟨S1536x512, .bf16⟩
  | .local _ .vmem, ⟨4, _⟩ => ⟨S1408x512, .f32⟩
  | .local _ .vmem, ⟨5, _⟩ => ⟨S1408x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1408x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4224x1024 : Shape := ⟨2, ![4224, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Gla.Block.lean ====
/- What the kernel computes at one grid point, as functions of the blocks it reads, over any float values.

   A grid point takes three chunks of 64 positions of four heads. The functions of the first part take the
   rows of one chunk and one head: `q`, `k`, `g` of 64 × 128, `v`, `o` of 64 × 256, the state `S` before the
   chunk and the gradient `T` of the state after it, of 128 × 256. The second part cuts the chunks out of
   the blocks and runs the two states through them. -/
module

public import proofs.«01_k».proof.Proof.Gen.KernelIdeal.Skeleton
public import Idealize.ShloMosaic.Lib.Pipeline.ValueKit

@[expose] public section

noncomputable section

namespace Cert.Gla

open Cert.KernelIdeal Cert.KernelIdeal.Gen Idealize.ShloMosaic

variable {F : FTy → Type} [FloatOps F]

/-! ## One chunk of one head -/

/-- The lower triangle with its diagonal. -/
def tri : IVec S64x64 1 := cmpi .sge (iota .tc S64x64 32 [0] iota_S64x64_d0_w32) (iota .tc S64x64 32 [1] iota_S64x64_d1_w32)

/-- The lower triangle as ones and zeros. -/
def tri01 : FVec F S64x64 .bf16 := truncf .bf16 (sitofp .f32 (extui 32 tri natLt_1_32)) bitsLt_bf16_f32

/-- A value's first, second and third part in the short format. -/
def hi {s : Shape} (x : FVec F s .f32) : FVec F s .bf16 := truncf .bf16 x bitsLt_bf16_f32
@[inherit_doc hi]
def lo {s : Shape} (x : FVec F s .f32) : FVec F s .bf16 := hi (subf x (extf .f32 (hi x) bitsLt_bf16_f32))
@[inherit_doc hi]
def lo2 {s : Shape} (x : FVec F s .f32) : FVec F s .bf16 :=
  hi (subf (subf x (extf .f32 (hi x) bitsLt_bf16_f32)) (extf .f32 (lo x) bitsLt_bf16_f32))

/-- The zeros that a product is added to. -/
def z (s : Shape) : FVec F s .f32 := constant s .f32 0x00000000#32

/-- The running sums of the rows. -/
def cum (g : FVec F S64x128 .f32) : FVec F S64x128 .f32 :=
  let p (x : FVec F S64x128 .bf16) := matmul dot_S64x64_S64x128_S64x128_1_0_0_1_n_n none tri01 x (z S64x128)
  addf (p (hi g)) (addf (p (lo g)) (p (lo2 g)))

/-- The running sums of the rows from the last row up. -/
def revcum (g : FVec F S64x128 .f32) : FVec F S64x128 .f32 :=
  let p (x : FVec F S64x128 .bf16) := matmul dot_S64x64_S64x128_S64x128_0_0_1_1_n_n none tri01 x (z S64x128)
  addf (p (hi g)) (addf (p (lo g)) (p (lo2 g)))

/-- The decay over the chunk: the exponential of the sum of the rows, one feature to a row. -/
def decay (g : FVec F S64x128 .f32) : FVec F S128x256 .f32 :=
  let p (x : FVec F S64x128 .bf16) := matmul dot_S64x128_S64x256_S128x256_0_0_1_1_n_n none x
    (broadcast S64x256 (Scalar.ofBits .bf16 0x3F80#16)) (z S128x256)
  exp (addf (p (hi g)) (addf (p (lo g)) (p (lo2 g))))

/-- The sums of the rows of a state, the same in each of 64 rows. -/
def rowTot (x : FVec F S128x256 .f32) : FVec F S64x128 .f32 :=
  let p (x : FVec F S128x256 .bf16) := matmul dot_S64x256_S128x256_S64x128_1_1_0_0_n_n none
    (hi (broadcast S64x256 (Scalar.ofBits .f32 0x3F800000#32))) x (z S64x128)
  addf (p (hi x)) (addf (p (lo x)) (p (lo2 x)))

/-- The sum of the rows, in each of the 64 rows. -/
def colTot (g : FVec F S64x128 .f32) : FVec F S64x128 .f32 :=
  broadcastTo S64x128 (shapeCast S1x128 (multiReduction .add [0] S128 g 0x00000000#32 reduces_S64x128_S128 (.inl rfl) rfl)
    shapeCasts_S128_S1x128) broadcasts_S1x128_S64x128

/-- The sum of the rows, taken once more over its one row, in each of the 64 rows. -/
def colTot' (g : FVec F S64x128 .f32) : FVec F S64x128 .f32 :=
  broadcastTo S64x128 (shapeCast S1x128 (multiReduction .add [0] S128 (shapeCast S1x128 (multiReduction .add [0] S128 g 0x00000000#32
    reduces_S64x128_S128 (.inl rfl) rfl) shapeCasts_S128_S1x128) 0x00000000#32 reduces_S1x128_S128 (.inl rfl) rfl)
    shapeCasts_S128_S1x128) broadcasts_S1x128_S64x128

/-- The scaled queries. -/
def qs (q : FVec F S64x128 .f32) : FVec F S64x128 .f32 := mulf q (broadcast S64x128 (Scalar.ofBits .f32 0x3DB504F3#32))

/-- The decay within the chunk, and its inverse. -/
def eb (g : FVec F S64x128 .f32) : FVec F S64x128 .f32 := exp (cum g)
@[inherit_doc eb]
def en (g : FVec F S64x128 .f32) : FVec F S64x128 .f32 := exp (subf (broadcast S64x128 (Scalar.ofBits .f32 0x00000000#32)) (cum g))

/-- The decay from a row to the end of the chunk. -/
def et (g : FVec F S64x128 .f32) : FVec F S64x128 .f32 := exp (subf (colTot g) (cum g))

/-- A gradient as the kernel passes it on. -/
def same (o : FVec F S64x256 .f32) : FVec F S64x256 .f32 := shapeCast S64x256 o shapeCasts_S64x256_S64x256

/-- The scores, and their gradient. -/
def att (q k g : FVec F S64x128 .f32) : FVec F S64x64 .f32 :=
  select tri (matmul dot_S64x128_S64x128_S64x64_1_1_0_0_n_n none (hi (mulf (qs q) (eb g))) (hi (mulf k (en g))) (z S64x64))
    (broadcast S64x64 (Scalar.ofBits .f32 0x00000000#32))
@[inherit_doc att]
def datt (v o : FVec F S64x256 .f32) : FVec F S64x64 .f32 :=
  select tri (matmul dot_S64x256_S64x256_S64x64_1_1_0_0_n_n none (hi (same o)) (hi v) (z S64x64))
    (broadcast S64x64 (Scalar.ofBits .f32 0x00000000#32))

/-- The state after the chunk. -/
def stS (k : FVec F S64x128 .f32) (v : FVec F S64x256 .f32) (g : FVec F S64x128 .f32) (S : FVec F S128x256 .f32) : FVec F S128x256 .f32 :=
  addf (mulf S (decay g)) (matmul dot_S64x128_S64x256_S128x256_0_0_1_1_n_n none (hi (mulf k (et g))) (hi v) (z S128x256))

/-- The gradient of the state before the chunk. -/
def stT (q g : FVec F S64x128 .f32) (o : FVec F S64x256 .f32) (T : FVec F S128x256 .f32) : FVec F S128x256 .f32 :=
  addf (mulf T (decay g)) (matmul dot_S64x128_S64x256_S128x256_0_0_1_1_n_n none (hi (mulf (qs q) (eb g))) (hi (same o)) (z S128x256))

/-- The gradient of the decayed queries. -/
def dqd (k g : FVec F S64x128 .f32) (v o : FVec F S64x256 .f32) (S : FVec F S128x256 .f32) : FVec F S64x128 .f32 :=
  addf (matmul dot_S64x256_S128x256_S64x128_1_1_0_0_n_n none (hi (same o)) (hi S) (z S64x128))
    (matmul dot_S64x64_S64x128_S64x128_1_0_0_1_n_n none (hi (datt v o)) (hi (mulf k (en g))) (z S64x128))

/-- The gradient of the keys with the decay from their row to the end of the chunk. -/
def dkd (v : FVec F S64x256 .f32) (T : FVec F S128x256 .f32) : FVec F S64x128 .f32 :=
  matmul dot_S64x256_S128x256_S64x128_1_1_0_0_n_n none (hi v) (hi T) (z S64x128)

/-- The gradient of the keys with the decay up to their row taken off. -/
def dke (q g : FVec F S64x128 .f32) (v o : FVec F S64x256 .f32) : FVec F S64x128 .f32 :=
  matmul dot_S64x64_S64x128_S64x128_0_0_1_1_n_n none (hi (datt v o)) (hi (mulf (qs q) (eb g))) (z S64x128)

/-- The gradient of the queries. -/
def dq (k g : FVec F S64x128 .f32) (v o : FVec F S64x256 .f32) (S : FVec F S128x256 .f32) : FVec F S64x128 .f32 :=
  mulf (mulf (dqd k g v o S) (eb g)) (broadcast S64x128 (Scalar.ofBits .f32 0x3DB504F3#32))

/-- The gradient of the keys. -/
def dk (q g : FVec F S64x128 .f32) (v o : FVec F S64x256 .f32) (T : FVec F S128x256 .f32) : FVec F S64x128 .f32 :=
  addf (mulf (dkd v T) (et g)) (mulf (dke q g v o) (en g))

/-- The gradient of the values. -/
def dv (q k g : FVec F S64x128 .f32) (o : FVec F S64x256 .f32) (T : FVec F S128x256 .f32) : FVec F S64x256 .f32 :=
  addf (matmul dot_S64x128_S128x256_S64x256_1_0_0_1_n_n none (hi (mulf k (et g))) (hi T) (z S64x256))
    (matmul dot_S64x64_S64x256_S64x256_0_0_1_1_n_n none (hi (att q k g)) (hi (same o)) (z S64x256))

/-- The three terms of the gradient of the log decays' running sums: from the decay to the end of the chunk, from
    the decay taken off the keys, from the decay of the queries. -/
def gP (k g : FVec F S64x128 .f32) (v : FVec F S64x256 .f32) (T : FVec F S128x256 .f32) : FVec F S64x128 .f32 :=
  mulf (mulf k (dkd v T)) (et g)
@[inherit_doc gP]
def gQ (q k g : FVec F S64x128 .f32) (v o : FVec F S64x256 .f32) : FVec F S64x128 .f32 := mulf (mulf k (dke q g v o)) (en g)
@[inherit_doc gP]
def gR (q k g : FVec F S64x128 .f32) (v o : FVec F S64x256 .f32) (S : FVec F S128x256 .f32) : FVec F S64x128 .f32 :=
  mulf (mulf (qs q) (dqd k g v o S)) (eb g)

/-- The gradient of the log decays. -/
def dg (q k g : FVec F S64x128 .f32) (v o : FVec F S64x256 .f32) (S T : FVec F S128x256 .f32) : FVec F S64x128 .f32 :=
  let o0 : FVec F S64x128 .f32 := broadcast S64x128 (Scalar.ofBits .f32 0x00000000#32)
  addf (addf (rowTot (mulf (mulf S T) (decay g))) (colTot' (gP k g v T)))
    (revcum (addf (addf (subf o0 (gP k g v T)) (subf o0 (gQ q k g v o))) (gR q k g v o S)))

/-! ## The three chunks of a grid point -/

variable (F) in
/-- The blocks that a grid point reads: the queries, keys, values and log decays of 192 positions, the states
    before their chunks, the gradient of the output, and the gradient of the state after the last chunk. -/
structure Ins where
  q : Vec F S192x512 .f32
  k : Vec F S192x512 .f32
  v : Vec F S192x1024 .f32
  g : Vec F S192x512 .f32
  s : Vec F S4x3x128x256 .f32
  o : Vec F S192x1024 .f32
  t : Vec F S4x128x256 .f32

/-- The 64 × 128 part of chunk `a` and head `h`. -/
def cut128 (x : Vec F S192x512 .f32) (a : Fin 3) (h : Fin 4) : FVec F S64x128 .f32 :=
  View.ld x (Rect.unit (s := S192x512) ![64 * a.val, 128 * h.val] ![64, 128] (by intro b; fin_cases b <;> simp <;> omega))

/-- The 64 × 256 part of chunk `a` and head `h`. -/
def cut256 (x : Vec F S192x1024 .f32) (a : Fin 3) (h : Fin 4) : FVec F S64x256 .f32 :=
  View.ld x (Rect.unit (s := S192x1024) ![64 * a.val, 256 * h.val] ![64, 256] (by intro b; fin_cases b <;> simp <;> omega))

/-- The state before the first chunk, head `h`. -/
def cutS (x : Vec F S4x3x128x256 .f32) (h : Fin 4) : FVec F S128x256 .f32 :=
  shapeCast S128x256 (View.ld x (Rect.unit (s := S4x3x128x256) ![h.val, 0, 0, 0] ![1, 1, 128, 256]
    (by intro b; fin_cases b <;> simp <;> omega))) shapeCasts_S1x1x128x256_S128x256

/-- The gradient of the state after the last chunk, head `h`. -/
def cutT (x : Vec F S4x128x256 .f32) (h : Fin 4) : FVec F S128x256 .f32 :=
  shapeCast S128x256 (shapeCast S128x256 (View.ld x (Rect.unit (s := S4x128x256) ![h.val, 0, 0] ![1, 128, 256]
    (by intro b; fin_cases b <;> simp <;> omega))) shapeCasts_S1x128x256_S128x256) shapeCasts_S128x256_S128x256

namespace Ins

variable (I : Ins F) (a : Fin 3) (h : Fin 4)

/-- The state moved over chunk `a`. -/
def stepS (S : FVec F S128x256 .f32) : FVec F S128x256 .f32 := stS (cut128 I.k a h) (cut256 I.v a h) (cut128 I.g a h) S

/-- The gradient of the state moved back over chunk `a`. -/
def stepT (T : FVec F S128x256 .f32) : FVec F S128x256 .f32 := stT (cut128 I.q a h) (cut128 I.g a h) (cut256 I.o a h) T

/-- The states before the three chunks. -/
def S0 : FVec F S128x256 .f32 := cutS I.s h
@[inherit_doc S0]
def S1 : FVec F S128x256 .f32 := I.stepS 0 h (I.S0 h)
@[inherit_doc S0]
def S2 : FVec F S128x256 .f32 := I.stepS 1 h (I.S1 h)

/-- The gradients of the states after the three chunks, and of the state before the first. -/
def T2 : FVec F S128x256 .f32 := cutT I.t h
@[inherit_doc T2]
def T1 : FVec F S128x256 .f32 := I.stepT 2 h (I.T2 h)
@[inherit_doc T2]
def T0 : FVec F S128x256 .f32 := I.stepT 1 h (I.T1 h)
@[inherit_doc T2]
def Tn : FVec F S128x256 .f32 := I.stepT 0 h (I.T0 h)

/-- The state before chunk `a`, and the gradient of the state after it. -/
def Sa : FVec F S128x256 .f32 := match a with
  | 0 => I.S0 h
  | 1 => I.S1 h
  | 2 => I.S2 h
@[inherit_doc Sa]
def Ta : FVec F S128x256 .f32 := match a with
  | 0 => I.T0 h
  | 1 => I.T1 h
  | 2 => I.T2 h

/-- The four gradients of chunk `a`. -/
def rq : FVec F S64x128 .f32 := dq (cut128 I.k a h) (cut128 I.g a h) (cut256 I.v a h) (cut256 I.o a h) (I.Sa a h)
@[inherit_doc rq]
def rk : FVec F S64x128 .f32 := dk (cut128 I.q a h) (cut128 I.g a h) (cut256 I.v a h) (cut256 I.o a h) (I.Ta a h)
@[inherit_doc rq]
def rv : FVec F S64x256 .f32 := dv (cut128 I.q a h) (cut128 I.k a h) (cut128 I.g a h) (cut256 I.o a h) (I.Ta a h)
@[inherit_doc rq]
def rg : FVec F S64x128 .f32 :=
  dg (cut128 I.q a h) (cut128 I.k a h) (cut128 I.g a h) (cut256 I.v a h) (cut256 I.o a h) (I.Sa a h) (I.Ta a h)

/-- The gradient of the state as the kernel stores it. -/
def out (T : FVec F S128x256 .f32) : FVec F S1x128x256 .f32 := shapeCast S1x128x256 T shapeCasts_S128x256_S1x128x256

end Ins

end Cert.Gla
-- ==== Proof.Gla.Pieces.lean ====
/- What a grid point leaves in its output blocks and in the carried state, as lists of the parts it stores:
   the generated witness of the body's run is these lists, in terms of Block.lean's functions. The first
   point (case A) starts from a zero state, the others (case B) from what the point before left. -/
module

public import proofs.«01_k».proof.Proof.Gla.Block
public import proofs.«01_k».proof.Proof.Gen.KernelIdeal.Frame
public import Idealize.ShloMosaic.Lib.Pipeline.ReadBack

@[expose] public section

set_option maxRecDepth 16384

noncomputable section

namespace Cert.Gla

open Cert.KernelIdeal Cert.KernelIdeal.Gen Idealize.ShloMosaic Idealize.ShloMosaic.TcCoe Idealize.SL.Sem

variable {F : FTy → Type} [FloatOps F]

namespace Ins

variable (I : Ins F)

/-- The parts of the gradients of the queries, the last stored first. -/
def listQ : List (View.Piece (Elt F) S192x512 .f32) := [
    ⟨Rect.unit (s := S192x512) ![128, 384] ![64, 128] (by decide), I.rq 2 3⟩,
    ⟨Rect.unit (s := S192x512) ![128, 256] ![64, 128] (by decide), I.rq 2 2⟩,
    ⟨Rect.unit (s := S192x512) ![128, 128] ![64, 128] (by decide), I.rq 2 1⟩,
    ⟨Rect.unit (s := S192x512) ![128, 0] ![64, 128] (by decide), I.rq 2 0⟩,
    ⟨Rect.unit (s := S192x512) ![64, 384] ![64, 128] (by decide), I.rq 1 3⟩,
    ⟨Rect.unit (s := S192x512) ![64, 256] ![64, 128] (by decide), I.rq 1 2⟩,
    ⟨Rect.unit (s := S192x512) ![64, 128] ![64, 128] (by decide), I.rq 1 1⟩,
    ⟨Rect.unit (s := S192x512) ![64, 0] ![64, 128] (by decide), I.rq 1 0⟩,
    ⟨Rect.unit (s := S192x512) ![0, 384] ![64, 128] (by decide), I.rq 0 3⟩,
    ⟨Rect.unit (s := S192x512) ![0, 256] ![64, 128] (by decide), I.rq 0 2⟩,
    ⟨Rect.unit (s := S192x512) ![0, 128] ![64, 128] (by decide), I.rq 0 1⟩,
    ⟨Rect.unit (s := S192x512) ![0, 0] ![64, 128] (by decide), I.rq 0 0⟩]

/-- The parts of the gradients of the keys, the last stored first. -/
def listK : List (View.Piece (Elt F) S192x512 .f32) := [
    ⟨Rect.unit (s := S192x512) ![128, 384] ![64, 128] (by decide), I.rk 2 3⟩,
    ⟨Rect.unit (s := S192x512) ![128, 256] ![64, 128] (by decide), I.rk 2 2⟩,
    ⟨Rect.unit (s := S192x512) ![128, 128] ![64, 128] (by decide), I.rk 2 1⟩,
    ⟨Rect.unit (s := S192x512) ![128, 0] ![64, 128] (by decide), I.rk 2 0⟩,
    ⟨Rect.unit (s := S192x512) ![64, 384] ![64, 128] (by decide), I.rk 1 3⟩,
    ⟨Rect.unit (s := S192x512) ![64, 256] ![64, 128] (by decide), I.rk 1 2⟩,
    ⟨Rect.unit (s := S192x512) ![64, 128] ![64, 128] (by decide), I.rk 1 1⟩,
    ⟨Rect.unit (s := S192x512) ![64, 0] ![64, 128] (by decide), I.rk 1 0⟩,
    ⟨Rect.unit (s := S192x512) ![0, 384] ![64, 128] (by decide), I.rk 0 3⟩,
    ⟨Rect.unit (s := S192x512) ![0, 256] ![64, 128] (by decide), I.rk 0 2⟩,
    ⟨Rect.unit (s := S192x512) ![0, 128] ![64, 128] (by decide), I.rk 0 1⟩,
    ⟨Rect.unit (s := S192x512) ![0, 0] ![64, 128] (by decide), I.rk 0 0⟩]

/-- The parts of the gradients of the values, the last stored first. -/
def listV : List (View.Piece (Elt F) S192x1024 .f32) := [
    ⟨Rect.unit (s := S192x1024) ![128, 768] ![64, 256] (by decide), I.rv 2 3⟩,
    ⟨Rect.unit (s := S192x1024) ![128, 512] ![64, 256] (by decide), I.rv 2 2⟩,
    ⟨Rect.unit (s := S192x1024) ![128, 256] ![64, 256] (by decide), I.rv 2 1⟩,
    ⟨Rect.unit (s := S192x1024) ![128, 0] ![64, 256] (by decide), I.rv 2 0⟩,
    ⟨Rect.unit (s := S192x1024) ![64, 768] ![64, 256] (by decide), I.rv 1 3⟩,
    ⟨Rect.unit (s := S192x1024) ![64, 512] ![64, 256] (by decide), I.rv 1 2⟩,
    ⟨Rect.unit (s := S192x1024) ![64, 256] ![64, 256] (by decide), I.rv 1 1⟩,
    ⟨Rect.unit (s := S192x1024) ![64, 0] ![64, 256] (by decide), I.rv 1 0⟩,
    ⟨Rect.unit (s := S192x1024) ![0, 768] ![64, 256] (by decide), I.rv 0 3⟩,
    ⟨Rect.unit (s := S192x1024) ![0, 512] ![64, 256] (by decide), I.rv 0 2⟩,
    ⟨Rect.unit (s := S192x1024) ![0, 256] ![64, 256] (by decide), I.rv 0 1⟩,
    ⟨Rect.unit (s := S192x1024) ![0, 0] ![64, 256] (by decide), I.rv 0 0⟩]

/-- The parts of the gradients of the log decays, the last stored first. -/
def listG : List (View.Piece (Elt F) S192x512 .f32) := [
    ⟨Rect.unit (s := S192x512) ![128, 384] ![64, 128] (by decide), I.rg 2 3⟩,
    ⟨Rect.unit (s := S192x512) ![128, 256] ![64, 128] (by decide), I.rg 2 2⟩,
    ⟨Rect.unit (s := S192x512) ![128, 128] ![64, 128] (by decide), I.rg 2 1⟩,
    ⟨Rect.unit (s := S192x512) ![128, 0] ![64, 128] (by decide), I.rg 2 0⟩,
    ⟨Rect.unit (s := S192x512) ![64, 384] ![64, 128] (by decide), I.rg 1 3⟩,
    ⟨Rect.unit (s := S192x512) ![64, 256] ![64, 128] (by decide), I.rg 1 2⟩,
    ⟨Rect.unit (s := S192x512) ![64, 128] ![64, 128] (by decide), I.rg 1 1⟩,
    ⟨Rect.unit (s := S192x512) ![64, 0] ![64, 128] (by decide), I.rg 1 0⟩,
    ⟨Rect.unit (s := S192x512) ![0, 384] ![64, 128] (by decide), I.rg 0 3⟩,
    ⟨Rect.unit (s := S192x512) ![0, 256] ![64, 128] (by decide), I.rg 0 2⟩,
    ⟨Rect.unit (s := S192x512) ![0, 128] ![64, 128] (by decide), I.rg 0 1⟩,
    ⟨Rect.unit (s := S192x512) ![0, 0] ![64, 128] (by decide), I.rg 0 0⟩]

/-- The parts of the carried state. -/
def listT : List (View.Piece (Elt F) S4x128x256 .f32) := [
    ⟨Rect.unit (s := S4x128x256) ![3, 0, 0] ![1, 128, 256] (by decide), out (I.Tn 3)⟩,
    ⟨Rect.unit (s := S4x128x256) ![2, 0, 0] ![1, 128, 256] (by decide), out (I.Tn 2)⟩,
    ⟨Rect.unit (s := S4x128x256) ![1, 0, 0] ![1, 128, 256] (by decide), out (I.Tn 1)⟩,
    ⟨Rect.unit (s := S4x128x256) ![0, 0, 0] ![1, 128, 256] (by decide), out (I.Tn 0)⟩]

end Ins

section

variable (c : Dev nD) (i : grid0.Coords) (arg1 : Memref sig .tc .vmem S192x512 .f32) (harg1 : arg1.IsWhole) (arg2 : Memref sig .tc .vmem S192x512 .f32) (harg2 : arg2.IsWhole) (arg3 : Memref sig .tc .vmem S192x1024 .f32) (harg3 : arg3.IsWhole) (arg4 : Memref sig .tc .vmem S192x512 .f32) (harg4 : arg4.IsWhole) (arg5 : Memref sig .tc .vmem S4x3x128x256 .f32) (harg5 : arg5.IsWhole) (arg6 : Memref sig .tc .vmem S192x1024 .f32) (harg6 : arg6.IsWhole) (arg7 : Memref sig .tc .vmem S192x512 .f32) (harg7 : arg7.IsWhole) (arg8 : Memref sig .tc .vmem S192x512 .f32) (harg8 : arg8.IsWhole) (arg9 : Memref sig .tc .vmem S192x1024 .f32) (harg9 : arg9.IsWhole) (arg10 : Memref sig .tc .vmem S192x512 .f32) (harg10 : arg10.IsWhole) (arg11 : Memref sig .tc .vmem S4x128x256 .f32) (harg11 : arg11.IsWhole)
    (x0 : Vec F S192x512 .f32) (x1 : Vec F S192x512 .f32) (x2 : Vec F S192x1024 .f32) (x3 : Vec F S192x512 .f32)
    (x4 : Vec F S4x3x128x256 .f32) (x5 : Vec F S192x1024 .f32)

theorem outQ_A (hc0 : cond0_0 i) :
    out0_A_6 c i arg1 harg1 arg2 harg2 arg3 harg3 arg4 harg4 arg5 harg5 arg6 harg6 arg7 harg7 arg8 harg8 arg9 harg9 arg10 harg10 arg11 harg11 hc0 x0 x1 x2 x3 x4 x5 = View.canon (Ins.mk x0 x1 x2 x3 x4 x5 k0_pay2).listQ := by
  funext y
  frame_out
  rfl

theorem outK_A (hc0 : cond0_0 i) :
    out0_A_7 c i arg1 harg1 arg2 harg2 arg3 harg3 arg4 harg4 arg5 harg5 arg6 harg6 arg7 harg7 arg8 harg8 arg9 harg9 arg10 harg10 arg11 harg11 hc0 x0 x1 x2 x3 x4 x5 = View.canon (Ins.mk x0 x1 x2 x3 x4 x5 k0_pay2).listK := by
  funext y
  frame_out
  simp only [View.readCov_fill (Val := Elt F) arg11.view inb_S4x128x256_S4x128x256_0_0_0 k0_pay2 [] _ (by decide)]
  rfl

theorem outV_A (hc0 : cond0_0 i) :
    out0_A_8 c i arg1 harg1 arg2 harg2 arg3 harg3 arg4 harg4 arg5 harg5 arg6 harg6 arg7 harg7 arg8 harg8 arg9 harg9 arg10 harg10 arg11 harg11 hc0 x0 x1 x2 x3 x4 x5 = View.canon (Ins.mk x0 x1 x2 x3 x4 x5 k0_pay2).listV := by
  funext y
  frame_out
  simp only [View.readCov_fill (Val := Elt F) arg11.view inb_S4x128x256_S4x128x256_0_0_0 k0_pay2 [] _ (by decide)]
  rfl

theorem outG_A (hc0 : cond0_0 i) :
    out0_A_9 c i arg1 harg1 arg2 harg2 arg3 harg3 arg4 harg4 arg5 harg5 arg6 harg6 arg7 harg7 arg8 harg8 arg9 harg9 arg10 harg10 arg11 harg11 hc0 x0 x1 x2 x3 x4 x5 = View.canon (Ins.mk x0 x1 x2 x3 x4 x5 k0_pay2).listG := by
  funext y
  frame_out
  simp only [View.readCov_fill (Val := Elt F) arg11.view inb_S4x128x256_S4x128x256_0_0_0 k0_pay2 [] _ (by decide)]
  rfl

theorem outT_A (hc0 : cond0_0 i) :
    sout0_A_0 c i arg1 harg1 arg2 harg2 arg3 harg3 arg4 harg4 arg5 harg5 arg6 harg6 arg7 harg7 arg8 harg8 arg9 harg9 arg10 harg10 arg11 harg11 hc0 x0 x1 x2 x3 x4 x5 = View.canon ((Ins.mk x0 x1 x2 x3 x4 x5 k0_pay2).listT ++ [⟨Rect.unit ![0, 0, 0] ![4, 128, 256] inb_S4x128x256_S4x128x256_0_0_0, k0_pay2⟩]) := by
  funext y
  frame_out
  simp only [View.readCov_fill (Val := Elt F) arg11.view inb_S4x128x256_S4x128x256_0_0_0 k0_pay2 [] _ (by decide)]
  rfl

theorem outQ_B (hc0 : ¬cond0_0 i) (xs0 : Vec F S4x128x256 .f32) :
    out0_B_6 c i arg1 harg1 arg2 harg2 arg3 harg3 arg4 harg4 arg5 harg5 arg6 harg6 arg7 harg7 arg8 harg8 arg9 harg9 arg10 harg10 arg11 harg11 hc0 x0 x1 x2 x3 x4 x5 xs0 = View.canon (Ins.mk x0 x1 x2 x3 x4 x5 xs0).listQ := by
  funext y
  frame_out
  rfl

theorem outK_B (hc0 : ¬cond0_0 i) (xs0 : Vec F S4x128x256 .f32) :
    out0_B_7 c i arg1 harg1 arg2 harg2 arg3 harg3 arg4 harg4 arg5 harg5 arg6 harg6 arg7 harg7 arg8 harg8 arg9 harg9 arg10 harg10 arg11 harg11 hc0 x0 x1 x2 x3 x4 x5 xs0 = View.canon (Ins.mk x0 x1 x2 x3 x4 x5 xs0).listK := by
  funext y
  frame_out
  rfl

theorem outV_B (hc0 : ¬cond0_0 i) (xs0 : Vec F S4x128x256 .f32) :
    out0_B_8 c i arg1 harg1 arg2 harg2 arg3 harg3 arg4 harg4 arg5 harg5 arg6 harg6 arg7 harg7 arg8 harg8 arg9 harg9 arg10 harg10 arg11 harg11 hc0 x0 x1 x2 x3 x4 x5 xs0 = View.canon (Ins.mk x0 x1 x2 x3 x4 x5 xs0).listV := by
  funext y
  frame_out
  rfl

theorem outG_B (hc0 : ¬cond0_0 i) (xs0 : Vec F S4x128x256 .f32) :
    out0_B_9 c i arg1 harg1 arg2 harg2 arg3 harg3 arg4 harg4 arg5 harg5 arg6 harg6 arg7 harg7 arg8 harg8 arg9 harg9 arg10 harg10 arg11 harg11 hc0 x0 x1 x2 x3 x4 x5 xs0 = View.canon (Ins.mk x0 x1 x2 x3 x4 x5 xs0).listG := by
  funext y
  frame_out
  rfl

theorem outT_B (hc0 : ¬cond0_0 i) (xs0 : Vec F S4x128x256 .f32) :
    sout0_B_0 c i arg1 harg1 arg2 harg2 arg3 harg3 arg4 harg4 arg5 harg5 arg6 harg6 arg7 harg7 arg8 harg8 arg9 harg9 arg10 harg10 arg11 harg11 hc0 x0 x1 x2 x3 x4 x5 xs0 = View.canon ((Ins.mk x0 x1 x2 x3 x4 x5 xs0).listT) := by
  funext y
  frame_out
  rfl

end

end Cert.Gla
-- ==== Proof.Gla.Real.lean ====
/- The mathematics of the gradient of one head of the linear attention, over the real numbers.

   `q`, `k`, `g` have a value for each position and each of the key features, `v` and `o` for each
   position and each of the value features; `q` is already scaled. `B g m d` is the sum of the log
   decays of feature `d` before position `m`. With `x t = q t · e^(B (t+1))` and
   `y u = k u · e^(-B (u+1))` the score of position `t` on position `u ≤ t` is `Σ_d x t d · y u d`.

   The first part states the gradients over the whole sequence (`gq`, `gk`, `gv`, `gg`), the second the
   two states that a chunked evaluation carries (`St` from the left, `Tt` from the right), and the third
   shows that what one chunk computes from the states at its ends is the gradient over the whole
   sequence. -/
module

public import Mathlib.Algebra.BigOperators.Intervals
public import Mathlib.Analysis.SpecialFunctions.Exp
public import Mathlib.Tactic.LinearCombination
public import Mathlib.Tactic.Ring

@[expose] public section

namespace Cert.Gla

open Finset

variable {D E : Type} [Fintype D] [Fintype E]

/-- The sum of the log decays before position `m`. -/
noncomputable def B (g : ℕ → D → ℝ) (m : ℕ) (d : D) : ℝ := ∑ u ∈ range m, g u d

/-- A query with the decay up to its position. -/
noncomputable def xs (q g : ℕ → D → ℝ) (t : ℕ) (d : D) : ℝ := q t d * Real.exp (B g (t + 1) d)

/-- A key with the decay up to its position taken off. -/
noncomputable def ys (k g : ℕ → D → ℝ) (u : ℕ) (d : D) : ℝ := k u d * Real.exp (-B g (u + 1) d)

/-- The product of the gradient of an output with a value. -/
noncomputable def ws (v o : ℕ → E → ℝ) (t u : ℕ) : ℝ := ∑ e, o t e * v u e

/-! ## The gradients over a sequence of `N` positions -/

/-- The gradient of the scaled query with its decay. -/
noncomputable def gx (k g : ℕ → D → ℝ) (v o : ℕ → E → ℝ) (t : ℕ) (d : D) : ℝ :=
  ∑ u ∈ range (t + 1), ws v o t u * ys k g u d

/-- The gradient of the key with its decay. -/
noncomputable def gy (q g : ℕ → D → ℝ) (v o : ℕ → E → ℝ) (N u : ℕ) (d : D) : ℝ :=
  ∑ t ∈ Ico u N, ws v o t u * xs q g t d

/-- The gradient of the scaled query. -/
noncomputable def gq (k g : ℕ → D → ℝ) (v o : ℕ → E → ℝ) (t : ℕ) (d : D) : ℝ :=
  gx k g v o t d * Real.exp (B g (t + 1) d)

/-- The gradient of the key. -/
noncomputable def gk (q g : ℕ → D → ℝ) (v o : ℕ → E → ℝ) (N u : ℕ) (d : D) : ℝ :=
  gy q g v o N u d * Real.exp (-B g (u + 1) d)

/-- The gradient of the value. -/
noncomputable def gv (q k g : ℕ → D → ℝ) (o : ℕ → E → ℝ) (N u : ℕ) (e : E) : ℝ :=
  ∑ t ∈ Ico u N, (∑ d, xs q g t d * ys k g u d) * o t e

/-- The gradient of the sum of the log decays up to a position. -/
noncomputable def gb (q k g : ℕ → D → ℝ) (v o : ℕ → E → ℝ) (N t : ℕ) (d : D) : ℝ :=
  -(k t d * gy q g v o N t d * Real.exp (-B g (t + 1) d)) + q t d * gx k g v o t d * Real.exp (B g (t + 1) d)

/-- The gradient of the log decay. -/
noncomputable def gg (q k g : ℕ → D → ℝ) (v o : ℕ → E → ℝ) (N s : ℕ) (d : D) : ℝ :=
  ∑ t ∈ Ico s N, gb q k g v o N t d

/-! ## The two states -/

/-- The state before position `m`. -/
noncomputable def St (k g : ℕ → D → ℝ) (v : ℕ → E → ℝ) (m : ℕ) (d : D) (e : E) : ℝ :=
  Real.exp (B g m d) * ∑ u ∈ range m, ys k g u d * v u e

/-- The gradient of the state before position `m`. -/
noncomputable def Tt (q g : ℕ → D → ℝ) (o : ℕ → E → ℝ) (N m : ℕ) (d : D) (e : E) : ℝ :=
  Real.exp (-B g m d) * ∑ t ∈ Ico m N, xs q g t d * o t e

/-! ## What one chunk computes: the chunk has the `L` positions from `m` on -/

/-- The sum of the log decays within the chunk, up to and with its row `r`. -/
noncomputable def bs (g : ℕ → D → ℝ) (m r : ℕ) (d : D) : ℝ := ∑ i ∈ range (r + 1), g (m + i) d

/-- The sum of the log decays of the chunk. -/
noncomputable def tot (g : ℕ → D → ℝ) (m L : ℕ) (d : D) : ℝ := ∑ i ∈ range L, g (m + i) d

section
omit [Fintype D] [Fintype E]

theorem B_add (g : ℕ → D → ℝ) (m L : ℕ) (d : D) : B g (m + L) d = B g m d + tot g m L d := by
  unfold B tot; exact sum_range_add _ m L

theorem B_row (g : ℕ → D → ℝ) (m r : ℕ) (d : D) : B g (m + r + 1) d = B g m d + bs g m r d :=
  B_add g m (r + 1) d

/-- A query of the chunk with the decay within the chunk. -/
theorem q_dec (q g : ℕ → D → ℝ) (m r : ℕ) (d : D) :
    q (m + r) d * Real.exp (bs g m r d) = xs q g (m + r) d * Real.exp (-B g m d) := by
  unfold xs; rw [B_row, mul_assoc, ← Real.exp_add]; congr 2; ring

/-- A key of the chunk with the decay within the chunk taken off. -/
theorem k_exp (k g : ℕ → D → ℝ) (m r : ℕ) (d : D) :
    k (m + r) d * Real.exp (0 - bs g m r d) = ys k g (m + r) d * Real.exp (B g m d) := by
  unfold ys; rw [B_row, mul_assoc, ← Real.exp_add]; congr 2; ring

/-- A key of the chunk with the decay from its row to the end of the chunk. -/
theorem k_dec (k g : ℕ → D → ℝ) (m L r : ℕ) (d : D) :
    k (m + r) d * Real.exp (tot g m L d - bs g m r d) = ys k g (m + r) d * Real.exp (B g (m + L) d) := by
  unfold ys; rw [B_row, B_add, mul_assoc, ← Real.exp_add]; congr 2; ring

/-- The state moves over a chunk. -/
theorem St_step (k g : ℕ → D → ℝ) (v : ℕ → E → ℝ) (m L : ℕ) (d : D) (e : E) :
    St k g v m d e * Real.exp (tot g m L d)
      + ∑ r ∈ range L, (k (m + r) d * Real.exp (tot g m L d - bs g m r d)) * v (m + r) e
      = St k g v (m + L) d e := by
  simp only [k_dec]
  unfold St
  rw [sum_range_add, B_add, Real.exp_add, mul_add, mul_sum (s := range L)]
  congr 1
  · ring
  · exact sum_congr rfl fun r _ => by ring

/-- The gradient of the state moves over a chunk, from its end to its start. -/
theorem Tt_step (q g : ℕ → D → ℝ) (o : ℕ → E → ℝ) (N m L : ℕ) (hN : m + L ≤ N) (d : D) (e : E) :
    Tt q g o N (m + L) d e * Real.exp (tot g m L d)
      + ∑ r ∈ range L, (q (m + r) d * Real.exp (bs g m r d)) * o (m + r) e
      = Tt q g o N m d e := by
  simp only [q_dec]
  unfold Tt
  rw [← sum_Ico_consecutive _ (Nat.le_add_right m L) hN, mul_add, add_comm,
    sum_Ico_eq_sum_range (m := m) (n := m + L), Nat.add_sub_cancel_left, mul_sum (s := range L), B_add]
  congr 1
  · exact sum_congr rfl fun r _ => by ring
  · rw [mul_right_comm, ← Real.exp_add]; congr 2; ring

theorem St_zero (k g : ℕ → D → ℝ) (v : ℕ → E → ℝ) (d : D) (e : E) : St k g v 0 d e = 0 := by
  simp [St]

theorem Tt_end (q g : ℕ → D → ℝ) (o : ℕ → E → ℝ) (N : ℕ) (d : D) (e : E) : Tt q g o N N d e = 0 := by
  simp [Tt]

end

section
omit [Fintype D]

/-- What the state adds to a row of the gradient of the queries. -/
theorem o_St (k g : ℕ → D → ℝ) (v o : ℕ → E → ℝ) (m t : ℕ) (d : D) :
    ∑ e, o t e * St k g v m d e = Real.exp (B g m d) * ∑ u ∈ range m, ws v o t u * ys k g u d := by
  unfold St ws
  simp only [mul_sum, sum_mul]
  rw [sum_comm]
  exact sum_congr rfl fun u _ => sum_congr rfl fun e _ => by ring

/-- What the gradient of the state adds to a row of the gradient of the keys. -/
theorem v_Tt (q g : ℕ → D → ℝ) (v o : ℕ → E → ℝ) (N m u : ℕ) (d : D) :
    ∑ e, v u e * Tt q g o N m d e = Real.exp (-B g m d) * ∑ t ∈ Ico m N, ws v o t u * xs q g t d := by
  unfold Tt ws
  simp only [mul_sum, sum_mul]
  rw [sum_comm]
  exact sum_congr rfl fun u _ => sum_congr rfl fun e _ => by ring

/-- A row of the gradient of the decayed queries, up to the decay before the chunk. -/
theorem row_gx (k g : ℕ → D → ℝ) (v o : ℕ → E → ℝ) (m L r : ℕ) (hr : r < L) (d : D) :
    (∑ e, o (m + r) e * St k g v m d e)
      + ∑ u ∈ range L, (if u ≤ r then ws v o (m + r) (m + u) else 0) * (k (m + u) d * Real.exp (0 - bs g m u d))
      = gx k g v o (m + r) d * Real.exp (B g m d) := by
  simp only [k_exp, o_St, ite_mul, zero_mul]
  rw [← sum_filter, show (range L).filter (· ≤ r) = range (r + 1) by ext; simp; omega]
  unfold gx
  rw [add_assoc, sum_range_add _ m (r + 1), add_mul, mul_comm]
  congr 1
  rw [sum_mul]
  exact sum_congr rfl fun u _ => by ring

/-- A column of the gradient of the keys within the chunk. -/
theorem col_in (q g : ℕ → D → ℝ) (v o : ℕ → E → ℝ) (m L r : ℕ) (hr : r < L) (d : D) :
    (∑ t ∈ range L, (if r ≤ t then ws v o (m + t) (m + r) else 0) * (q (m + t) d * Real.exp (bs g m t d)))
      * Real.exp (0 - bs g m r d)
      = (∑ t ∈ Ico (m + r) (m + L), ws v o t (m + r) * xs q g t d) * Real.exp (-B g (m + r + 1) d) := by
  simp only [q_dec, ite_mul, zero_mul]
  rw [← sum_filter, show (range L).filter (fun t => r ≤ t) = Ico r L by ext; simp; omega,
    Nat.add_comm m r, Nat.add_comm m L, ← sum_Ico_add' (fun t => ws v o t (r + m) * xs q g t d) r L m, sum_mul, sum_mul]
  refine sum_congr rfl fun t _ => ?_
  rw [Nat.add_comm r m, Nat.add_comm t m, B_row, show -(B g m d + bs g m r d) = -B g m d + (0 - bs g m r d) by ring, Real.exp_add]
  ring

/-- A column of the gradient of the keys after the chunk. -/
theorem col_out (q g : ℕ → D → ℝ) (v o : ℕ → E → ℝ) (N m L r : ℕ) (d : D) :
    (∑ e, v (m + r) e * Tt q g o N (m + L) d e) * Real.exp (tot g m L d - bs g m r d)
      = (∑ t ∈ Ico (m + L) N, ws v o t (m + r) * xs q g t d) * Real.exp (-B g (m + r + 1) d) := by
  rw [v_Tt, B_row, B_add, mul_right_comm, ← Real.exp_add, mul_comm]
  congr 2; ring

theorem gy_split (q g : ℕ → D → ℝ) (v o : ℕ → E → ℝ) (N m L r : ℕ) (hr : r < L) (hN : m + L ≤ N) (d : D) :
    (∑ t ∈ Ico (m + r) (m + L), ws v o t (m + r) * xs q g t d) + ∑ t ∈ Ico (m + L) N, ws v o t (m + r) * xs q g t d
      = gy q g v o N (m + r) d :=
  sum_Ico_consecutive _ (by omega) hN

/-- The gradient of the sums of log decays after a position is what the positions up to it exchange with
    the positions after it. -/
theorem sum_gb (q k g : ℕ → D → ℝ) (v o : ℕ → E → ℝ) (N c : ℕ) (d : D) :
    ∑ t ∈ Ico c N, gb q k g v o N t d
      = ∑ u ∈ range c, ∑ t ∈ Ico c N, xs q g t d * ys k g u d * ws v o t u := by
  have h1 : ∀ t, gb q k g v o N t d = (∑ u ∈ range (t + 1), xs q g t d * ys k g u d * ws v o t u)
      - ∑ s ∈ Ico t N, xs q g s d * ys k g t d * ws v o s t := by
    intro t
    unfold gb gx gy
    rw [neg_add_eq_sub]
    congr 1
    · rw [mul_sum, sum_mul]; refine sum_congr rfl fun u _ => ?_; unfold xs; ring
    · rw [mul_sum, sum_mul]; refine sum_congr rfl fun u _ => ?_; unfold ys; ring
  simp only [h1]
  rw [sum_sub_distrib, sum_Ico_Ico_comm]
  rw [sum_comm (s := range c), ← sum_sub_distrib]
  refine sum_congr rfl fun t ht => ?_
  rw [mem_Ico] at ht
  rw [sub_eq_iff_eq_add, range_eq_Ico, ← sum_Ico_consecutive _ (Nat.zero_le c) (by omega : c ≤ t + 1), range_eq_Ico]

/-- What the states at the two ends of the chunk exchange. -/
theorem St_Tt (q k g : ℕ → D → ℝ) (v o : ℕ → E → ℝ) (N m L : ℕ) (d : D) :
    ∑ e, St k g v m d e * Tt q g o N (m + L) d e * Real.exp (tot g m L d)
      = ∑ u ∈ range m, ∑ t ∈ Ico (m + L) N, xs q g t d * ys k g u d * ws v o t u := by
  have he : Real.exp (B g m d) * Real.exp (-B g (m + L) d) * Real.exp (tot g m L d) = 1 := by
    rw [← Real.exp_add, ← Real.exp_add, B_add, Real.exp_eq_one_iff]; ring
  have h2 : ∀ e, St k g v m d e * Tt q g o N (m + L) d e * Real.exp (tot g m L d)
      = ∑ u ∈ range m, ∑ t ∈ Ico (m + L) N, xs q g t d * ys k g u d * (o t e * v u e) := by
    intro e
    unfold St Tt
    rw [show ∀ a b c x y : ℝ, a * x * (b * y) * c = (a * b * c) * (x * y) by intros; ring, he, one_mul, sum_mul]
    refine sum_congr rfl fun u _ => ?_
    rw [mul_sum]
    exact sum_congr rfl fun t _ => by ring
  simp only [h2]
  rw [sum_comm]
  refine sum_congr rfl fun u _ => ?_
  rw [sum_comm]
  refine sum_congr rfl fun t _ => ?_
  unfold ws; rw [mul_sum]

/-- The gradient of a chunk's query rows. -/
theorem chunk_gq (k g : ℕ → D → ℝ) (v o : ℕ → E → ℝ) (m L r : ℕ) (hr : r < L) (d : D) :
    ((∑ e, o (m + r) e * St k g v m d e)
      + ∑ u ∈ range L, (if u ≤ r then ws v o (m + r) (m + u) else 0) * (k (m + u) d * Real.exp (0 - bs g m u d)))
      * Real.exp (bs g m r d)
      = gq k g v o (m + r) d := by
  rw [row_gx k g v o m L r hr]
  unfold gq
  rw [B_row, Real.exp_add]; ring

/-- The gradient of a chunk's key rows. -/
theorem chunk_gk (q g : ℕ → D → ℝ) (v o : ℕ → E → ℝ) (N m L r : ℕ) (hr : r < L) (hN : m + L ≤ N) (d : D) :
    (∑ e, v (m + r) e * Tt q g o N (m + L) d e) * Real.exp (tot g m L d - bs g m r d)
      + (∑ t ∈ range L, (if r ≤ t then ws v o (m + t) (m + r) else 0) * (q (m + t) d * Real.exp (bs g m t d)))
      * Real.exp (0 - bs g m r d)
      = gk q g v o N (m + r) d := by
  rw [col_in q g v o m L r hr, col_out, ← add_mul, add_comm (∑ t ∈ Ico (m + L) N, _), gy_split q g v o N m L r hr hN]
  rfl

/-- The gradient of a chunk's log decays: the exchange of the states, the exchange of the chunk's rows with
    what comes after the chunk, and the sums within the chunk. -/
theorem chunk_gg (q k g : ℕ → D → ℝ) (v o : ℕ → E → ℝ) (N m L r : ℕ) (hr : r < L) (hN : m + L ≤ N) (d : D)
    (P Q R : ℕ → ℝ)
    (hP : ∀ i < L, P i = k (m + i) d * (∑ e, v (m + i) e * Tt q g o N (m + L) d e) * Real.exp (tot g m L d - bs g m i d))
    (hQ : ∀ i < L, Q i = k (m + i) d
      * (∑ t ∈ range L, (if i ≤ t then ws v o (m + t) (m + i) else 0) * (q (m + t) d * Real.exp (bs g m t d)))
      * Real.exp (0 - bs g m i d))
    (hR : ∀ i < L, R i = q (m + i) d * ((∑ e, o (m + i) e * St k g v m d e)
      + ∑ u ∈ range L, (if u ≤ i then ws v o (m + i) (m + u) else 0) * (k (m + u) d * Real.exp (0 - bs g m u d)))
      * Real.exp (bs g m i d)) :
    ((∑ e, St k g v m d e * Tt q g o N (m + L) d e * Real.exp (tot g m L d)) + ∑ i ∈ range L, P i)
      + ∑ i ∈ range L, (if r ≤ i then ((0 - P i) + (0 - Q i)) + R i else 0)
      = gg q k g v o N (m + r) d := by
  have hPA : ∀ i < L, P i = ∑ t ∈ Ico (m + L) N, xs q g t d * ys k g (m + i) d * ws v o t (m + i) := by
    intro i hi
    rw [hP i hi, mul_assoc, col_out, mul_left_comm, ← mul_assoc, sum_mul, sum_mul]
    refine sum_congr rfl fun t _ => ?_
    unfold ys; ring
  have hgb : ∀ i < L, ((0 - P i) + (0 - Q i)) + R i = gb q k g v o N (m + i) d := by
    intro i hi
    have h1 : P i + Q i = k (m + i) d * gy q g v o N (m + i) d * Real.exp (-B g (m + i + 1) d) := by
      have := chunk_gk q g v o N m L i hi hN d
      unfold gk at this
      rw [hP i hi, hQ i hi, mul_assoc, mul_assoc, ← mul_add, this]; ring
    have h2 : R i = q (m + i) d * gx k g v o (m + i) d * Real.exp (B g (m + i + 1) d) := by
      have := chunk_gq k g v o m L i hi d
      unfold gq at this
      rw [hR i hi, mul_assoc, this]; ring
    unfold gb
    rw [h2, ← h1]; ring
  unfold gg
  rw [← sum_Ico_consecutive _ (by omega : m + r ≤ m + L) hN, sum_gb, add_comm]
  congr 1
  · rw [← sum_filter, show (range L).filter (fun t => r ≤ t) = Ico r L by ext; simp; omega, Nat.add_comm m r, Nat.add_comm m L,
      ← sum_Ico_add' (fun t => gb q k g v o N t d) r L m]
    refine sum_congr rfl fun i hi => ?_
    rw [mem_Ico] at hi
    rw [hgb i hi.2, Nat.add_comm i m]
  · rw [St_Tt, sum_range_add]
    congr 1
    exact sum_congr rfl fun i hi => hPA i (mem_range.mp hi)

end

/-- The gradient of a chunk's value rows. -/
theorem chunk_gv (q k g : ℕ → D → ℝ) (o : ℕ → E → ℝ) (N m L r : ℕ) (hr : r < L) (hN : m + L ≤ N) (e : E) :
    (∑ d, (k (m + r) d * Real.exp (tot g m L d - bs g m r d)) * Tt q g o N (m + L) d e)
      + (∑ t ∈ range L, (if r ≤ t then ∑ d, (q (m + t) d * Real.exp (bs g m t d)) * (k (m + r) d * Real.exp (0 - bs g m r d)) else 0)
        * o (m + t) e)
      = gv q k g o N (m + r) e := by
  simp only [k_dec, q_dec, k_exp, ite_mul, zero_mul]
  unfold gv
  rw [← sum_Ico_consecutive _ (by omega : m + r ≤ m + L) hN, add_comm]
  congr 1
  · rw [← sum_filter, show (range L).filter (fun t => r ≤ t) = Ico r L by ext; simp; omega, Nat.add_comm m r, Nat.add_comm m L,
      ← sum_Ico_add' (fun t => (∑ d, xs q g t d * ys k g (r + m) d) * o t e) r L m]
    refine sum_congr rfl fun t _ => ?_
    rw [Nat.add_comm t m, Nat.add_comm r m]
    congr 1
    refine sum_congr rfl fun d _ => ?_
    have : Real.exp (-B g m d) * Real.exp (B g m d) = 1 := by rw [← Real.exp_add]; simp
    linear_combination (xs q g (m + t) d * ys k g (m + r) d) * this
  · unfold Tt
    simp only [mul_sum, sum_mul]
    rw [sum_comm]
    refine sum_congr rfl fun t _ => sum_congr rfl fun d _ => ?_
    have : Real.exp (-B g (m + L) d) * Real.exp (B g (m + L) d) = 1 := by rw [← Real.exp_add]; simp
    linear_combination (xs q g t d * ys k g (m + r) d * o t e) * this

end Cert.Gla
-- ==== Proof.Gla.Read.lean ====
/- The functions of Block.lean at the ideal reading, on blocks of real numbers: each is the block of real
   numbers that Real.lean's chunk results speak of. -/
module

public import proofs.«01_k».proof.Proof.Gla.Block
public import proofs.«01_k».proof.Proof.Gla.Real
public import Idealize.ShloMosaic.Lib.Pointwise

@[expose] public section

noncomputable section

namespace Cert.Gla

open Cert.KernelIdeal Cert.KernelIdeal.Gen Idealize.ShloMosaic Idealize.ShloMosaic.Pointwise Finset

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

theorem coe_ite (p : Prop) [Decidable p] (x y : ℝ) : ((if p then x else y : ℝ) : EReal) = if p then (x : EReal) else (y : EReal) := by
  split <;> rfl

/-- The block `x` holds the real numbers `X`. -/
def Is {a b : ℕ} {φ : FTy} (x : FVec Ideal ⟨2, ![a, b]⟩ φ) (X : Fin a → Fin b → ℝ) : Prop :=
  ∀ (i : Fin a) (j : Fin b), x (ix2 i j) = ((X i j : ℝ) : EReal)

theorem Is.congr {a b : ℕ} {φ : FTy} {x : FVec Ideal ⟨2, ![a, b]⟩ φ} {X Y : Fin a → Fin b → ℝ} (h : Is x X)
    (e : ∀ i j, X i j = Y i j) : Is x Y := fun i j => by rw [h i j, e i j]

/-! ## The operations -/

theorem is_hi {a b : ℕ} {x : FVec Ideal ⟨2, ![a, b]⟩ .f32} {X : Fin a → Fin b → ℝ} (h : Is x X) : Is (hi x) X := fun i j => h i j

theorem is_lo {a b : ℕ} {x : FVec Ideal ⟨2, ![a, b]⟩ .f32} {X : Fin a → Fin b → ℝ} (h : Is x X) : Is (lo x) (fun _ _ => 0) := fun i j => by
  show x (ix2 i j) - x (ix2 i j) = _
  rw [h i j, ← EReal.coe_sub, sub_self]

theorem is_lo2 {a b : ℕ} {x : FVec Ideal ⟨2, ![a, b]⟩ .f32} {X : Fin a → Fin b → ℝ} (h : Is x X) : Is (lo2 x) (fun _ _ => 0) := fun i j => by
  show x (ix2 i j) - x (ix2 i j) - (x (ix2 i j) - x (ix2 i j)) = _
  rw [h i j, ← EReal.coe_sub, sub_self, ← EReal.coe_sub, sub_self]

theorem is_mul {a b : ℕ} {x y : FVec Ideal ⟨2, ![a, b]⟩ .f32} {X Y : Fin a → Fin b → ℝ} (hx : Is x X) (hy : Is y Y) :
    Is (mulf x y) (fun i j => X i j * Y i j) := fun i j => by
  show x (ix2 i j) * y (ix2 i j) = _
  rw [hx i j, hy i j, ← EReal.coe_mul]

theorem is_add {a b : ℕ} {x y : FVec Ideal ⟨2, ![a, b]⟩ .f32} {X Y : Fin a → Fin b → ℝ} (hx : Is x X) (hy : Is y Y) :
    Is (addf x y) (fun i j => X i j + Y i j) := fun i j => by
  show x (ix2 i j) + y (ix2 i j) = _
  rw [hx i j, hy i j, ← EReal.coe_add]

theorem is_sub {a b : ℕ} {x y : FVec Ideal ⟨2, ![a, b]⟩ .f32} {X Y : Fin a → Fin b → ℝ} (hx : Is x X) (hy : Is y Y) :
    Is (subf x y) (fun i j => X i j - Y i j) := fun i j => by
  show x (ix2 i j) - y (ix2 i j) = _
  rw [hx i j, hy i j, ← EReal.coe_sub]

theorem is_exp {a b : ℕ} {x : FVec Ideal ⟨2, ![a, b]⟩ .f32} {X : Fin a → Fin b → ℝ} (hx : Is x X) :
    Is (exp x) (fun i j => Real.exp (X i j)) := fun i j => by
  show Ideal.exp (x (ix2 i j)) = _
  rw [hx i j, Ideal.exp_coe]

theorem is_zero {a b : ℕ} : Is (broadcast ⟨2, ![a, b]⟩ (Scalar.ofBits .f32 0x00000000#32 : Ideal .f32)) (fun _ _ => 0) := fun i j => by
  show Ideal.ofBits .f32 0x00000000#32 = _
  rw [Ideal.ofBits_zero_f32, EReal.coe_zero]

/-! ## The products -/

/-- Rows times rows. -/
theorem sum_mm {n : ℕ} (A B : Fin n → ℝ) {f g : Fin n → EReal} (hf : ∀ x, f x = (A x : EReal)) (hg : ∀ x, g x = (B x : EReal)) :
    ∑ x, f x * g x = ((∑ x, A x * B x : ℝ) : EReal) := by
  rw [coe_sum]
  exact sum_congr rfl fun x _ => by rw [hf, hg, EReal.coe_mul]

theorem is_mm_score {x y : FVec Ideal S64x128 .bf16} {X Y : Fin 64 → Fin 128 → ℝ} (hx : Is x X) (hy : Is y Y) :
    Is (matmul dot_S64x128_S64x128_S64x64_1_1_0_0_n_n none x y (z S64x64)) (fun i j => ∑ d, X i d * Y j d) := fun i j => by
  pointwise [z]
  exact sum_mm (X i) (Y j) (hx i) (hy j)

theorem is_mm_dscore {x y : FVec Ideal S64x256 .bf16} {X Y : Fin 64 → Fin 256 → ℝ} (hx : Is x X) (hy : Is y Y) :
    Is (matmul dot_S64x256_S64x256_S64x64_1_1_0_0_n_n none x y (z S64x64)) (fun i j => ∑ d, X i d * Y j d) := fun i j => by
  pointwise [z]
  exact sum_mm (X i) (Y j) (hx i) (hy j)

theorem is_mm_state {x : FVec Ideal S64x128 .bf16} {y : FVec Ideal S64x256 .bf16} {X : Fin 64 → Fin 128 → ℝ} {Y : Fin 64 → Fin 256 → ℝ} (hx : Is x X) (hy : Is y Y) :
    Is (matmul dot_S64x128_S64x256_S128x256_0_0_1_1_n_n none x y (z S128x256)) (fun i j => ∑ r, X r i * Y r j) := fun i j => by
  pointwise [z]
  exact sum_mm (fun r => X r i) (fun r => Y r j) (fun r => hx r i) (fun r => hy r j)

theorem is_mm_row {x : FVec Ideal S64x256 .bf16} {y : FVec Ideal S128x256 .bf16} {X : Fin 64 → Fin 256 → ℝ} {Y : Fin 128 → Fin 256 → ℝ} (hx : Is x X) (hy : Is y Y) :
    Is (matmul dot_S64x256_S128x256_S64x128_1_1_0_0_n_n none x y (z S64x128)) (fun i j => ∑ e, X i e * Y j e) := fun i j => by
  pointwise [z]
  exact sum_mm (X i) (Y j) (hx i) (hy j)

theorem is_mm_lower {x : FVec Ideal S64x64 .bf16} {y : FVec Ideal S64x128 .bf16} {X : Fin 64 → Fin 64 → ℝ} {Y : Fin 64 → Fin 128 → ℝ} (hx : Is x X) (hy : Is y Y) :
    Is (matmul dot_S64x64_S64x128_S64x128_1_0_0_1_n_n none x y (z S64x128)) (fun i j => ∑ u, X i u * Y u j) := fun i j => by
  pointwise [z]
  exact sum_mm (X i) (fun u => Y u j) (hx i) (fun u => hy u j)

theorem is_mm_upper {x : FVec Ideal S64x64 .bf16} {y : FVec Ideal S64x128 .bf16} {X : Fin 64 → Fin 64 → ℝ} {Y : Fin 64 → Fin 128 → ℝ} (hx : Is x X) (hy : Is y Y) :
    Is (matmul dot_S64x64_S64x128_S64x128_0_0_1_1_n_n none x y (z S64x128)) (fun i j => ∑ t, X t i * Y t j) := fun i j => by
  pointwise [z]
  exact sum_mm (fun t => X t i) (fun t => Y t j) (fun t => hx t i) (fun t => hy t j)

theorem is_mm_upper' {x : FVec Ideal S64x64 .bf16} {y : FVec Ideal S64x256 .bf16} {X : Fin 64 → Fin 64 → ℝ} {Y : Fin 64 → Fin 256 → ℝ} (hx : Is x X) (hy : Is y Y) :
    Is (matmul dot_S64x64_S64x256_S64x256_0_0_1_1_n_n none x y (z S64x256)) (fun i j => ∑ t, X t i * Y t j) := fun i j => by
  pointwise [z]
  exact sum_mm (fun t => X t i) (fun t => Y t j) (fun t => hx t i) (fun t => hy t j)

theorem is_mm_out {x : FVec Ideal S64x128 .bf16} {y : FVec Ideal S128x256 .bf16} {X : Fin 64 → Fin 128 → ℝ} {Y : Fin 128 → Fin 256 → ℝ} (hx : Is x X) (hy : Is y Y) :
    Is (matmul dot_S64x128_S128x256_S64x256_1_0_0_1_n_n none x y (z S64x256)) (fun i j => ∑ d, X i d * Y d j) := fun i j => by
  pointwise [z]
  exact sum_mm (X i) (fun d => Y d j) (hx i) (fun d => hy d j)

theorem is_mm_col {x : FVec Ideal S64x128 .bf16} {X : Fin 64 → Fin 128 → ℝ} (hx : Is x X) :
    Is (matmul dot_S64x128_S64x256_S128x256_0_0_1_1_n_n none x (broadcast S64x256 (Scalar.ofBits .bf16 0x3F80#16)) (z S128x256))
      (fun i _ => ∑ r, X r i) := fun i j => by
  pointwise [z]
  rw [coe_sum]
  exact sum_congr rfl fun r _ => hx r i

theorem is_mm_rowsum {x : FVec Ideal S128x256 .bf16} {X : Fin 128 → Fin 256 → ℝ} (hx : Is x X) :
    Is (matmul dot_S64x256_S128x256_S64x128_1_1_0_0_n_n none (hi (broadcast S64x256 (Scalar.ofBits .f32 0x3F800000#32))) x (z S64x128))
      (fun _ j => ∑ e, X j e) := fun i j => by
  pointwise [z, hi]
  rw [coe_sum]
  exact sum_congr rfl fun e _ => hx j e

/-! ## The triangle -/

theorem tri_at (i j : Fin 64) : tri (ix2 i j) = if j ≤ i then 1#1 else 0#1 := by
  pointwise [tri]
  revert i j
  decide +kernel

theorem is_tri01 : Is (tri01 (F := Ideal)) (fun i j => if j ≤ i then 1 else 0) := fun i j => by
  show FloatOps.sitofp (F := Ideal) .f32 ((tri (ix2 i j)).setWidth 32) = _
  rw [tri_at]
  beta_reduce
  by_cases h : j ≤ i
  · rw [if_pos h, if_pos h]
    show (((1#32 : BitVec 32).toInt : ℝ) : EReal) = _
    norm_num
  · rw [if_neg h, if_neg h]
    show (((0#32 : BitVec 32).toInt : ℝ) : EReal) = _
    norm_num

theorem is_select {x : FVec Ideal S64x64 .f32} {X : Fin 64 → Fin 64 → ℝ} (hx : Is x X) :
    Is (select tri x (broadcast S64x64 (Scalar.ofBits .f32 0x00000000#32))) (fun i j => if j ≤ i then X i j else 0) := fun i j => by
  show Scalar.select (tri (ix2 i j)) (x (ix2 i j)) (Ideal.ofBits .f32 0x00000000#32) = _
  rw [tri_at, hx i j, Ideal.ofBits_zero_f32]
  beta_reduce
  by_cases h : j ≤ i
  · rw [if_pos h, if_pos h]; rfl
  · rw [if_neg h, if_neg h]; rfl

/-! ## The sums -/

section
variable {g' : FVec Ideal S64x128 .f32} {G : Fin 64 → Fin 128 → ℝ}

theorem is_cum {g : ℕ → Fin 128 → ℝ} {m : ℕ} (h : Is g' fun r d => g (m + r) d) : Is (cum g') (fun r d => bs g m r d) := by
  refine (is_add (is_mm_lower is_tri01 (is_hi h)) (is_add (is_mm_lower is_tri01 (is_lo h)) (is_mm_lower is_tri01 (is_lo2 h)))).congr
    fun i j => ?_
  simp only [mul_zero, sum_const_zero, add_zero, ite_mul, one_mul, zero_mul]
  unfold bs
  have hi' := i.2
  rw [show range (i.val + 1) = (range 64).filter (fun u => u ≤ i.val) by ext; simp; omega, sum_filter, sum_range]
  rfl

theorem is_revcum (h : Is g' G) : Is (revcum g') (fun i j => ∑ u, if i ≤ u then G u j else 0) := by
  refine (is_add (is_mm_upper is_tri01 (is_hi h)) (is_add (is_mm_upper is_tri01 (is_lo h)) (is_mm_upper is_tri01 (is_lo2 h)))).congr
    fun i j => ?_
  simp only [mul_zero, sum_const_zero, add_zero, ite_mul, one_mul, zero_mul]

theorem is_colTot (h : Is g' G) : Is (colTot g') (fun _ j => ∑ u, G u j) := fun i j => by
  pointwise [colTot]
  rw [coe_sum]
  exact sum_congr rfl fun r _ => h r j

theorem is_colTot' (h : Is g' G) : Is (colTot' g') (fun _ j => ∑ u, G u j) := fun i j => by
  pointwise [colTot']
  rw [coe_sum, Finset.univ_unique, sum_singleton]
  exact sum_congr rfl fun r _ => h r j

theorem is_rowTot {x : FVec Ideal S128x256 .f32} {X : Fin 128 → Fin 256 → ℝ} (h : Is x X) : Is (rowTot x) (fun _ j => ∑ e, X j e) := by
  refine (is_add (is_mm_rowsum (is_hi h)) (is_add (is_mm_rowsum (is_lo h)) (is_mm_rowsum (is_lo2 h)))).congr fun i j => ?_
  simp only [sum_const_zero, add_zero]

end

theorem is_same {o : FVec Ideal S64x256 .f32} {O : Fin 64 → Fin 256 → ℝ} (h : Is o O) : Is (same o) O := fun i j => by
  pointwise [same]
  exact h i j

/-! ## A chunk -/

section
variable {q' k' g' : FVec Ideal S64x128 .f32} {v' o' : FVec Ideal S64x256 .f32} {S T : FVec Ideal S128x256 .f32}
  {q k g : ℕ → Fin 128 → ℝ} {v o : ℕ → Fin 256 → ℝ} {m N : ℕ}

theorem is_decay (hg : Is g' fun r d => g (m + r) d) : Is (decay g') (fun d _ => Real.exp (tot g m 64 d)) := by
  refine (is_exp (is_add (is_mm_col (is_hi hg)) (is_add (is_mm_col (is_lo hg)) (is_mm_col (is_lo2 hg))))).congr fun i j => ?_
  simp only [sum_const_zero, add_zero, tot, sum_range]

theorem is_eb (hg : Is g' fun r d => g (m + r) d) : Is (eb g') (fun r d => Real.exp (bs g m r d)) := is_exp (is_cum hg)

theorem is_en (hg : Is g' fun r d => g (m + r) d) : Is (en g') (fun r d => Real.exp (0 - bs g m r d)) :=
  is_exp (is_sub is_zero (is_cum hg))

theorem is_et (hg : Is g' fun r d => g (m + r) d) : Is (et g') (fun r d => Real.exp (tot g m 64 d - bs g m r d)) :=
  (is_exp (is_sub (is_colTot hg) (is_cum hg))).congr fun i j => by simp only [tot, sum_range]

theorem is_datt (hv : Is v' fun r e => v (m + r) e) (ho : Is o' fun r e => o (m + r) e) :
    Is (datt v' o') (fun t u => if u ≤ t then ws v o (m + t) (m + u) else 0) :=
  is_select (is_mm_dscore (is_hi (is_same ho)) (is_hi hv))

theorem is_att (hq : Is (qs q') fun r d => q (m + r) d) (hk : Is k' fun r d => k (m + r) d) (hg : Is g' fun r d => g (m + r) d) :
    Is (att q' k' g') (fun t u => if u ≤ t then
      ∑ d, (q (m + t) d * Real.exp (bs g m t d)) * (k (m + u) d * Real.exp (0 - bs g m u d)) else 0) :=
  is_select (is_mm_score (is_hi (is_mul hq (is_eb hg))) (is_hi (is_mul hk (is_en hg))))

theorem is_stS (hk : Is k' fun r d => k (m + r) d) (hv : Is v' fun r e => v (m + r) e) (hg : Is g' fun r d => g (m + r) d)
    (hS : Is S (St k g v m)) : Is (stS k' v' g' S) (St k g v (m + 64)) :=
  (is_add (is_mul hS (is_decay hg)) (is_mm_state (is_hi (is_mul hk (is_et hg))) (is_hi hv))).congr fun d e => by
    rw [← St_step k g v m 64 d e, sum_range]

theorem is_stT (hq : Is (qs q') fun r d => q (m + r) d) (ho : Is o' fun r e => o (m + r) e) (hg : Is g' fun r d => g (m + r) d)
    (hN : m + 64 ≤ N) (hT : Is T (Tt q g o N (m + 64))) : Is (stT q' g' o' T) (Tt q g o N m) :=
  (is_add (is_mul hT (is_decay hg)) (is_mm_state (is_hi (is_mul hq (is_eb hg))) (is_hi (is_same ho)))).congr fun d e => by
    rw [← Tt_step q g o N m 64 hN d e, sum_range]

theorem is_dqd (hk : Is k' fun r d => k (m + r) d) (hv : Is v' fun r e => v (m + r) e) (hg : Is g' fun r d => g (m + r) d)
    (ho : Is o' fun r e => o (m + r) e) (hS : Is S (St k g v m)) :
    Is (dqd k' g' v' o' S) (fun r d => (∑ e, o (m + r) e * St k g v m d e)
      + ∑ u ∈ range 64, (if u ≤ r then ws v o (m + r) (m + u) else 0) * (k (m + u) d * Real.exp (0 - bs g m u d))) :=
  (is_add (is_mm_row (is_hi (is_same ho)) (is_hi hS)) (is_mm_lower (is_hi (is_datt hv ho)) (is_hi (is_mul hk (is_en hg))))).congr
    fun r d => by rw [sum_range]; rfl

theorem is_dke (hq : Is (qs q') fun r d => q (m + r) d) (hv : Is v' fun r e => v (m + r) e) (hg : Is g' fun r d => g (m + r) d)
    (ho : Is o' fun r e => o (m + r) e) :
    Is (dke q' g' v' o') (fun r d => ∑ t ∈ range 64, (if r ≤ t then ws v o (m + t) (m + r) else 0) * (q (m + t) d * Real.exp (bs g m t d))) :=
  (is_mm_upper (is_hi (is_datt hv ho)) (is_hi (is_mul hq (is_eb hg)))).congr fun r d => by rw [sum_range]; rfl

theorem is_dkd (hv : Is v' fun r e => v (m + r) e) (hT : Is T (Tt q g o N (m + 64))) :
    Is (dkd v' T) (fun r d => ∑ e, v (m + r) e * Tt q g o N (m + 64) d e) := is_mm_row (is_hi hv) (is_hi hT)

/-- The gradient of the queries, up to the scale `s`. -/
theorem is_dq {s : ℝ} (hs : Ideal.ofBits .f32 0x3DB504F3#32 = (s : EReal)) (hk : Is k' fun r d => k (m + r) d)
    (hv : Is v' fun r e => v (m + r) e) (hg : Is g' fun r d => g (m + r) d) (ho : Is o' fun r e => o (m + r) e)
    (hS : Is S (St k g v m)) : Is (dq k' g' v' o' S) (fun r d => gq k g v o (m + r) d * s) :=
  (is_mul (is_mul (is_dqd hk hv hg ho hS) (is_eb hg)) (Y := fun _ _ => s) (fun _ _ => hs)).congr fun r d => by
    rw [← chunk_gq k g v o m 64 r r.2 d]

theorem is_dk (hq : Is (qs q') fun r d => q (m + r) d) (hv : Is v' fun r e => v (m + r) e) (hg : Is g' fun r d => g (m + r) d)
    (ho : Is o' fun r e => o (m + r) e) (hN : m + 64 ≤ N) (hT : Is T (Tt q g o N (m + 64))) :
    Is (dk q' g' v' o' T) (fun r d => gk q g v o N (m + r) d) :=
  (is_add (is_mul (is_dkd hv hT) (is_et hg)) (is_mul (is_dke hq hv hg ho) (is_en hg))).congr fun r d => by
    rw [← chunk_gk q g v o N m 64 r r.2 hN d]

theorem is_dv (hq : Is (qs q') fun r d => q (m + r) d) (hk : Is k' fun r d => k (m + r) d) (hg : Is g' fun r d => g (m + r) d)
    (ho : Is o' fun r e => o (m + r) e) (hN : m + 64 ≤ N) (hT : Is T (Tt q g o N (m + 64))) :
    Is (dv q' k' g' o' T) (fun r e => gv q k g o N (m + r) e) :=
  (is_add (is_mm_out (is_hi (is_mul hk (is_et hg))) (is_hi hT)) (is_mm_upper' (is_hi (is_att hq hk hg)) (is_hi (is_same ho)))).congr
    fun r e => by rw [← chunk_gv q k g o N m 64 r r.2 hN e, sum_range]; rfl

theorem is_dg (hq : Is (qs q') fun r d => q (m + r) d) (hk : Is k' fun r d => k (m + r) d) (hv : Is v' fun r e => v (m + r) e)
    (hg : Is g' fun r d => g (m + r) d) (ho : Is o' fun r e => o (m + r) e) (hN : m + 64 ≤ N) (hS : Is S (St k g v m))
    (hT : Is T (Tt q g o N (m + 64))) : Is (dg q' k' g' v' o' S T) (fun r d => gg q k g v o N (m + r) d) := by
  have hP := is_mul (is_mul hk (is_dkd hv hT)) (is_et hg)
  have hQ := is_mul (is_mul hk (is_dke hq hv hg ho)) (is_en hg)
  have hR := is_mul (is_mul hq (is_dqd hk hv hg ho hS)) (is_eb hg)
  refine (is_add (is_add (is_rowTot (is_mul (is_mul hS hT) (is_decay hg))) (is_colTot' hP))
    (is_revcum (is_add (is_add (is_sub is_zero hP) (is_sub is_zero hQ)) hR))).congr fun r d => ?_
  rw [← chunk_gg q k g v o N m 64 r r.2 hN d _ _ _ (fun i _ => rfl) (fun i _ => rfl) (fun i _ => rfl), sum_range (n := 64), sum_range (n := 64)]
  rfl

end

end Cert.Gla
-- ==== Proof.Gla.Point.lean ====
/- One grid point at the ideal reading: from blocks of real numbers, the state before its chunks and the
   gradient of the state after them, it leaves the rows of the four gradients and the gradient of the state
   before its chunks. -/
module

public import proofs.«01_k».proof.Proof.Gla.Pieces
public import proofs.«01_k».proof.Proof.Gla.Read

@[expose] public section

set_option maxRecDepth 16384

noncomputable section

namespace Cert.Gla

open Cert.KernelIdeal Cert.KernelIdeal.Gen Idealize.ShloMosaic Idealize.ShloMosaic.Pointwise Finset

/-! ## The arrays of the heads -/

/-- The real numbers of the three arguments, and the scale of the queries. -/
structure Args where
  p : ℕ → ℕ → ℝ
  g : ℕ → ℕ → ℝ
  o : ℕ → ℕ → ℝ
  s : ℝ

namespace Args

variable (A : Args) (h : ℕ)

/-- The scaled queries, the keys, the values, the log decays and the gradient of the output, of head `h`. -/
def qh (t : ℕ) (d : Fin 128) : ℝ := A.p t (128 * h + d) * A.s
@[inherit_doc qh]
def kh (t : ℕ) (d : Fin 128) : ℝ := A.p t (512 + (128 * h + d))
@[inherit_doc qh]
def vh (t : ℕ) (e : Fin 256) : ℝ := A.p t (1024 + (256 * h + e))
@[inherit_doc qh]
def gh (t : ℕ) (d : Fin 128) : ℝ := A.g t (128 * h + d)
@[inherit_doc qh]
def oh (t : ℕ) (e : Fin 256) : ℝ := A.o t (256 * h + e)

/-- The state before position `m`, and its gradient. -/
def St (m : ℕ) (d : Fin 128) (e : Fin 256) : ℝ := Gla.St (A.kh h) (A.gh h) (A.vh h) m d e
@[inherit_doc St]
def Tt (m : ℕ) (d : Fin 128) (e : Fin 256) : ℝ := Gla.Tt (A.qh h) (A.gh h) (A.oh h) 4224 m d e

/-- The gradients of the queries, keys, values and log decays at position `t` and column `c`. -/
def Gq (t c : ℕ) : ℝ := gq (A.kh (c / 128)) (A.gh (c / 128)) (A.vh (c / 128)) (A.oh (c / 128)) t ⟨c % 128, Nat.mod_lt _ (by decide)⟩ * A.s
@[inherit_doc Gq]
def Gk (t c : ℕ) : ℝ :=
  gk (A.qh (c / 128)) (A.gh (c / 128)) (A.vh (c / 128)) (A.oh (c / 128)) 4224 t ⟨c % 128, Nat.mod_lt _ (by decide)⟩
@[inherit_doc Gq]
def Gv (t c : ℕ) : ℝ :=
  gv (A.qh (c / 256)) (A.kh (c / 256)) (A.gh (c / 256)) (A.oh (c / 256)) 4224 t ⟨c % 256, Nat.mod_lt _ (by decide)⟩
@[inherit_doc Gq]
def Gg (t c : ℕ) : ℝ :=
  gg (A.qh (c / 128)) (A.kh (c / 128)) (A.gh (c / 128)) (A.vh (c / 128)) (A.oh (c / 128)) 4224 t ⟨c % 128, Nat.mod_lt _ (by decide)⟩

end Args

/-! ## The parts of a block -/

theorem Is.at {a b : ℕ} {φ : FTy} {x : FVec Ideal ⟨2, ![a, b]⟩ φ} {X : Fin a → Fin b → ℝ} (h : Is x X) (y : (⟨2, ![a, b]⟩ : Shape).Idx) :
    x y = ((X (y 0) (y 1) : ℝ) : EReal) := (congrArg x (eq_ix2 y)).trans (h (y 0) (y 1))

theorem is_cut128 {x : Vec Ideal S192x512 .f32} {X : Fin 192 → Fin 512 → ℝ} {Y : Fin 64 → Fin 128 → ℝ} (a : Fin 3) (h : Fin 4)
    (hx : Is (φ := .f32) x X) (hY : ∀ (r : Fin 64) (d : Fin 128), X ⟨64 * a + r, by omega⟩ ⟨128 * h + d, by omega⟩ = Y r d) :
    Is (cut128 x a h) Y := fun r d => by
  rw [← hY r d, ← hx]
  show x _ = x _
  congr 1
  ext b; fin_cases b <;> simp [Rect.emb, Rect.unit, ix2]

theorem is_cut256 {x : Vec Ideal S192x1024 .f32} {X : Fin 192 → Fin 1024 → ℝ} {Y : Fin 64 → Fin 256 → ℝ} (a : Fin 3) (h : Fin 4)
    (hx : Is (φ := .f32) x X) (hY : ∀ (r : Fin 64) (d : Fin 256), X ⟨64 * a + r, by omega⟩ ⟨256 * h + d, by omega⟩ = Y r d) :
    Is (cut256 x a h) Y := fun r d => by
  rw [← hY r d, ← hx]
  show x _ = x _
  congr 1
  ext b; fin_cases b <;> simp [Rect.emb, Rect.unit, ix2]

theorem cast4 (y : FVec Ideal S1x1x128x256 .f32) (d : Fin 128) (e : Fin 256) :
    shapeCast S128x256 y shapeCasts_S1x1x128x256_S128x256 (ix2 d e) = y (ix4 0 0 d e) := by
  pointwise

theorem cast3 (y : FVec Ideal S1x128x256 .f32) (d : Fin 128) (e : Fin 256) :
    shapeCast S128x256 (shapeCast S128x256 y shapeCasts_S1x128x256_S128x256) shapeCasts_S128x256_S128x256 (ix2 d e) = y (ix3 0 d e) := by
  pointwise

theorem cast3' (y : FVec Ideal S128x256 .f32) (d : Fin 128) (e : Fin 256) :
    Ins.out y (ix3 0 d e) = y (ix2 d e) := by
  pointwise [Ins.out]

theorem cutS_at (x : Vec Ideal S4x3x128x256 .f32) (h : Fin 4) (d : Fin 128) (e : Fin 256) :
    cutS x h (ix2 d e) = x (ix4 h 0 d e) := by
  unfold cutS
  rw [cast4]
  show x _ = x _
  congr 1
  ext b; fin_cases b <;> simp [Rect.emb, Rect.unit, ix4]

theorem cutT_at (x : Vec Ideal S4x128x256 .f32) (h : Fin 4) (d : Fin 128) (e : Fin 256) :
    cutT x h (ix2 d e) = x (ix3 h d e) := by
  unfold cutT
  rw [cast3]
  show x _ = x _
  congr 1
  ext b; fin_cases b <;> simp [Rect.emb, Rect.unit, ix3]

/-! ## A grid point -/

/-- Stores under others that cover an index are not seen there. -/
theorem canon_append {s : Shape} {e : EltTy} {Val : EltTy → Type} [∀ e, Nonempty (Val e)] (L' : List (View.Piece Val s e)) :
    ∀ (L : List (View.Piece Val s e)) (y : s.Idx), (∃ p ∈ L, y ∈ p.1.set) → View.canon (L ++ L') y = View.canon L y
  | [], y, h => by obtain ⟨_, hp, _⟩ := h; simp at hp
  | p :: L, y, h => by
    by_cases hm : y ∈ p.1.set
    · obtain ⟨x, rfl⟩ := p.1.exists_idx_of_mem hm
      rw [List.cons_append, show p.1.idx x = p.1.emb x from rfl]
      exact (View.canon_cons_emb _ _ _ _).trans (View.canon_cons_emb _ _ _ _).symm
    · rw [List.cons_append, View.canon_cons_of_not_mem _ _ hm, View.canon_cons_of_not_mem _ _ hm]
      refine canon_append L' L y ?_
      obtain ⟨q, hq, hyq⟩ := h
      rcases List.mem_cons.mp hq with rfl | hq'
      · exact absurd hyq hm
      · exact ⟨q, hq', hyq⟩

/-- The grid point that starts at position `m` reads its rows of the arguments, the states before `m` and
    their gradients after its last row. -/
structure Holds (I : Ins Ideal) (A : Args) (m : ℕ) : Prop where
  hs : Ideal.ofBits .f32 0x3DB504F3#32 = (A.s : EReal)
  le : m + 192 ≤ 4224
  q : Is (φ := .f32) (a := 192) (b := 512) I.q fun r c => A.p (m + r) c
  k : Is (φ := .f32) (a := 192) (b := 512) I.k fun r c => A.p (m + r) (512 + c)
  v : Is (φ := .f32) (a := 192) (b := 1024) I.v fun r c => A.p (m + r) (1024 + c)
  g : Is (φ := .f32) (a := 192) (b := 512) I.g fun r c => A.g (m + r) c
  o : Is (φ := .f32) (a := 192) (b := 1024) I.o fun r c => A.o (m + r) c
  S : ∀ (h : Fin 4) (d : Fin 128) (e : Fin 256), I.s (ix4 h 0 d e) = ((A.St h m d e : ℝ) : EReal)
  T : ∀ (h : Fin 4) (d : Fin 128) (e : Fin 256), I.t (ix3 h d e) = ((A.Tt h (m + 192) d e : ℝ) : EReal)

namespace Holds

variable {I : Ins Ideal} {A : Args} {m : ℕ} (H : Holds I A m) (a : Fin 3) (h : Fin 4)
include H

theorem hq : Is (qs (cut128 I.q a h)) (fun r d => A.qh h (m + 64 * a + r) d) :=
  is_mul (is_cut128 a h H.q (Y := fun r d => A.p (m + 64 * a + r) (128 * h + d)) fun r d => by simp only [Nat.add_assoc])
    (Y := fun _ _ => A.s) fun _ _ => H.hs

theorem hk : Is (cut128 I.k a h) (fun r d => A.kh h (m + 64 * a + r) d) :=
  is_cut128 a h H.k fun r d => by simp only [Args.kh, Nat.add_assoc]

theorem hv : Is (cut256 I.v a h) (fun r d => A.vh h (m + 64 * a + r) d) :=
  is_cut256 a h H.v fun r d => by simp only [Args.vh, Nat.add_assoc]

theorem hg : Is (cut128 I.g a h) (fun r d => A.gh h (m + 64 * a + r) d) :=
  is_cut128 a h H.g fun r d => by simp only [Args.gh, Nat.add_assoc]

theorem ho : Is (cut256 I.o a h) (fun r d => A.oh h (m + 64 * a + r) d) :=
  is_cut256 a h H.o fun r d => by simp only [Args.oh, Nat.add_assoc]

theorem S0 : Is (I.S0 h) (A.St h m) := fun d e => (cutS_at I.s h d e).trans (H.S h d e)
theorem S1 : Is (I.S1 h) (A.St h (m + 64)) := is_stS (H.hk 0 h) (H.hv 0 h) (H.hg 0 h) (H.S0 h)
theorem S2 : Is (I.S2 h) (A.St h (m + 64 + 64)) := is_stS (H.hk 1 h) (H.hv 1 h) (H.hg 1 h) (H.S1 h)

theorem T2 : Is (I.T2 h) (A.Tt h (m + 192)) := fun d e => (cutT_at I.t h d e).trans (H.T h d e)
theorem T1 : Is (I.T1 h) (A.Tt h (m + 128)) :=
  is_stT (H.hq 2 h) (H.ho 2 h) (H.hg 2 h) (show m + 128 + 64 ≤ 4224 from H.le) (H.T2 h)
theorem T0 : Is (I.T0 h) (A.Tt h (m + 64)) :=
  is_stT (H.hq 1 h) (H.ho 1 h) (H.hg 1 h) (show m + 64 + 64 ≤ 4224 by have := H.le; omega) (H.T1 h)
theorem Tn : Is (I.Tn h) (A.Tt h m) :=
  is_stT (H.hq 0 h) (H.ho 0 h) (H.hg 0 h) (show m + 0 + 64 ≤ 4224 by have := H.le; omega) (H.T0 h)

theorem Sa : Is (I.Sa a h) (A.St h (m + 64 * a)) := by
  fin_cases a
  · exact H.S0 h
  · exact H.S1 h
  · exact H.S2 h

theorem Ta : Is (I.Ta a h) (A.Tt h (m + 64 * a + 64)) := by
  fin_cases a
  · exact H.T0 h
  · exact H.T1 h
  · exact H.T2 h

theorem lea : m + 64 * a + 64 ≤ 4224 := by have := H.le; omega

theorem rq : Is (I.rq a h) (fun r d => gq (A.kh h) (A.gh h) (A.vh h) (A.oh h) (m + 64 * a + r) d * A.s) :=
  is_dq H.hs (H.hk a h) (H.hv a h) (H.hg a h) (H.ho a h) (H.Sa a h)

theorem rk : Is (I.rk a h) (fun r d => gk (A.qh h) (A.gh h) (A.vh h) (A.oh h) 4224 (m + 64 * a + r) d) :=
  is_dk (H.hq a h) (H.hv a h) (H.hg a h) (H.ho a h) (H.lea a) (H.Ta a h)

theorem rv : Is (I.rv a h) (fun r e => gv (A.qh h) (A.kh h) (A.gh h) (A.oh h) 4224 (m + 64 * a + r) e) :=
  is_dv (H.hq a h) (H.hk a h) (H.hg a h) (H.ho a h) (H.lea a) (H.Ta a h)

theorem rg : Is (I.rg a h) (fun r d => gg (A.qh h) (A.kh h) (A.gh h) (A.vh h) (A.oh h) 4224 (m + 64 * a + r) d) :=
  is_dg (H.hq a h) (H.hk a h) (H.hv a h) (H.hg a h) (H.ho a h) (H.lea a) (H.Sa a h) (H.Ta a h)

variable {a h}

theorem at_q {x : S64x128.Idx} {t c : ℕ} (ht : t = m + (64 * a + x 0)) (hc : c = 128 * h + x 1) : I.rq a h x = ((A.Gq t c : ℝ) : EReal) := by
  have h1 : (x 1).val < 128 := (x 1).2
  refine ((H.rq a h).at x).trans ?_
  unfold Args.Gq
  have e1 : c / 128 = h := by omega
  have e2 : (⟨c % 128, Nat.mod_lt _ (by decide)⟩ : Fin 128) = x 1 := Fin.ext (by show c % 128 = (x 1).val; omega)
  rw [e2, e1, ht, Nat.add_assoc]

theorem at_k {x : S64x128.Idx} {t c : ℕ} (ht : t = m + (64 * a + x 0)) (hc : c = 128 * h + x 1) : I.rk a h x = ((A.Gk t c : ℝ) : EReal) := by
  have h1 : (x 1).val < 128 := (x 1).2
  refine ((H.rk a h).at x).trans ?_
  unfold Args.Gk
  have e1 : c / 128 = h := by omega
  have e2 : (⟨c % 128, Nat.mod_lt _ (by decide)⟩ : Fin 128) = x 1 := Fin.ext (by show c % 128 = (x 1).val; omega)
  rw [e2, e1, ht, Nat.add_assoc]

theorem at_v {x : S64x256.Idx} {t c : ℕ} (ht : t = m + (64 * a + x 0)) (hc : c = 256 * h + x 1) : I.rv a h x = ((A.Gv t c : ℝ) : EReal) := by
  have h1 : (x 1).val < 256 := (x 1).2
  refine ((H.rv a h).at x).trans ?_
  unfold Args.Gv
  have e1 : c / 256 = h := by omega
  have e2 : (⟨c % 256, Nat.mod_lt _ (by decide)⟩ : Fin 256) = x 1 := Fin.ext (by show c % 256 = (x 1).val; omega)
  rw [e2, e1, ht, Nat.add_assoc]

theorem at_g {x : S64x128.Idx} {t c : ℕ} (ht : t = m + (64 * a + x 0)) (hc : c = 128 * h + x 1) : I.rg a h x = ((A.Gg t c : ℝ) : EReal) := by
  have h1 : (x 1).val < 128 := (x 1).2
  refine ((H.rg a h).at x).trans ?_
  unfold Args.Gg
  have e1 : c / 128 = h := by omega
  have e2 : (⟨c % 128, Nat.mod_lt _ (by decide)⟩ : Fin 128) = x 1 := Fin.ext (by show c % 128 = (x 1).val; omega)
  rw [e2, e1, ht, Nat.add_assoc]

/-! The blocks it leaves. -/

theorem listQ (y : S192x512.Idx) : View.canon I.listQ y = ((A.Gq (m + y 0) (y 1) : ℝ) : EReal) := by
  unfold Ins.listQ
  canon_tiles x hx
  all_goals exact H.at_q (by first | omega | (simp; omega)) (by first | omega | (simp; omega))

theorem listK (y : S192x512.Idx) : View.canon I.listK y = ((A.Gk (m + y 0) (y 1) : ℝ) : EReal) := by
  unfold Ins.listK
  canon_tiles x hx
  all_goals exact H.at_k (by first | omega | (simp; omega)) (by first | omega | (simp; omega))

theorem listV (y : S192x1024.Idx) : View.canon I.listV y = ((A.Gv (m + y 0) (y 1) : ℝ) : EReal) := by
  unfold Ins.listV
  canon_tiles x hx
  all_goals exact H.at_v (by first | omega | (simp; omega)) (by first | omega | (simp; omega))

theorem listG (y : S192x512.Idx) : View.canon I.listG y = ((A.Gg (m + y 0) (y 1) : ℝ) : EReal) := by
  unfold Ins.listG
  canon_tiles x hx
  all_goals exact H.at_g (by first | omega | (simp; omega)) (by first | omega | (simp; omega))

theorem at_T {h : Fin 4} {x : S1x128x256.Idx} {k : Fin 4} {d : Fin 128} {e : Fin 256} (hk : k = h) (hd : d.val = x 1) (he : e.val = x 2) :
    Ins.out (I.Tn h) x = ((A.Tt k m d e : ℝ) : EReal) := by
  have hx : x = ix3 0 d e := by
    refine (eq_ix3 x).trans ?_
    rw [Fin.ext hd, Fin.ext he]
    congr 1
    exact Subsingleton.elim (α := Fin 1) _ _
  rw [hx, cast3', H.Tn h d e, hk]

theorem listT (y : S4x128x256.Idx) : View.canon I.listT y = ((A.Tt (y 0) m (y 1) (y 2) : ℝ) : EReal) := by
  unfold Ins.listT
  canon_tiles x hx
  all_goals exact H.at_T (k := y 0) (Fin.ext (by first | omega | (simp; omega))) (by omega) (by omega)

theorem listT' (q : View.Piece (Elt Ideal) S4x128x256 .f32) (y : S4x128x256.Idx) :
    View.canon (I.listT ++ [q]) y = ((A.Tt (y 0) m (y 1) (y 2) : ℝ) : EReal) := by
  refine (canon_append _ _ y ?_).trans (H.listT y)
  unfold Ins.listT
  exact View.cover_of_tiled_head _ _ _ (by rfl) _

end Holds

end Cert.Gla
-- ==== Proof.Gla.Host.lean ====
/- What the two programs share at the ideal reading: arguments that hold real numbers, the scale, and the masked
   sums of the host code read as sums over the positions before a position. -/
module

public import proofs.«01_k».proof.Proof.Gla.Point
public import Idealize.ShloMosaic.Lib.StableHlo.ReadAt
public import Idealize.ShloMosaic.Lib.Tactic.WordOmega

@[expose] public section

noncomputable section

namespace Cert.Gla

open Idealize.ShloMosaic Idealize.ShloMosaic.Pointwise Finset

/-- The three arguments hold the real numbers of `A`. -/
structure ArgsOf (x0 : FVec Ideal ⟨2, ![4224, 3584]⟩ .f32) (x1 : FVec Ideal ⟨2, ![4224, 512]⟩ .f32)
    (x2 : FVec Ideal ⟨2, ![4224, 1024]⟩ .f32) (A : Args) : Prop where
  hs : Ideal.ofBits .f32 0x3DB504F3#32 = (A.s : EReal)
  p : ∀ (i : Fin 4224) (j : Fin 3584), x0 (ix2 i j) = ((A.p i j : ℝ) : EReal)
  g : ∀ (i : Fin 4224) (j : Fin 512), x1 (ix2 i j) = ((A.g i j : ℝ) : EReal)
  o : ∀ (i : Fin 4224) (j : Fin 1024), x2 (ix2 i j) = ((A.o i j : ℝ) : EReal)

theorem scale_real : ∃ s : ℝ, Ideal.ofBits .f32 0x3DB504F3#32 = (s : EReal) := by
  refine ⟨11863283 / 2 ^ 27, ?_⟩
  simp [Ideal.ofBits, Ideal.ieee]
  rw [← EReal.coe_mul]
  norm_num

/-- The real numbers of an array. -/
def reals {n k : ℕ} (x : FVec Ideal ⟨2, ![n, k]⟩ .f32) (i j : ℕ) : ℝ :=
  if h : i < n ∧ j < k then (x (ix2 ⟨i, h.1⟩ ⟨j, h.2⟩)).toReal else 0

/-- Arguments without infinities hold real numbers. -/
theorem argsOf (x0 : FVec Ideal ⟨2, ![4224, 3584]⟩ .f32) (x1 : FVec Ideal ⟨2, ![4224, 512]⟩ .f32)
    (x2 : FVec Ideal ⟨2, ![4224, 1024]⟩ .f32) (h0 : ∀ i, x0 i ≠ ⊤ ∧ x0 i ≠ ⊥) (h1 : ∀ i, x1 i ≠ ⊤ ∧ x1 i ≠ ⊥) (h2 : ∀ i, x2 i ≠ ⊤ ∧ x2 i ≠ ⊥) :
    ∃ A : Args, ArgsOf x0 x1 x2 A := by
  obtain ⟨s, hs⟩ := scale_real
  have key : ∀ {n k : ℕ} (x : FVec Ideal ⟨2, ![n, k]⟩ .f32), (∀ i, x i ≠ ⊤ ∧ x i ≠ ⊥) →
      ∀ (i : Fin n) (j : Fin k), x (ix2 i j) = ((reals x i j : ℝ) : EReal) := by
    intro n k x hx i j
    unfold reals
    rw [dif_pos ⟨i.2, j.2⟩]
    exact (EReal.coe_toReal (hx _).1 (hx _).2).symm
  exact ⟨⟨reals x0, reals x1, reals x2, s⟩, hs, key x0 h0, key x1 h1, key x2 h2⟩

/-- A masked sum over all positions is the sum over the positions before `M`. -/
theorem sum_before {N M : ℕ} (h : M ≤ N) (f : ℕ → ℝ) : ∑ x : Fin N, (if x.val < M then f x else 0) = ∑ x ∈ range M, f x := by
  rw [Fin.sum_univ_eq_sum_range (fun x => if x < M then f x else 0) N, ← sum_filter]
  exact sum_congr (by ext; simp; omega) fun _ _ => rfl

/-- A masked sum over all positions is the sum over the positions from `M` on. -/
theorem sum_from {N M : ℕ} (f : ℕ → ℝ) : ∑ x : Fin N, (if M ≤ x.val then f x else 0) = ∑ x ∈ Ico M N, f x := by
  rw [Fin.sum_univ_eq_sum_range (fun x => if M ≤ x then f x else 0) N, ← sum_filter]
  exact sum_congr (by ext; simp; omega) fun _ _ => rfl

/-- The mask of the positions before the 64th position of chunk `n`. -/
theorem sel_before {α : Type} (x : Fin 4224) (n : Fin 66) (a b : α) :
    Scalar.select (IntOp.cmpi CmpIPredicate.slt (BitVec.ofNat 32 ↑x) (IntOp.muli (64#32) (BitVec.ofNat 32 ↑n))) a b
      = if x.val < 64 * n.val then a else b := by
  have h64 : ∀ n : Fin 66, IntOp.muli (64#32) (BitVec.ofNat 32 ↑n) = BitVec.ofNat 32 (64 * ↑n) := by decide +kernel
  rw [h64]
  have h : IntOp.cmpi CmpIPredicate.slt (BitVec.ofNat 32 ↑x) (BitVec.ofNat 32 (64 * ↑n))
      = if x.val < 64 * n.val then 1#1 else 0#1 := by
    word_omega
  rw [h]; split <;> rfl

/-- The mask of the positions up to a position. -/
theorem sel_upto {α : Type} (x y : Fin 4224) (a b : α) :
    Scalar.select (Scalar.select (IntOp.cmpi CmpIPredicate.sge (IntOp.addi (BitVec.ofNat 32 ↑x) 0#32) (BitVec.ofNat 32 ↑y)) 1#1 0#1) a b
      = if y.val < x.val + 1 then a else b := by
  have h : IntOp.cmpi CmpIPredicate.sge (IntOp.addi (BitVec.ofNat 32 ↑x) 0#32) (BitVec.ofNat 32 ↑y)
      = if y.val < x.val + 1 then 1#1 else 0#1 := by
    word_omega
  rw [h]; split <;> rfl

/-- A masked sum of real numbers over the positions before `M`. -/
theorem before_coe {N M : ℕ} (h : M ≤ N) (f : ℕ → ℝ) :
    ∑ x : Fin N, (if x.val < M then ((f x : ℝ) : EReal) else ((0 : ℝ) : EReal)) = ((∑ x ∈ range M, f x : ℝ) : EReal) := by
  rw [← sum_before h, coe_sum]
  exact sum_congr rfl fun x _ => by split <;> rfl

/-- A masked sum of real numbers over the positions from `M` on. -/
theorem from_coe {N M : ℕ} (f : ℕ → ℝ) :
    ∑ x : Fin N, (if M ≤ x.val then ((f x : ℝ) : EReal) else ((0 : ℝ) : EReal)) = ((∑ x ∈ Ico M N, f x : ℝ) : EReal) := by
  rw [← sum_from, coe_sum]
  exact sum_congr rfl fun x _ => by split <;> rfl

/-- The state before chunk `n`, as the host code writes it. -/
theorem state_sum (A : Args) (h : Fin 4) (n : Fin 66) (d : Fin 128) (e : Fin 256) :
    Ideal.exp (∑ x : Fin 4224, if x.val < 64 * n.val then ((A.g x (h * 128 + d) : ℝ) : EReal) else ((0 : ℝ) : EReal)) *
      ∑ x : Fin 4224, (if x.val < 64 * n.val then ((A.p x (512 + (h * 128 + d)) : ℝ) : EReal) *
              Ideal.exp (-∑ y : Fin 4224, if y.val < x.val + 1 then ((A.g y (h * 128 + d) : ℝ) : EReal) else ((0 : ℝ) : EReal))
          else ((0 : ℝ) : EReal)) * ((A.p x (1024 + (h * 256 + e)) : ℝ) : EReal)
      = ((A.St h (64 * n) d e : ℝ) : EReal) := by
  have hn : 64 * n.val ≤ 4224 := by omega
  rw [before_coe hn fun x => A.g x (h * 128 + d), Ideal.exp_coe]
  have hx : ∀ x : Fin 4224, (if x.val < 64 * n.val then ((A.p x (512 + (h * 128 + d)) : ℝ) : EReal) *
              Ideal.exp (-∑ y : Fin 4224, if y.val < x.val + 1 then ((A.g y (h * 128 + d) : ℝ) : EReal) else ((0 : ℝ) : EReal))
          else ((0 : ℝ) : EReal)) * ((A.p x (1024 + (h * 256 + e)) : ℝ) : EReal)
      = if x.val < 64 * n.val then ((ys (A.kh h) (A.gh h) x d * A.vh h x e : ℝ) : EReal) else ((0 : ℝ) : EReal) := by
    intro x
    have h1 : x.val + 1 ≤ 4224 := x.2
    rw [before_coe h1 fun y => A.g y (h * 128 + d), ← EReal.coe_neg, Ideal.exp_coe, ← EReal.coe_mul]
    split
    · rw [← EReal.coe_mul]; unfold ys B Args.kh Args.gh Args.vh; simp only [Nat.mul_comm h.val]
    · rw [← EReal.coe_mul, zero_mul]
  rw [sum_congr rfl fun x _ => hx x, before_coe hn fun x => ys (A.kh h) (A.gh h) x d * A.vh h x e, ← EReal.coe_mul]
  unfold Args.St St B Args.gh
  simp only [Nat.mul_comm h.val]

end Cert.Gla
-- ==== Proof.Gla.Reads.lean ====
/- What the kernel's input blocks hold: rows of the arguments, and the states that the host code prepares. -/
module

public import proofs.«01_k».proof.Proof.Gla.Host
public import proofs.«01_k».proof.Proof.Gen.KernelIdeal.Value
public import Idealize.ShloMosaic.Lib.Pipeline.ValueKit

@[expose] public section

set_option maxRecDepth 16384

noncomputable section

namespace Cert.Gla

open Cert.KernelIdeal Cert.KernelIdeal.Gen Idealize.ShloMosaic Idealize.ShloMosaic.Pointwise Idealize.ShloMosaic.TcCoe
open Idealize.SL.Sem Finset

variable (m : (ℓ : Loc nD τ sig) → Buf (Elt Ideal) ℓ)

/-- The block of each window at grid point `t`: the grid goes through the blocks of 192 rows from the last to the first. -/
theorem idx (t : Fin cfg0.N) : win0_0.index t = ![21 - t.val, 0] ∧ win0_1.index t = ![21 - t.val, 1] ∧ win0_2.index t = ![21 - t.val, 1]
    ∧ win0_3.index t = ![21 - t.val, 0] ∧ win0_4.index t = ![0, 21 - t.val, 0, 0] ∧ win0_5.index t = ![21 - t.val, 0]
    ∧ win0_6.index t = ![21 - t.val, 0] ∧ win0_7.index t = ![21 - t.val, 0] ∧ win0_8.index t = ![21 - t.val, 0] ∧ win0_9.index t = ![21 - t.val, 0] := by
  have h : ∀ t : Fin grid0.N, win0_0.index t = ![21 - t.val, 0] ∧ win0_1.index t = ![21 - t.val, 1] ∧ win0_2.index t = ![21 - t.val, 1]
    ∧ win0_3.index t = ![21 - t.val, 0] ∧ win0_4.index t = ![0, 21 - t.val, 0, 0] ∧ win0_5.index t = ![21 - t.val, 0]
    ∧ win0_6.index t = ![21 - t.val, 0] ∧ win0_7.index t = ![21 - t.val, 0] ∧ win0_8.index t = ![21 - t.val, 0] ∧ win0_9.index t = ![21 - t.val, 0] := by
    decide +kernel
  exact h t

theorem blk_q (c : Dev nD) (t : Fin cfg0.N) (r : Fin 192) (j : Fin 512) (i : Fin 4224) (k : Fin 3584) (hi : i.val = 192 * (21 - t.val) + r) (hk : k.val = j) :
    iblk m c 0 t (ix2 r j) = m ((c : Thread nD τ).loc main_arg0) (ix2 i k) := by
  rw [← V_main_arg0 m c]
  blk_ext [iblk, (idx t).1]

theorem blk_k (c : Dev nD) (t : Fin cfg0.N) (r : Fin 192) (j : Fin 512) (i : Fin 4224) (k : Fin 3584) (hi : i.val = 192 * (21 - t.val) + r) (hk : k.val = 512 + j) :
    iblk m c 1 t (ix2 r j) = m ((c : Thread nD τ).loc main_arg0) (ix2 i k) := by
  rw [← V_main_arg0 m c]
  blk_ext [iblk, (idx t).2.1]

theorem blk_v (c : Dev nD) (t : Fin cfg0.N) (r : Fin 192) (j : Fin 1024) (i : Fin 4224) (k : Fin 3584) (hi : i.val = 192 * (21 - t.val) + r) (hk : k.val = 1024 + j) :
    X0_2 m c t (ix2 r j) = m ((c : Thread nD τ).loc main_arg0) (ix2 i k) := by
  rw [← V_main_arg0 m c]
  unfold X0_2
  unfold Pipeline.Window.fill
  rw [dif_pos (moved0_2 t _)]
  blk_ext [iblk, (idx t).2.2.1]

theorem blk_g (c : Dev nD) (t : Fin cfg0.N) (r : Fin 192) (j : Fin 512) (i : Fin 4224) (hi : i.val = 192 * (21 - t.val) + r) :
    iblk m c 3 t (ix2 r j) = m ((c : Thread nD τ).loc main_arg1) (ix2 i j) := by
  rw [← V_main_arg1 m c]
  blk_ext [iblk, (idx t).2.2.2.1]

theorem blk_s (c : Dev nD) (t : Fin cfg0.N) (h : Fin 4) (j : Fin 128) (e : Fin 256) (i : Fin 66) (hi : i.val = 3 * (21 - t.val)) :
    iblk m c 4 t (ix4 h 0 j e) = V m c (Pipeline.arrRef spec0 4) (ix4 h i j e) := by
  blk_ext [iblk, (idx t).2.2.2.2.1]

theorem blk_o (c : Dev nD) (t : Fin cfg0.N) (r : Fin 192) (j : Fin 1024) (i : Fin 4224) (hi : i.val = 192 * (21 - t.val) + r) :
    iblk m c 5 t (ix2 r j) = m ((c : Thread nD τ).loc main_arg2) (ix2 i j) := by
  rw [← V_main_arg2 m c]
  blk_ext [iblk, (idx t).2.2.2.2.2.1]

/-- What the host code prepares is the state before each chunk of 64 positions. -/
theorem read_s (c : Dev nD) {A : Args} (H : ArgsOf (m ((c : Thread nD τ).loc main_arg0)) (m ((c : Thread nD τ).loc main_arg1)) (m ((c : Thread nD τ).loc main_arg2)) A)
    (h : Fin 4) (n : Fin 66) (d : Fin 128) (e : Fin 256) :
    V m c main_v33 (ix4 h n d e) = ((A.St h (64 * n) d e : ℝ) : EReal) := by
  unfold V
  after_reads_at
  have e0 : ∀ i j, m (c, Proc.tc.devRef main_arg0) (ix2 i j) = ((A.p i j : ℝ) : EReal) := H.p
  have e1 : ∀ i j, m (c, Proc.tc.devRef main_arg1) (ix2 i j) = ((A.g i j : ℝ) : EReal) := H.g
  have ez : id (constant S_ .f32 0#32 : FVec Ideal S_ .f32) ix0 = ((0 : ℝ) : EReal) := Ideal.ofBits_zero_f32
  simp only [e0, e1, ez, sel_before, sel_upto]
  exact state_sum A h n d e

end Cert.Gla
-- ==== Proof.Gla.Steps.lean ====
/- The grid: what every grid point carries and writes, by induction over the points, and so the four arrays that
   the kernel leaves. -/
module

public import proofs.«01_k».proof.Proof.Gla.Reads

@[expose] public section

set_option maxRecDepth 16384
set_option maxHeartbeats 1000000

noncomputable section

namespace Cert.Gla

open Cert.KernelIdeal Cert.KernelIdeal.Gen Idealize.ShloMosaic Idealize.ShloMosaic.Pointwise Idealize.ShloMosaic.TcCoe
open Idealize.SL.Sem Finset

variable (m : (ℓ : Loc nD τ sig) → Buf (Elt Ideal) ℓ) (c : Dev nD)

/-- The arguments of the kernel hold the real numbers of `A`. -/
abbrev Inputs (A : Args) : Prop :=
  ArgsOf (m ((c : Thread nD τ).loc main_arg0)) (m ((c : Thread nD τ).loc main_arg1)) (m ((c : Thread nD τ).loc main_arg2)) A

variable {m c} {A : Args} (H : Inputs m c A)
include H

theorem in_q (t : Fin cfg0.N) : Is (φ := .f32) (a := 192) (b := 512) (iblk m c 0 t) fun r j => A.p (192 * (21 - t.val) + r) j := fun r j =>
  (blk_q m c t r j ⟨192 * (21 - t.val) + r, by omega⟩ ⟨j, by omega⟩ rfl rfl).trans (H.p _ _)

theorem in_k (t : Fin cfg0.N) : Is (φ := .f32) (a := 192) (b := 512) (iblk m c 1 t) fun r j => A.p (192 * (21 - t.val) + r) (512 + j) := fun r j =>
  (blk_k m c t r j ⟨192 * (21 - t.val) + r, by omega⟩ ⟨512 + j, by omega⟩ rfl rfl).trans (H.p _ _)

theorem in_v (t : Fin cfg0.N) : Is (φ := .f32) (a := 192) (b := 1024) (X0_2 m c t) fun r j => A.p (192 * (21 - t.val) + r) (1024 + j) := fun r j =>
  (blk_v m c t r j ⟨192 * (21 - t.val) + r, by omega⟩ ⟨1024 + j, by omega⟩ rfl rfl).trans (H.p _ _)

theorem in_g (t : Fin cfg0.N) : Is (φ := .f32) (a := 192) (b := 512) (iblk m c 3 t) fun r j => A.g (192 * (21 - t.val) + r) j := fun r j =>
  (blk_g m c t r j ⟨192 * (21 - t.val) + r, by omega⟩ rfl).trans (H.g _ _)

theorem in_o (t : Fin cfg0.N) : Is (φ := .f32) (a := 192) (b := 1024) (iblk m c 5 t) fun r j => A.o (192 * (21 - t.val) + r) j := fun r j =>
  (blk_o m c t r j ⟨192 * (21 - t.val) + r, by omega⟩ rfl).trans (H.o _ _)

theorem in_s (t : Fin cfg0.N) (h : Fin 4) (d : Fin 128) (e : Fin 256) :
    iblk m c 4 t (ix4 h 0 d e) = ((A.St h (192 * (21 - t.val)) d e : ℝ) : EReal) := by
  have e3 : 64 * (3 * (21 - t.val)) = 192 * (21 - t.val) := by omega
  have hr := read_s m c H h ⟨3 * (21 - t.val), by omega⟩ d e
  simp only [e3] at hr
  exact (blk_s m c t h d e ⟨3 * (21 - t.val), by omega⟩ rfl).trans hr

omit H in
variable (m c) in
/-- The blocks of grid point `t`, with `T` carried in. -/
def insAt (t : Fin cfg0.N) (T : Vec Ideal S4x128x256 .f32) : Ins Ideal :=
  Ins.mk (iblk m c 0 t) (iblk m c 1 t) (X0_2 m c t) (iblk m c 3 t) (iblk m c 4 t) (iblk m c 5 t) T

omit H in
theorem rows_le (n : ℕ) : 192 * (21 - n) + 192 ≤ 4224 := by omega

/-- … hold the numbers that one point needs when `T` is the gradient of the state after its chunks. -/
theorem holds (t : Fin cfg0.N) (T : Vec Ideal S4x128x256 .f32)
    (hT : ∀ (h : Fin 4) (d : Fin 128) (e : Fin 256), T (ix3 h d e) = ((A.Tt h (192 * (21 - t.val) + 192) d e : ℝ) : EReal)) :
    Holds (insAt m c t T) A (192 * (21 - t.val)) :=
  ⟨H.hs, rows_le _, in_q H t, in_k H t, in_v H t, in_g H t, in_o H t, in_s H t, hT⟩

/-- At the first point nothing is carried in: after the last position the gradient of the state is zero. -/
theorem holds_first (t : Fin cfg0.N) (h0 : t.val % 22 = 0) :
    Holds (insAt m c t (k0_pay2 (F := Ideal))) A (192 * (21 - t.val)) := by
  refine holds H t (k0_pay2 (F := Ideal)) fun h d e => ?_
  have ht : t.val < 22 := t.isLt
  have e0 : 192 * (21 - t.val) + 192 = 4224 := by omega
  rw [e0]
  unfold Args.Tt
  rw [Tt_end]
  show Ideal.ofBits .f32 0x00000000#32 = _
  exact Ideal.ofBits_zero_f32

/-- What the first point leaves in the scratch: the gradient of the state before its chunks. -/
theorem first_T (t : Fin cfg0.N) (h0 : t.val % 22 = 0) (y : S4x128x256.Idx) :
    (outsAt0 m c t.val t.isLt).2.2.2.2 y = ((A.Tt (y 0) (192 * (21 - t.val)) (y 1) (y 2) : ℝ) : EReal) := by
  have hT := holds_first H t h0
  rw [outsAt0_A m c t h0]; beta_reduce; rw [outT_A]
  exact hT.listT' _ y

/-- … and a later point, when the point before left the gradient of the state. -/
theorem next_T (t : Fin cfg0.N) (h0 : ¬t.val % 22 = 0)
    (hT : Holds (insAt m c t (outsAt0 m c (t.val - 1) (Nat.lt_of_le_of_lt (Nat.sub_le _ _) t.isLt)).2.2.2.2) A (192 * (21 - t.val)))
    (y : S4x128x256.Idx) :
    (outsAt0 m c t.val t.isLt).2.2.2.2 y = ((A.Tt (y 0) (192 * (21 - t.val)) (y 1) (y 2) : ℝ) : EReal) := by
  rw [outsAt0_B m c t h0]; beta_reduce; rw [outT_B]
  exact hT.listT y

/-- The gradient of the state, from what the point before left. -/
theorem holds_of (t : Fin cfg0.N) (h0 : ¬t.val % 22 = 0)
    (ih : ∀ y : S4x128x256.Idx, (outsAt0 m c (t.val - 1) (Nat.lt_of_le_of_lt (Nat.sub_le _ _) t.isLt)).2.2.2.2 y
      = ((A.Tt (y 0) (192 * (21 - (t.val - 1))) (y 1) (y 2) : ℝ) : EReal)) :
    Holds (insAt m c t (outsAt0 m c (t.val - 1) (Nat.lt_of_le_of_lt (Nat.sub_le _ _) t.isLt)).2.2.2.2) A (192 * (21 - t.val)) := by
  refine holds H t _ fun h d e => ?_
  have ht : t.val < 22 := t.isLt
  have e0 : 192 * (21 - t.val) + 192 = 192 * (21 - (t.val - 1)) := by omega
  rw [e0]
  exact ih (ix3 h d e)

/-- What grid point `n` leaves in the scratch. -/
theorem carried (n : ℕ) : ∀ (hn : n < cfg0.N) (y : S4x128x256.Idx),
    (outsAt0 m c n hn).2.2.2.2 y = ((A.Tt (y 0) (192 * (21 - n)) (y 1) (y 2) : ℝ) : EReal) := by
  induction n with
  | zero => exact fun hn y => first_T H ⟨0, hn⟩ (by rfl) y
  | succ n ih =>
    intro hn y
    have hn' : n + 1 < 22 := hn
    have h0 : ¬(n + 1) % 22 = 0 := by omega
    exact next_T H ⟨n + 1, hn⟩ h0 (holds_of H ⟨n + 1, hn⟩ h0 (ih (Nat.lt_of_succ_lt hn))) y

/-- At a later point the point before leaves the gradient of the state. -/
theorem holds_next (t : Fin cfg0.N) (h0 : ¬t.val % 22 = 0) :
    Holds (insAt m c t (outsAt0 m c (t.val - 1) (Nat.lt_of_le_of_lt (Nat.sub_le _ _) t.isLt)).2.2.2.2) A (192 * (21 - t.val)) :=
  holds_of H t h0 (carried H (t.val - 1) _)

theorem point_q (t : Fin cfg0.N) (y : S192x512.Idx) :
    (outsAt0 m c t.val t.isLt).1 y = ((A.Gq (192 * (21 - t.val) + y 0) (y 1) : ℝ) : EReal) := by
  by_cases h0 : t.val % 22 = 0
  · rw [outsAt0_A m c t h0]; beta_reduce; rw [outQ_A]; exact (holds_first H t h0).listQ y
  · rw [outsAt0_B m c t h0]; beta_reduce; rw [outQ_B]; exact (holds_next H t h0).listQ y

theorem point_k (t : Fin cfg0.N) (y : S192x512.Idx) :
    (outsAt0 m c t.val t.isLt).2.1 y = ((A.Gk (192 * (21 - t.val) + y 0) (y 1) : ℝ) : EReal) := by
  by_cases h0 : t.val % 22 = 0
  · rw [outsAt0_A m c t h0]; beta_reduce; rw [outK_A]; exact (holds_first H t h0).listK y
  · rw [outsAt0_B m c t h0]; beta_reduce; rw [outK_B]; exact (holds_next H t h0).listK y

theorem point_v (t : Fin cfg0.N) (y : S192x1024.Idx) :
    (outsAt0 m c t.val t.isLt).2.2.1 y = ((A.Gv (192 * (21 - t.val) + y 0) (y 1) : ℝ) : EReal) := by
  by_cases h0 : t.val % 22 = 0
  · rw [outsAt0_A m c t h0]; beta_reduce; rw [outV_A]; exact (holds_first H t h0).listV y
  · rw [outsAt0_B m c t h0]; beta_reduce; rw [outV_B]; exact (holds_next H t h0).listV y

theorem point_g (t : Fin cfg0.N) (y : S192x512.Idx) :
    (outsAt0 m c t.val t.isLt).2.2.2.1 y = ((A.Gg (192 * (21 - t.val) + y 0) (y 1) : ℝ) : EReal) := by
  by_cases h0 : t.val % 22 = 0
  · rw [outsAt0_A m c t h0]; beta_reduce; rw [outG_A]; exact (holds_first H t h0).listG y
  · rw [outsAt0_B m c t h0]; beta_reduce; rw [outG_B]; exact (holds_next H t h0).listG y

/-! ## The four arrays -/

theorem arr_q : (dats m 0 c).arrAt 6 cfg0.N = fun i : S4224x512.Idx => ((A.Gq (i 0) (i 1) : ℝ) : EReal) := by
  refine (dats m 0 c).arrAt_eq_of_covers 6 _ (by decide +kernel) fun t hf y => ?_
  blk_simp [after0_6, (idx t).2.2.2.2.2.2.1]
  rw [Nat.mul_comm (21 - t.val) 192]
  exact point_q H t y

theorem arr_k : (dats m 0 c).arrAt 7 cfg0.N = fun i : S4224x512.Idx => ((A.Gk (i 0) (i 1) : ℝ) : EReal) := by
  refine (dats m 0 c).arrAt_eq_of_covers 7 _ (by decide +kernel) fun t hf y => ?_
  blk_simp [after0_7, (idx t).2.2.2.2.2.2.2.1]
  rw [Nat.mul_comm (21 - t.val) 192]
  exact point_k H t y

theorem arr_v : (dats m 0 c).arrAt 8 cfg0.N = fun i : S4224x1024.Idx => ((A.Gv (i 0) (i 1) : ℝ) : EReal) := by
  refine (dats m 0 c).arrAt_eq_of_covers 8 _ (by decide +kernel) fun t hf y => ?_
  blk_simp [after0_8, (idx t).2.2.2.2.2.2.2.2.1]
  rw [Nat.mul_comm (21 - t.val) 192]
  exact point_v H t y

theorem arr_g : (dats m 0 c).arrAt 9 cfg0.N = fun i : S4224x512.Idx => ((A.Gg (i 0) (i 1) : ℝ) : EReal) := by
  refine (dats m 0 c).arrAt_eq_of_covers 9 _ (by decide +kernel) fun t hf y => ?_
  blk_simp [after0_9, (idx t).2.2.2.2.2.2.2.2.2]
  rw [Nat.mul_comm (21 - t.val) 192]
  exact point_g H t y

end Cert.Gla
-- ==== Proof.Gla.Ref.lean ====
/- The reference program at the ideal reading, operation by operation: its four results are the gradients of the
   recurrence, for arguments that hold real numbers. -/
module

public import proofs.«01_k».proof.Proof.Gla.Host
public import proofs.«01_k».proof.Proof.Gen.ReferenceIdeal.Read

@[expose] public section

set_option maxRecDepth 16384

noncomputable section

namespace Cert.Gla

open Cert.ReferenceIdeal Cert.ReferenceIdeal.Read Idealize.ShloMosaic Idealize.ShloMosaic.Pointwise Finset

theorem mul_real {x y : EReal} {a b : ℝ} (hx : x = a) (hy : y = b) : x * y = ((a * b : ℝ) : EReal) := by
  rw [hx, hy, EReal.coe_mul]

/-- A choice by a bit that is set exactly where `p` holds. -/
theorem select_real {w : BitVec 1} {x y : EReal} {a : ℝ} {p : Prop} [Decidable p] (hw : w = if p then 1#1 else 0#1)
    (hx : x = a) (hy : y = ((0 : ℝ) : EReal)) : Scalar.select w x y = if p then (a : EReal) else ((0 : ℝ) : EReal) := by
  rw [hw, hx, hy]; split <;> rfl

/-- The bit of the positions up to a position. -/
theorem upto_bit (x y : Fin 4224) :
    Scalar.select (IntOp.cmpi CmpIPredicate.sge (IntOp.addi (BitVec.ofNat 32 ↑x) 0#32) (BitVec.ofNat 32 ↑y)) 1#1 0#1
      = if y.val ≤ x.val then 1#1 else 0#1 := by
  have h : IntOp.cmpi CmpIPredicate.sge (IntOp.addi (BitVec.ofNat 32 ↑x) 0#32) (BitVec.ofNat 32 ↑y)
      = if y.val ≤ x.val then 1#1 else 0#1 := by
    word_omega
  rw [h]; split <;> rfl

variable {x0 : FVec Ideal S4224x3584 .f32} {x1 : FVec Ideal S4224x512 .f32} {x2 : FVec Ideal S4224x1024 .f32} {A : Args}

namespace ArgsOf

section
variable (H : ArgsOf x0 x1 x2 A)
include H

theorem p_at (i : S4224x3584.Idx) {a b : ℕ} (ha : (i 0).val = a) (hb : (i 1).val = b) : x0 i = ((A.p a b : ℝ) : EReal) := by
  subst ha hb; exact (congrArg x0 (eq_ix2 i)).trans (H.p (i 0) (i 1))

theorem g_at (i : S4224x512.Idx) {a b : ℕ} (ha : (i 0).val = a) (hb : (i 1).val = b) : x1 i = ((A.g a b : ℝ) : EReal) := by
  subst ha hb; exact (congrArg x1 (eq_ix2 i)).trans (H.g (i 0) (i 1))

theorem o_at (i : S4224x1024.Idx) {a b : ℕ} (ha : (i 0).val = a) (hb : (i 1).val = b) : x2 i = ((A.o a b : ℝ) : EReal) := by
  subst ha hb; exact (congrArg x2 (eq_ix2 i)).trans (H.o (i 0) (i 1))

/-! ## The heads -/

theorem r4 (i : S4x4224x128.Idx) : val_main_v4 (F := Ideal) x0 i = ((A.p (i 1) (128 * i 0 + i 2) : ℝ) : EReal) := by
  rw [val_main_v4_apply, val_main_v3_apply, val_main_v0_apply]
  have h0 : (i 0).val < 4 := (i 0).isLt; have h1 : (i 1).val < 4224 := (i 1).isLt; have h2 : (i 2).val < 128 := (i 2).isLt
  refine H.p_at _ ?_ ?_
  · show (((i 1).val * 4 + (i 0).val) * 128 + (i 2).val) / 512 = _; omega
  · show (((i 1).val * 4 + (i 0).val) * 128 + (i 2).val) % 512 = _; omega

theorem r6 (i : S4x4224x128.Idx) : val_main_v6 (F := Ideal) x0 i = ((A.qh (i 0) (i 1) (i 2) : ℝ) : EReal) := by
  rw [val_main_v6_apply]
  exact mul_real (H.r4 i) H.hs

theorem r8 (i : S4x4224x128.Idx) : val_main_v8 (F := Ideal) x0 i = ((A.kh (i 0) (i 1) (i 2) : ℝ) : EReal) := by
  rw [val_main_v8_apply, val_main_v7_apply, val_main_v1_apply]
  have h0 : (i 0).val < 4 := (i 0).isLt; have h1 : (i 1).val < 4224 := (i 1).isLt; have h2 : (i 2).val < 128 := (i 2).isLt
  refine H.p_at _ ?_ ?_
  · show (((i 1).val * 4 + (i 0).val) * 128 + (i 2).val) / 512 = _; omega
  · show 512 + (((i 1).val * 4 + (i 0).val) * 128 + (i 2).val) % 512 = 512 + (128 * (i 0).val + (i 2).val); omega

theorem r10 (i : S4x4224x256.Idx) : val_main_v10 (F := Ideal) x0 i = ((A.vh (i 0) (i 1) (i 2) : ℝ) : EReal) := by
  rw [val_main_v10_apply, val_main_v9_apply, val_main_v2_apply]
  have h0 : (i 0).val < 4 := (i 0).isLt; have h1 : (i 1).val < 4224 := (i 1).isLt; have h2 : (i 2).val < 256 := (i 2).isLt
  refine H.p_at _ ?_ ?_
  · show (((i 1).val * 4 + (i 0).val) * 256 + (i 2).val) / 1024 = _; omega
  · show 1024 + (((i 1).val * 4 + (i 0).val) * 256 + (i 2).val) % 1024 = 1024 + (256 * (i 0).val + (i 2).val); omega

theorem r12 (i : S4x4224x128.Idx) : val_main_v12 (F := Ideal) x1 i = ((A.gh (i 0) (i 1) (i 2) : ℝ) : EReal) := by
  rw [val_main_v12_apply, val_main_v11_apply]
  have h0 : (i 0).val < 4 := (i 0).isLt; have h1 : (i 1).val < 4224 := (i 1).isLt; have h2 : (i 2).val < 128 := (i 2).isLt
  refine H.g_at _ ?_ ?_
  · show (((i 1).val * 4 + (i 0).val) * 128 + (i 2).val) / 512 = _; omega
  · show (((i 1).val * 4 + (i 0).val) * 128 + (i 2).val) % 512 = 128 * (i 0).val + (i 2).val; omega

theorem r32 (i : S4x4224x256.Idx) : val_main_v32 (F := Ideal) x2 i = ((A.oh (i 0) (i 1) (i 2) : ℝ) : EReal) := by
  rw [val_main_v32_apply, val_main_v31_apply]
  have h0 : (i 0).val < 4 := (i 0).isLt; have h1 : (i 1).val < 4224 := (i 1).isLt; have h2 : (i 2).val < 256 := (i 2).isLt
  refine H.o_at _ ?_ ?_
  · show (((i 1).val * 4 + (i 0).val) * 256 + (i 2).val) / 1024 = _; omega
  · show (((i 1).val * 4 + (i 0).val) * 256 + (i 2).val) % 1024 = 256 * (i 0).val + (i 2).val; omega

/-! ## The log decays and the weights of the positions -/

omit H in
theorem bit17 (i : S4x4224x4224x128.Idx) : val_main_v17_1 (F := Ideal) i = if (i 2).val ≤ (i 1).val then 1#1 else 0#1 := by
  rw [val_main_v17_1_apply, val_main_v15_apply, val_main_v14_apply, val_main_call0_v4_apply, val_main_call0_v2_apply,
    val_main_call0_v0_apply, val_main_call0_v1_apply, val_main_call0_c_apply, val_main_call0_v3_apply, val_main_v13_apply, val_main_c_apply,
    val_main_call0_v5_apply, val_main_call0_c_0_apply]
  exact upto_bit (i 1) (i 2)

omit H in
theorem bit27 (i : S4x4224x4224.Idx) : val_main_v27_1 (F := Ideal) i = if (i 2).val ≤ (i 1).val then 1#1 else 0#1 := by
  rw [val_main_v27_1_apply, val_main_v26_apply, val_main_call2_v4_apply, val_main_call2_v2_apply,
    val_main_call2_v0_apply, val_main_call2_v1_apply, val_main_call2_c_apply, val_main_call2_v3_apply, val_main_v25_apply, val_main_c_2_apply,
    val_main_call2_v5_apply, val_main_call2_c_0_apply]
  exact upto_bit (i 1) (i 2)

theorem r18 (i : S4x4224x128.Idx) : val_main_v18 (F := Ideal) x1 i = ((B (A.gh (i 0)) ((i 1).val + 1) (i 2) : ℝ) : EReal) := by
  have h1 : (i 1).val < 4224 := (i 1).isLt
  have hk : ∀ k : Fin 4224, val_main_v17_0 (F := Ideal) x1 (idx_main_v18 i k)
      = if k.val < (i 1).val + 1 then ((A.gh (i 0) k (i 2) : ℝ) : EReal) else ((0 : ℝ) : EReal) := fun k => by
    simp only [Nat.lt_succ_iff]
    rw [val_main_v17_0_apply]
    refine select_real (bit17 _) ?_ Ideal.ofBits_zero_f32
    rw [val_main_call1_v2_apply, val_main_v16_apply]
    exact H.r12 _
  rw [val_main_v18_apply, sum_congr rfl fun k _ => hk k, before_coe h1 fun k => A.gh (i 0) k (i 2)]
  show Ideal.ofBits .f32 0x00000000#32 + _ = _
  rw [Ideal.ofBits_zero_f32, zero_add]
  rfl

theorem r19 (i : S4x4224x128.Idx) : val_main_v19 (F := Ideal) x1 i = ((Real.exp (B (A.gh (i 0)) ((i 1).val + 1) (i 2)) : ℝ) : EReal) := by
  rw [val_main_v19_apply, H.r18]; exact Ideal.exp_coe _

theorem r22 (i : S4x4224x128.Idx) : val_main_v22 (F := Ideal) x1 i = ((Real.exp (-B (A.gh (i 0)) ((i 1).val + 1) (i 2)) : ℝ) : EReal) := by
  rw [val_main_v22_apply, val_main_v21_apply, H.r18]
  show Ideal.exp (-((_ : ℝ) : EReal)) = _
  rw [← EReal.coe_neg, Ideal.exp_coe]

theorem r20 (i : S4x4224x128.Idx) : val_main_v20 (F := Ideal) x0 x1 i = ((xs (A.qh (i 0)) (A.gh (i 0)) (i 1) (i 2) : ℝ) : EReal) := by
  rw [val_main_v20_apply]; exact mul_real (H.r6 i) (H.r19 i)

theorem r23 (i : S4x4224x128.Idx) : val_main_v23 (F := Ideal) x0 x1 i = ((ys (A.kh (i 0)) (A.gh (i 0)) (i 1) (i 2) : ℝ) : EReal) := by
  rw [val_main_v23_apply]; exact mul_real (H.r8 i) (H.r22 i)

/-! ## The scores and their gradients -/

theorem r27 (i : S4x4224x4224.Idx) : val_main_v27_0 (F := Ideal) x0 x1 i
    = if (i 2).val ≤ (i 1).val then ((∑ d, xs (A.qh (i 0)) (A.gh (i 0)) (i 1) d * ys (A.kh (i 0)) (A.gh (i 0)) (i 2) d : ℝ) : EReal) else ((0 : ℝ) : EReal) := by
  rw [val_main_v27_0_apply]
  refine select_real (bit27 i) ?_ Ideal.ofBits_zero_f32
  rw [val_main_v24_apply, coe_sum]
  exact sum_congr rfl fun k _ => mul_real (H.r20 _) (H.r23 _)

theorem r36 (i : S4x4224x4224.Idx) : val_main_v36 (F := Ideal) x0 x2 i
    = if (i 2).val ≤ (i 1).val then ((ws (A.vh (i 0)) (A.oh (i 0)) (i 1) (i 2) : ℝ) : EReal) else ((0 : ℝ) : EReal) := by
  rw [val_main_v36_apply]
  refine select_real (bit27 i) ?_ Ideal.ofBits_zero_f32
  rw [val_main_v35_apply, ws, coe_sum]
  exact sum_congr rfl fun k _ => mul_real (H.r32 _) (H.r10 _)

theorem r34 (i : S4x4224x256.Idx) : val_main_v34 (F := Ideal) x0 x1 x2 i
    = ((gv (A.qh (i 0)) (A.kh (i 0)) (A.gh (i 0)) (A.oh (i 0)) 4224 (i 1) (i 2) : ℝ) : EReal) := by
  rw [val_main_v34_apply, val_main_v33_apply]
  rw [sum_congr rfl fun (k : Fin 4224) _ => show _ = if (i 1).val ≤ k.val then
      (((∑ d, xs (A.qh (i 0)) (A.gh (i 0)) k d * ys (A.kh (i 0)) (A.gh (i 0)) (i 1) d) * A.oh (i 0) k (i 2) : ℝ) : EReal) else ((0 : ℝ) : EReal) from by
    rw [H.r32, H.r27]
    show _ * (if (i 1).val ≤ k.val then _ else _) = _
    split
    · rw [mul_comm, ← EReal.coe_mul]; rfl
    · rw [← EReal.coe_mul, mul_zero]]
  exact from_coe fun k => (∑ d, xs (A.qh (i 0)) (A.gh (i 0)) k d * ys (A.kh (i 0)) (A.gh (i 0)) (i 1) d) * A.oh (i 0) k (i 2)

theorem r37 (i : S4x4224x128.Idx) : val_main_v37 (F := Ideal) x0 x1 x2 i
    = ((gy (A.qh (i 0)) (A.gh (i 0)) (A.vh (i 0)) (A.oh (i 0)) 4224 (i 1) (i 2) : ℝ) : EReal) := by
  rw [val_main_v37_apply]
  rw [sum_congr rfl fun (k : Fin 4224) _ => show _ = if (i 1).val ≤ k.val then
      ((ws (A.vh (i 0)) (A.oh (i 0)) k (i 1) * xs (A.qh (i 0)) (A.gh (i 0)) k (i 2) : ℝ) : EReal) else ((0 : ℝ) : EReal) from by
    rw [H.r36, H.r20]
    show (if (i 1).val ≤ k.val then _ else _) * _ = _
    split
    · rw [← EReal.coe_mul]; rfl
    · rw [← EReal.coe_mul, zero_mul]]
  exact from_coe fun k => ws (A.vh (i 0)) (A.oh (i 0)) k (i 1) * xs (A.qh (i 0)) (A.gh (i 0)) k (i 2)

theorem r38 (i : S4x4224x128.Idx) : val_main_v38 (F := Ideal) x0 x1 x2 i
    = ((gx (A.kh (i 0)) (A.gh (i 0)) (A.vh (i 0)) (A.oh (i 0)) (i 1) (i 2) : ℝ) : EReal) := by
  have h1 : (i 1).val < 4224 := (i 1).isLt
  rw [val_main_v38_apply]
  rw [sum_congr rfl fun (k : Fin 4224) _ => show _ = if k.val < (i 1).val + 1 then
      ((ws (A.vh (i 0)) (A.oh (i 0)) (i 1) k * ys (A.kh (i 0)) (A.gh (i 0)) k (i 2) : ℝ) : EReal) else ((0 : ℝ) : EReal) from by
    simp only [Nat.lt_succ_iff]
    rw [H.r36, H.r23]
    show (if k.val ≤ (i 1).val then _ else _) * _ = _
    split
    · rw [← EReal.coe_mul]; rfl
    · rw [← EReal.coe_mul, zero_mul]]
  exact before_coe h1 fun k => ws (A.vh (i 0)) (A.oh (i 0)) (i 1) k * ys (A.kh (i 0)) (A.gh (i 0)) k (i 2)

theorem r40 (i : S4x4224x128.Idx) : val_main_v40 (F := Ideal) x0 x1 x2 i
    = ((gk (A.qh (i 0)) (A.gh (i 0)) (A.vh (i 0)) (A.oh (i 0)) 4224 (i 1) (i 2) : ℝ) : EReal) := by
  rw [val_main_v40_apply]; exact mul_real (H.r37 i) (H.r22 i)

theorem r57 (i : S4x4224x128.Idx) : val_main_v57 (F := Ideal) x0 x1 x2 i
    = ((gq (A.kh (i 0)) (A.gh (i 0)) (A.vh (i 0)) (A.oh (i 0)) (i 1) (i 2) * A.s : ℝ) : EReal) := by
  rw [val_main_v57_apply, val_main_v44_apply]; exact mul_real (mul_real (H.r38 i) (H.r19 i)) H.hs

/-! ## The gradient of the log decays -/

theorem r46 (i : S4x4224x128.Idx) : val_main_v46 (F := Ideal) x0 x1 x2 i
    = ((gb (A.qh (i 0)) (A.kh (i 0)) (A.gh (i 0)) (A.vh (i 0)) (A.oh (i 0)) 4224 (i 1) (i 2) : ℝ) : EReal) := by
  have e1 := mul_real (mul_real (H.r8 i) (H.r37 i)) (H.r22 i)
  have e2 := mul_real (mul_real (H.r6 i) (H.r38 i)) (H.r19 i)
  rw [val_main_v46_apply, val_main_v42_apply, val_main_v41_apply, val_main_v39_apply, val_main_v45_apply, val_main_v43_apply]
  refine (congrArg₂ (fun a b : EReal => -a + b) e1 e2).trans ?_
  beta_reduce
  rw [← EReal.coe_neg, ← EReal.coe_add]
  rfl

theorem r49 (i : S4x4224x128.Idx) : val_main_v49 (F := Ideal) x0 x1 x2 i
    = ((gg (A.qh (i 0)) (A.kh (i 0)) (A.gh (i 0)) (A.vh (i 0)) (A.oh (i 0)) 4224 (i 1) (i 2) : ℝ) : EReal) := by
  rw [val_main_v49_apply, Fin.sum_univ_one, val_main_v48_apply, val_main_call5_v2_apply]
  show Ideal.ofBits .f32 0x00000000#32 + (Ideal.ofBits .f32 0x00000000#32 + _) = _
  rw [Ideal.ofBits_zero_f32, zero_add, zero_add]
  rw [sum_congr rfl fun (k : Fin 4224) _ => show _ = if (i 1).val ≤ k.val then
      ((gb (A.qh (i 0)) (A.kh (i 0)) (A.gh (i 0)) (A.vh (i 0)) (A.oh (i 0)) 4224 k (i 2) : ℝ) : EReal) else ((0 : ℝ) : EReal) from by
    rw [val_main_call5_v1_apply]
    refine select_real (bit17 _) ?_ Ideal.ofBits_zero_f32
    rw [val_main_v47_apply]
    exact H.r46 _]
  exact from_coe fun k => gb (A.qh (i 0)) (A.kh (i 0)) (A.gh (i 0)) (A.vh (i 0)) (A.oh (i 0)) 4224 k (i 2)

/-! ## The four results -/

theorem ref_q : val_main_v59 (F := Ideal) x0 x1 x2 = fun i : S4224x512.Idx => ((A.Gq (i 0) (i 1) : ℝ) : EReal) := by
  funext i
  rw [val_main_v59_apply, val_main_v58_apply]
  have h0 : (i 0).val < 4224 := (i 0).isLt
  have h1 : (i 1).val < 512 := (i 1).isLt
  have e : idx_main_v58 (idx_main_v59 i) = ix3 (⟨(i 1).val / 128, by omega⟩ : Fin 4) (⟨(i 0).val, h0⟩ : Fin 4224) (⟨(i 1).val % 128, by omega⟩ : Fin 128) := by
    funext a
    fin_cases a
    · exact Fin.ext (show ((i 0).val * 512 + (i 1).val) / 128 % 4 = (i 1).val / 128 by omega)
    · exact Fin.ext (show ((i 0).val * 512 + (i 1).val) / 512 = (i 0).val by omega)
    · exact Fin.ext (show ((i 0).val * 512 + (i 1).val) % 128 = (i 1).val % 128 by omega)
  rw [e]
  exact H.r57 _

theorem ref_k : val_main_v55 (F := Ideal) x0 x1 x2 = fun i : S4224x512.Idx => ((A.Gk (i 0) (i 1) : ℝ) : EReal) := by
  funext i
  rw [val_main_v55_apply, val_main_v54_apply]
  have h0 : (i 0).val < 4224 := (i 0).isLt
  have h1 : (i 1).val < 512 := (i 1).isLt
  have e : idx_main_v54 (idx_main_v55 i) = ix3 (⟨(i 1).val / 128, by omega⟩ : Fin 4) (⟨(i 0).val, h0⟩ : Fin 4224) (⟨(i 1).val % 128, by omega⟩ : Fin 128) := by
    funext a
    fin_cases a
    · exact Fin.ext (show ((i 0).val * 512 + (i 1).val) / 128 % 4 = (i 1).val / 128 by omega)
    · exact Fin.ext (show ((i 0).val * 512 + (i 1).val) / 512 = (i 0).val by omega)
    · exact Fin.ext (show ((i 0).val * 512 + (i 1).val) % 128 = (i 1).val % 128 by omega)
  rw [e]
  exact H.r40 _

theorem ref_v : val_main_v53 (F := Ideal) x0 x1 x2 = fun i : S4224x1024.Idx => ((A.Gv (i 0) (i 1) : ℝ) : EReal) := by
  funext i
  rw [val_main_v53_apply, val_main_v52_apply]
  have h0 : (i 0).val < 4224 := (i 0).isLt
  have h1 : (i 1).val < 1024 := (i 1).isLt
  have e : idx_main_v52 (idx_main_v53 i) = ix3 (⟨(i 1).val / 256, by omega⟩ : Fin 4) (⟨(i 0).val, h0⟩ : Fin 4224) (⟨(i 1).val % 256, by omega⟩ : Fin 256) := by
    funext a
    fin_cases a
    · exact Fin.ext (show ((i 0).val * 1024 + (i 1).val) / 256 % 4 = (i 1).val / 256 by omega)
    · exact Fin.ext (show ((i 0).val * 1024 + (i 1).val) / 1024 = (i 0).val by omega)
    · exact Fin.ext (show ((i 0).val * 1024 + (i 1).val) % 256 = (i 1).val % 256 by omega)
  rw [e]
  exact H.r34 _

theorem ref_g : val_main_v51 (F := Ideal) x0 x1 x2 = fun i : S4224x512.Idx => ((A.Gg (i 0) (i 1) : ℝ) : EReal) := by
  funext i
  rw [val_main_v51_apply, val_main_v50_apply]
  have h0 : (i 0).val < 4224 := (i 0).isLt
  have h1 : (i 1).val < 512 := (i 1).isLt
  have e : idx_main_v50 (idx_main_v51 i) = ix3 (⟨(i 1).val / 128, by omega⟩ : Fin 4) (⟨(i 0).val, h0⟩ : Fin 4224) (⟨(i 1).val % 128, by omega⟩ : Fin 128) := by
    funext a
    fin_cases a
    · exact Fin.ext (show ((i 0).val * 512 + (i 1).val) / 128 % 4 = (i 1).val / 128 by omega)
    · exact Fin.ext (show ((i 0).val * 512 + (i 1).val) / 512 = (i 0).val by omega)
    · exact Fin.ext (show ((i 0).val * 512 + (i 1).val) % 128 = (i 1).val % 128 by omega)
  rw [e]
  exact H.r49 _

end

end ArgsOf

end Cert.Gla
-- ==== Proof.Gla.Claim.lean ====
/- The value claim: kernel and reference leave the same four gradients. -/
module

public import proofs.«01_k».proof.Proof.Gla.Steps
public import proofs.«01_k».proof.Proof.Gla.Ref
public import proofs.«01_k».proof.Proof.Gen.Pre_all_finite
public import proofs.«01_k».proof.Defs
public import Idealize.ShloMosaic.Lib.Quiescent

@[expose] public section

noncomputable section

namespace Cert.Gla

open Idealize.ShloMosaic Idealize.ShloMosaic.TcCoe Idealize.SL.Sem

theorem inf_f32 : Ideal.ofBits .f32 0x7F800000#32 = ⊤ := by simp [Ideal.ofBits, Ideal.ieee]

/-- An absolute value below infinity: the number is neither infinity. -/
theorem finite_of_bit {x : EReal} (h : Ideal.cmp .olt (max x (-x)) (Ideal.ofBits .f32 0x7F800000#32) = 1#1) : x ≠ ⊤ ∧ x ≠ ⊥ := by
  rw [inf_f32] at h
  constructor <;> rintro rfl <;> simp [Ideal.cmp] at h

/-- Under the precondition the arguments hold real numbers. -/
theorem args_of_pre {m : (ℓ : Loc Cert.KernelIdeal.nD Cert.KernelIdeal.τ Cert.KernelIdeal.sig) → Buf (Elt Ideal) ℓ}
    (h : Cert.Pre_KernelIdeal_all_finite m) (c : Dev Cert.KernelIdeal.nD) : ∃ A, Inputs m c A :=
  argsOf _ _ _ (fun i => finite_of_bit (congrFun (h c).1 i)) (fun i => finite_of_bit (congrFun (h c).2.1 i))
    (fun i => finite_of_bit (congrFun (h c).2.2 i))

theorem algebraic : Cert.algebraic_KernelIdeal_ReferenceIdeal_pre_all_finite := by
  intro m g m' g' hpre hagree
  have hA := args_of_pre hpre
  refine ⟨fun c i => (((Classical.choose (hA c)).Gq (i 0) (i 1) : ℝ) : EReal), fun c i => (((Classical.choose (hA c)).Gk (i 0) (i 1) : ℝ) : EReal),
    fun c i => (((Classical.choose (hA c)).Gv (i 0) (i 1) : ℝ) : EReal), fun c i => (((Classical.choose (hA c)).Gg (i 0) (i 1) : ℝ) : EReal), ?_, ?_⟩
  · refine (θ_run _ _ _).mono (fun r h c => ?_) (Cert.KernelIdeal.Value.run_blocks m g)
    obtain ⟨h0, h1, h2, h3, hargs⟩ := h c
    have H := Classical.choose_spec (hA c)
    exact ⟨h0.trans (arr_q H), h1.trans (arr_k H), h2.trans (arr_v H), h3.trans (arr_g H), hargs⟩
  · refine (θ_run _ _ _).mono (fun r h c => ?_) (Cert.ReferenceIdeal.Value.run m' g')
    obtain ⟨h0, h1, h2, h3, hargs⟩ := h c
    have H := Classical.choose_spec (hA c)
    obtain ⟨a0, a1, a2⟩ := hagree c
    refine ⟨h0.trans ?_, h1.trans ?_, h2.trans ?_, h3.trans ?_, hargs⟩
    · rw [Cert.ReferenceIdeal.Read.val_main_v59_eq, a0, a1, a2]; exact H.ref_q
    · rw [Cert.ReferenceIdeal.Read.val_main_v55_eq, a0, a1, a2]; exact H.ref_k
    · rw [Cert.ReferenceIdeal.Read.val_main_v53_eq, a0, a1, a2]; exact H.ref_v
    · rw [Cert.ReferenceIdeal.Read.val_main_v51_eq, a0, a1, a2]; exact H.ref_g

/-- The reference terminates, keeps its arguments, and has no semaphore. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2.2.2.2, sem_eq_zero_of_no_sems rfl r.2⟩) (Cert.ReferenceIdeal.Value.run m g)

end Cert.Gla
-- ==== Proof.Ffn.Spec.lean ====
/- The gated layer `(silu (x·Wg) * (x·Wu))·Wd` at the ideal reading, entry by entry, and sums over blocks. -/
module

public import Idealize.ShloMosaic.Lib.Pipeline.ValueKit

@[expose] public section

noncomputable section

namespace Cert.Ffn

open Idealize.ShloMosaic Idealize.ShloMosaic.Pointwise Finset

/-- Column `y` of block `s` of the 2816 columns. -/
abbrev col (s : Fin 4) (y : Fin 704) : Fin 2816 := ⟨s.val * 704 + y.val, by omega⟩

/-- Rows times columns, and rows times rows. -/
def mm (x : FVec Ideal ⟨2, ![4224, 1024]⟩ .f32) (w : FVec Ideal ⟨2, ![1024, 2816]⟩ .f32) (t : Fin 4224) (f : Fin 2816) : EReal :=
  ∑ k : Fin 1024, x (ix2 t k) * w (ix2 k f)
@[inherit_doc mm]
def mmT (x : FVec Ideal ⟨2, ![4224, 1024]⟩ .f32) (w : FVec Ideal ⟨2, ![2816, 1024]⟩ .f32) (t : Fin 4224) (f : Fin 2816) : EReal :=
  ∑ k : Fin 1024, x (ix2 t k) * w (ix2 f k)

/-- The logistic function. -/
def logistic (a : EReal) : EReal := Ideal.div 1 (1 + Ideal.exp (-a))

/-- `silu a * b`, and its derivatives in `a` and in `b` times `g`. -/
def gate (a b : EReal) : EReal := a * logistic a * b
@[inherit_doc gate]
def gateA (a b g : EReal) : EReal := g * b * logistic a + a * (g * b) * (logistic a * (1 - logistic a))
@[inherit_doc gate]
def gateB (a g : EReal) : EReal := a * logistic a * g

/-- The sum over block `i` of `b` terms. -/
def part {N : ℕ} (F : Fin N → EReal) (b i : ℕ) (h : b * i + b ≤ N) : EReal := ∑ r : Fin b, F ⟨b * i + r, by omega⟩

theorem sum_three (F : Fin 4224 → EReal) :
    ∑ t, F t = part F 1408 0 (by decide) + part F 1408 1 (by decide) + part F 1408 2 (by decide) := by
  refine (Fin.sum_univ_add (a := 2816) (b := 1408) F).trans ?_
  refine congrArg₂ (· + ·) ((Fin.sum_univ_add (a := 1408) (b := 1408) _).trans ?_) ?_
  · refine congrArg₂ (· + ·) (sum_congr rfl fun r _ => congrArg F (Fin.ext ?_)) (sum_congr rfl fun r _ => congrArg F (Fin.ext ?_)) <;> simp <;> omega
  · exact sum_congr rfl fun r _ => congrArg F (Fin.ext (by simp))

theorem sum_four (F : Fin 2816 → EReal) :
    ∑ f, F f = part F 704 0 (by decide) + part F 704 1 (by decide) + part F 704 2 (by decide) + part F 704 3 (by decide) := by
  refine (Fin.sum_univ_add (a := 2112) (b := 704) F).trans ?_
  refine congrArg₂ (· + ·) ((Fin.sum_univ_add (a := 1408) (b := 704) _).trans ?_) ?_
  · refine congrArg₂ (· + ·) ((Fin.sum_univ_add (a := 704) (b := 704) _).trans ?_) ?_
    · refine congrArg₂ (· + ·) (sum_congr rfl fun r _ => congrArg F (Fin.ext ?_)) (sum_congr rfl fun r _ => congrArg F (Fin.ext ?_)) <;> simp <;> omega
    · exact sum_congr rfl fun r _ => congrArg F (Fin.ext (by simp))
  · exact sum_congr rfl fun r _ => congrArg F (Fin.ext (by simp))

end Cert.Ffn
-- ==== Proof.Ffn.FwPoint.lean ====
/- The gated layer, one grid point of the kernel: a block of columns of the two projections, and what these columns
   contribute to a block of rows of the result. -/
module

public import proofs.«01_k».proof.Proof.Ffn.Spec
public import proofs.«01_k».proof.Proof.Gen.Kernel2Ideal.Frame
public import proofs.«01_k».proof.Proof.Gen.Kernel2Ideal.Value
public import Idealize.ShloMosaic.Lib.Pipeline.ValueKit

@[expose] public section

set_option maxRecDepth 16384
set_option maxHeartbeats 400000

noncomputable section

namespace Cert.Ffn.Fw

open Cert.Kernel2Ideal Cert.Kernel2Ideal.Gen Idealize.ShloMosaic Idealize.ShloMosaic.Pointwise Finset

/-- A block of rows times a block of columns. -/
def up (x : Vec Ideal S1408x1024 .bf16) (w : Vec Ideal S1x704x1024 .bf16) (r : Fin 1408) (y : Fin 704) : EReal :=
  ∑ k : Fin 1024, x (ix2 r k) * w (ix3 0 y k)

/-- What a block of columns contributes to the result. -/
def down (x : Vec Ideal S1408x1024 .bf16) (w1 w2 w3 : Vec Ideal S1x704x1024 .bf16) : Vec Ideal S1408x1024 .f32 := fun i =>
  (∑ y : Fin 704, gate (up x w1 (i 0) y) (up x w2 (i 0) y) * w3 (ix3 0 y (i 1)) : EReal)

theorem down_sum (x : Vec Ideal S1408x1024 .bf16) (w1 w2 w3 : Vec Ideal S1x704x1024 .bf16) (r : Fin 1408) (d : Fin 1024) :
    down x w1 w2 w3 (ix2 r d) = (∑ y : Fin 704, gate (up x w1 r y) (up x w2 r y) * w3 (ix3 0 y d) : EReal) := rfl

theorem up_at (x : Vec Ideal S1408x1024 .bf16) (w : Vec Ideal S1x704x1024 .bf16) (r : Fin 1408) (y : Fin 704) :
    k0_pay3 (F := Ideal) x w (ix2 r y) = up x w r y := by
  pointwise [k0_pay3, k0_pay2]
  rfl

theorem down_at (x : Vec Ideal S1408x1024 .bf16) (w1 w2 w3 : Vec Ideal S1x704x1024 .bf16) (r : Fin 1408) (d : Fin 1024) :
    k0_pay5 (F := Ideal) x w1 w2 w3 (ix2 r d) = down x w1 w2 w3 (ix2 r d) := by
  have e4 : ∀ y, k0_pay4 (F := Ideal) x w2 (ix2 r y) = up x w2 r y := up_at x w2 r
  pointwise [k0_pay5, up_at, e4]
  simp only [zero_sub]
  rfl

theorem pay5 (x : Vec Ideal S1408x1024 .bf16) (w1 w2 w3 : Vec Ideal S1x704x1024 .bf16) :
    k0_pay5 (F := Ideal) x w1 w2 w3 = down x w1 w2 w3 := by
  funext i
  rw [eq_ix2 i]
  exact down_at x w1 w2 w3 _ _

theorem pay6 (x : Vec Ideal S1408x1024 .bf16) (w1 w2 w3 : Vec Ideal S1x704x1024 .bf16) (a : Vec Ideal S1408x1024 .f32) :
    k0_pay6 (F := Ideal) x w1 w2 w3 a = fun i => a i + down x w1 w2 w3 i := by
  funext i
  rw [eq_ix2 i]
  pointwise [k0_pay6, pay5]

theorem pay7 (x : Vec Ideal S1408x1024 .bf16) (w : Vec Ideal S1x704x1024 .bf16) (i : S1x1408x704.Idx) :
    k0_pay7 (F := Ideal) x w i = up x w (i 1) (i 2) := by
  have h0 : i 0 = (0 : Fin 1) := Fin.fin_one_eq_zero (i 0)
  rw [eq_ix3 i, h0]
  pointwise [k0_pay7, up_at]

theorem pay1 (x : Vec Ideal S1408x1024 .bf16) (w : Vec Ideal S1x704x1024 .bf16) (i : S1x1408x704.Idx) :
    k0_pay1 (F := Ideal) (k0_pay4 x w) i = up x w (i 1) (i 2) := pay7 x w i

variable (c : Dev nD) (i : grid0.Coords)
  (arg2 : Memref sig .tc .vmem S1408x1024 .bf16) (harg2 : arg2.IsWhole) (arg3 : Memref sig .tc .vmem S1x704x1024 .bf16) (harg3 : arg3.IsWhole)
  (arg4 : Memref sig .tc .vmem S1x704x1024 .bf16) (harg4 : arg4.IsWhole) (arg5 : Memref sig .tc .vmem S1x704x1024 .bf16) (harg5 : arg5.IsWhole)
  (arg6 : Memref sig .tc .vmem S1408x1024 .f32) (harg6 : arg6.IsWhole) (arg7 : Memref sig .tc .vmem S1x1408x704 .bf16) (harg7 : arg7.IsWhole)
  (arg8 : Memref sig .tc .vmem S1x1408x704 .bf16) (harg8 : arg8.IsWhole)
  (x0 : Vec Ideal S1408x1024 .bf16) (x1 x2 x3 : Vec Ideal S1x704x1024 .bf16) (xo4 : Vec Ideal S1408x1024 .f32)

theorem f_A (hc0 : cond0_0 i) (hc1 : ¬cond0_1 i) :
    out0_A_4 c i arg2 harg2 arg3 harg3 arg4 harg4 arg5 harg5 arg6 harg6 arg7 harg7 arg8 harg8 hc0 hc1 x0 x1 x2 x3 = down x0 x1 x2 x3 := by
  funext y
  frame_out
  exact congrFun (pay5 _ _ _ _) y

theorem f_B (hc0 : ¬cond0_0 i) (hc1 : cond0_1 i) :
    out0_B_4 c i arg2 harg2 arg3 harg3 arg4 harg4 arg5 harg5 arg6 harg6 arg7 harg7 arg8 harg8 hc0 hc1 x0 x1 x2 x3 xo4 = fun y => xo4 y + down x0 x1 x2 x3 y := by
  funext y
  frame_out
  exact congrFun (pay6 _ _ _ _ _) y

theorem a_A (hc0 : cond0_0 i) (hc1 : ¬cond0_1 i) :
    out0_A_5 c i arg2 harg2 arg3 harg3 arg4 harg4 arg5 harg5 arg6 harg6 arg7 harg7 arg8 harg8 hc0 hc1 x0 x1 x2 x3 = fun y => up x0 x1 (y 1) (y 2) := by
  funext y
  frame_out
  exact pay7 _ _ y

theorem b_A (hc0 : cond0_0 i) (hc1 : ¬cond0_1 i) :
    out0_A_6 c i arg2 harg2 arg3 harg3 arg4 harg4 arg5 harg5 arg6 harg6 arg7 harg7 arg8 harg8 hc0 hc1 x0 x1 x2 x3 = fun y => up x0 x2 (y 1) (y 2) := by
  funext y
  frame_out
  exact pay1 _ _ y

theorem a_B (hc0 : ¬cond0_0 i) (hc1 : cond0_1 i) :
    out0_B_5 c i arg2 harg2 arg3 harg3 arg4 harg4 arg5 harg5 arg6 harg6 arg7 harg7 arg8 harg8 hc0 hc1 x0 x1 x2 x3 xo4 = fun y => up x0 x1 (y 1) (y 2) := by
  funext y
  frame_out
  exact pay7 _ _ y

theorem b_B (hc0 : ¬cond0_0 i) (hc1 : cond0_1 i) :
    out0_B_6 c i arg2 harg2 arg3 harg3 arg4 harg4 arg5 harg5 arg6 harg6 arg7 harg7 arg8 harg8 hc0 hc1 x0 x1 x2 x3 xo4 = fun y => up x0 x2 (y 1) (y 2) := by
  funext y
  frame_out
  exact pay1 _ _ y

end Cert.Ffn.Fw
-- ==== Proof.Ffn.FwSteps.lean ====
/- The gated layer: the blocks that the kernel reads, what the grid points leave, and the three arrays that the
   kernel leaves. -/
module

public import proofs.«01_k».proof.Proof.Ffn.FwPoint
public import Idealize.ShloMosaic.Lib.StableHlo.ReadAt

@[expose] public section

set_option maxRecDepth 16384
set_option maxHeartbeats 400000

noncomputable section

namespace Cert.Ffn.Fw

open Cert.Kernel2Ideal Cert.Kernel2Ideal.Gen Idealize.ShloMosaic Idealize.ShloMosaic.Pointwise Idealize.ShloMosaic.TcCoe
open Idealize.SL.Sem Finset

variable (m : (ℓ : Loc nD τ sig) → Buf (Elt Ideal) ℓ) (c : Dev nD)

/-! ## The blocks -/

/-- The block of each window at grid point `t`: block `t / 4` of the rows and block `t % 4` of the columns. -/
theorem idx (t : Fin cfg0.N) : win0_0.index t = ![t.val / 4, 0] ∧ win0_1.index t = ![t.val % 4, 0, 0] ∧ win0_2.index t = ![t.val % 4, 0, 0]
    ∧ win0_3.index t = ![t.val % 4, 0, 0] ∧ win0_4.index t = ![t.val / 4, 0] ∧ win0_5.index t = ![t.val % 4, t.val / 4, 0]
    ∧ win0_6.index t = ![t.val % 4, t.val / 4, 0] := by
  have h : ∀ t : Fin grid0.N, win0_0.index t = ![t.val / 4, 0] ∧ win0_1.index t = ![t.val % 4, 0, 0] ∧ win0_2.index t = ![t.val % 4, 0, 0]
    ∧ win0_3.index t = ![t.val % 4, 0, 0] ∧ win0_4.index t = ![t.val / 4, 0] ∧ win0_5.index t = ![t.val % 4, t.val / 4, 0]
    ∧ win0_6.index t = ![t.val % 4, t.val / 4, 0] := by
    decide +kernel
  exact h t

theorem blk0 (t : Fin cfg0.N) (r : Fin 1408) (j : Fin 4224) (hj : j.val = 1408 * (t.val / 4) + r.val) (k : Fin 1024) :
    iblk m c 0 t (ix2 r k) = V m c (Pipeline.arrRef spec0 0) (ix2 j k) := by
  blk_ext [iblk, (idx t).1]

variable (t : Fin cfg0.N) (s : Fin 4) (hs : s.val = t.val % 4)
include hs

theorem blk1 (y : Fin 704) (k : Fin 1024) : iblk m c 1 t (ix3 0 y k) = V m c (Pipeline.arrRef spec0 1) (ix3 s y k) := by
  blk_ext [iblk, (idx t).2.1]

theorem blk2 (y : Fin 704) (k : Fin 1024) : iblk m c 2 t (ix3 0 y k) = V m c (Pipeline.arrRef spec0 2) (ix3 s y k) := by
  blk_ext [iblk, (idx t).2.2.1]

theorem blk3 (y : Fin 704) (k : Fin 1024) : iblk m c 3 t (ix3 0 y k) = V m c (Pipeline.arrRef spec0 3) (ix3 s y k) := by
  blk_ext [iblk, (idx t).2.2.2.1]

omit hs

/-! ## The arguments and what the host code prepares -/

abbrev Xx : FVec Ideal ⟨2, ![4224, 1024]⟩ .f32 := m ((c : Thread nD τ).loc main_arg0)
abbrev Wg : FVec Ideal ⟨2, ![1024, 2816]⟩ .f32 := m ((c : Thread nD τ).loc main_arg1)
abbrev Wu : FVec Ideal ⟨2, ![1024, 2816]⟩ .f32 := m ((c : Thread nD τ).loc main_arg2)
abbrev Wd : FVec Ideal ⟨2, ![2816, 1024]⟩ .f32 := m ((c : Thread nD τ).loc main_arg3)

theorem read0 (j : Fin 4224) (k : Fin 1024) : V m c main_v0 (ix2 j k) = Xx m c (ix2 j k) := by
  unfold V
  after_reads_at

theorem read1 (s : Fin 4) (y : Fin 704) (k : Fin 1024) : V m c main_v3 (ix3 s y k) = Wg m c (ix2 k (col s y)) := by
  unfold V
  after_reads_at

theorem read2 (s : Fin 4) (y : Fin 704) (k : Fin 1024) : V m c main_v6 (ix3 s y k) = Wu m c (ix2 k (col s y)) := by
  unfold V
  after_reads_at

theorem read3 (s : Fin 4) (y : Fin 704) (k : Fin 1024) : V m c main_v8 (ix3 s y k) = Wd m c (ix2 (col s y) k) := by
  unfold V
  after_reads_at

/-! ## The grid -/

theorem lt (t : Fin cfg0.N) : t.val < 12 := lt_of_lt_of_eq t.isLt N_0

/-- The grid point before `t`. -/
abbrev back (t : Fin cfg0.N) : Fin cfg0.N := ⟨t.val - 1, lt_of_le_of_lt (Nat.sub_le _ _) t.isLt⟩

/-- The terms of entry `j, d` of the result, over the columns. -/
def F (j : Fin 4224) (d : Fin 1024) (f : Fin 2816) : EReal :=
  gate (mm (Xx m c) (Wg m c) j f) (mm (Xx m c) (Wu m c) j f) * Wd m c (ix2 f d)

/-- What the blocks of a grid point contribute to the result. -/
def P (t : Fin cfg0.N) : Vec Ideal S1408x1024 .f32 := down (iblk m c 0 t) (iblk m c 1 t) (iblk m c 2 t) (iblk m c 3 t)

theorem a_at (t : Fin cfg0.N) (s : Fin 4) (hs : s.val = t.val % 4) (r : Fin 1408) (j : Fin 4224) (hj : j.val = 1408 * (t.val / 4) + r.val) (y : Fin 704) :
    up (iblk m c 0 t) (iblk m c 1 t) r y = mm (Xx m c) (Wg m c) j (col s y) :=
  sum_congr rfl fun k _ => congrArg₂ (· * ·) ((blk0 m c t r j hj k).trans (read0 m c j k)) ((blk1 m c t s hs y k).trans (read1 m c s y k))

theorem b_at (t : Fin cfg0.N) (s : Fin 4) (hs : s.val = t.val % 4) (r : Fin 1408) (j : Fin 4224) (hj : j.val = 1408 * (t.val / 4) + r.val) (y : Fin 704) :
    up (iblk m c 0 t) (iblk m c 2 t) r y = mm (Xx m c) (Wu m c) j (col s y) :=
  sum_congr rfl fun k _ => congrArg₂ (· * ·) ((blk0 m c t r j hj k).trans (read0 m c j k)) ((blk2 m c t s hs y k).trans (read2 m c s y k))

theorem P_at (t : Fin cfg0.N) (s : ℕ) (hs : s = t.val % 4) (h : 704 * s + 704 ≤ 2816) (r : Fin 1408) (j : Fin 4224) (hj : j.val = 1408 * (t.val / 4) + r.val) (d : Fin 1024) :
    P m c t (ix2 r d) = part (F m c j d) 704 s h := by
  refine (down_sum _ _ _ _ _ _).trans (sum_congr rfl fun y _ => ?_)
  have e : col ⟨s, by omega⟩ y = (⟨704 * s + y.val, by omega⟩ : Fin 2816) := Fin.ext (by show s * 704 + y.val = 704 * s + y.val; omega)
  unfold F
  rw [← e]
  exact congrArg₂ (· * ·) (congrArg₂ gate (a_at m c t ⟨s, by omega⟩ hs r j hj y) (b_at m c t ⟨s, by omega⟩ hs r j hj y))
    ((blk3 m c t ⟨s, by omega⟩ hs y d).trans (read3 m c _ y d))

theorem start (t : Fin cfg0.N) (h : t.val % 4 = 0) : (outsAt0 m c t.val t.isLt).1 = P m c t := by
  rw [outsAt0_A m c t h (by omega)]
  dsimp only
  rw [f_A]
  rfl

theorem next (t : Fin cfg0.N) (h : ¬t.val % 4 = 0) (y : S1408x1024.Idx) :
    (outsAt0 m c t.val t.isLt).1 y = (outsAt0 m c (back t).val (back t).isLt).1 y + P m c t y := by
  rw [outsAt0_B m c t h (by omega)]
  dsimp only
  rw [f_B]
  rfl

theorem final (t : Fin cfg0.N) (h : t.val % 4 = 3) (r : Fin 1408) (d : Fin 1024) (j : Fin 4224) (hj : j.val = 1408 * (t.val / 4) + r.val) :
    (outsAt0 m c t.val t.isLt).1 (ix2 r d) = ∑ f, F m c j d f := by
  have h1 : (back t).val % 4 = 2 := by show (t.val - 1) % 4 = 2; omega
  have h2 : (back (back t)).val % 4 = 1 := by show (t.val - 1 - 1) % 4 = 1; omega
  have h3 : (back (back (back t))).val % 4 = 0 := by show (t.val - 1 - 1 - 1) % 4 = 0; omega
  have j1 : j.val = 1408 * ((back t).val / 4) + r.val := by show j.val = 1408 * ((t.val - 1) / 4) + r.val; omega
  have j2 : j.val = 1408 * ((back (back t)).val / 4) + r.val := by show j.val = 1408 * ((t.val - 1 - 1) / 4) + r.val; omega
  have j3 : j.val = 1408 * ((back (back (back t))).val / 4) + r.val := by show j.val = 1408 * ((t.val - 1 - 1 - 1) / 4) + r.val; omega
  rw [next m c t (by omega), next m c (back t) (by omega), next m c (back (back t)) (by omega), start m c (back (back (back t))) h3, sum_four]
  exact congrArg₂ (· + ·) (congrArg₂ (· + ·) (congrArg₂ (· + ·) (P_at m c _ 0 h3.symm _ r j j3 d) (P_at m c _ 1 h2.symm _ r j j2 d))
    (P_at m c _ 2 h1.symm _ r j j1 d)) (P_at m c t 3 h.symm _ r j hj d)

theorem outA (t : Fin cfg0.N) (y : S1x1408x704.Idx) : (outsAt0 m c t.val t.isLt).2.1 y = up (iblk m c 0 t) (iblk m c 1 t) (y 1) (y 2) := by
  by_cases h : t.val % 4 = 0
  · rw [outsAt0_A m c t h (by omega)]
    dsimp only
    rw [a_A]
  · rw [outsAt0_B m c t h (by omega)]
    dsimp only
    rw [a_B]

theorem outB (t : Fin cfg0.N) (y : S1x1408x704.Idx) : (outsAt0 m c t.val t.isLt).2.2 y = up (iblk m c 0 t) (iblk m c 2 t) (y 1) (y 2) := by
  by_cases h : t.val % 4 = 0
  · rw [outsAt0_A m c t h (by omega)]
    dsimp only
    rw [b_A]
  · rw [outsAt0_B m c t h (by omega)]
    dsimp only
    rw [b_B]

/-- The result. -/
theorem arrF : (dats m 0 c).arrAt 4 cfg0.N = fun i : S4224x1024.Idx => (∑ f, F m c (i 0) (i 1) f : EReal) := by
  refine (dats m 0 c).arrAt_eq_of_covers 4 _ (by decide +kernel) fun t hf y => ?_
  have h := (flush0_4 t).mp hf
  have ht := lt t
  have hi := (idx t).2.2.2.2.1
  have hy : (y 0).val < 1408 := (y 0).isLt
  have e0 : (win0_4.blk t).view.emb y 0 = (⟨t.val / 4 * 1408 + (y 0).val, by omega⟩ : Fin 4224) := Fin.ext (by blk_simp [hi])
  have e1 : (win0_4.blk t).view.emb y 1 = (⟨(y 1).val, (y 1).isLt⟩ : Fin 1024) := Fin.ext (by blk_simp [hi])
  blk_simp [after0_4]
  rw [e0, e1]
  refine (congrArg (outsAt0 m c t.val t.isLt).1 (eq_ix2 y)).trans ?_
  exact final m c t h (y 0) (y 1) _ (congrArg (· + (y 0).val) (Nat.mul_comm (t.val / 4) 1408))

/-- The first projection, by blocks of columns. -/
theorem arrA : (dats m 0 c).arrAt 5 cfg0.N = fun i : S4x4224x704.Idx => mm (Xx m c) (Wg m c) (i 1) (col (i 0) (i 2)) := by
  refine (dats m 0 c).arrAt_eq_of_covers 5 _ (by decide +kernel) fun t hf y => ?_
  have ht := lt t
  have hi := (idx t).2.2.2.2.2.1
  have hy : (y 1).val < 1408 := (y 1).isLt
  have e0 : (win0_5.blk t).view.emb y 0 = (⟨t.val % 4, by omega⟩ : Fin 4) := Fin.ext (by blk_simp [hi])
  have e1 : (win0_5.blk t).view.emb y 1 = (⟨t.val / 4 * 1408 + (y 1).val, by omega⟩ : Fin 4224) := Fin.ext (by blk_simp [hi])
  have e2 : (win0_5.blk t).view.emb y 2 = (⟨(y 2).val, (y 2).isLt⟩ : Fin 704) := Fin.ext (by blk_simp [hi])
  blk_simp [after0_5]
  rw [e0, e1, e2]
  exact (outA m c t y).trans (a_at m c t _ rfl (y 1) _ (congrArg (· + (y 1).val) (Nat.mul_comm (t.val / 4) 1408)) (y 2))

/-- The second projection, by blocks of columns. -/
theorem arrB : (dats m 0 c).arrAt 6 cfg0.N = fun i : S4x4224x704.Idx => mm (Xx m c) (Wu m c) (i 1) (col (i 0) (i 2)) := by
  refine (dats m 0 c).arrAt_eq_of_covers 6 _ (by decide +kernel) fun t hf y => ?_
  have ht := lt t
  have hi := (idx t).2.2.2.2.2.2
  have hy : (y 1).val < 1408 := (y 1).isLt
  have e0 : (win0_6.blk t).view.emb y 0 = (⟨t.val % 4, by omega⟩ : Fin 4) := Fin.ext (by blk_simp [hi])
  have e1 : (win0_6.blk t).view.emb y 1 = (⟨t.val / 4 * 1408 + (y 1).val, by omega⟩ : Fin 4224) := Fin.ext (by blk_simp [hi])
  have e2 : (win0_6.blk t).view.emb y 2 = (⟨(y 2).val, (y 2).isLt⟩ : Fin 704) := Fin.ext (by blk_simp [hi])
  blk_simp [after0_6]
  rw [e0, e1, e2]
  exact (outB m c t y).trans (b_at m c t _ rfl (y 1) _ (congrArg (· + (y 1).val) (Nat.mul_comm (t.val / 4) 1408)) (y 2))

end Cert.Ffn.Fw
-- ==== Proof.Ffn.FwClaim.lean ====
/- The gated layer: what the reference computes, entry by entry, and the claim. -/
module

public import proofs.«01_k».proof.Proof.Ffn.FwSteps
public import proofs.«01_k».proof.Proof.Gen.Reference2Ideal.Run
public import proofs.«01_k».proof.Proof.Gen.Reference2Ideal.Read
public import proofs.«01_k».proof.Defs
public import Idealize.ShloMosaic.Lib.Quiescent

@[expose] public section

set_option maxRecDepth 16384
set_option maxHeartbeats 400000

noncomputable section

namespace Cert.Ffn.Fw

open Idealize.ShloMosaic Idealize.ShloMosaic.Pointwise Idealize.ShloMosaic.TcCoe Idealize.SL.Sem Finset

section
open Cert.Reference2Ideal Cert.Reference2Ideal.Gen Cert.Reference2Ideal.Read

variable (x0 : FVec Ideal ⟨2, ![4224, 1024]⟩ .f32) (x1 x2 : FVec Ideal ⟨2, ![1024, 2816]⟩ .f32) (x3 : FVec Ideal ⟨2, ![2816, 1024]⟩ .f32)

theorem ref_gate (t : Fin 4224) (f : Fin 2816) : val_main_v3 (F := Ideal) x0 x1 x2 (ix2 t f) = gate (mm x0 x1 t f) (mm x0 x2 t f) := by
  pointwise [val_main_v3, val_main_v2, val_main_v1, val_main_call0_v5, val_main_call0_v4, val_main_call0_cst_0, val_main_call0_v3, val_main_call0_v2, val_main_call0_cst, val_main_call0_v1, val_main_call0_v0, val_main_v0]
  rfl

theorem refF (i : S4224x1024.Idx) : val_main_v4 (F := Ideal) x0 x1 x2 x3 i
    = ∑ f : Fin 2816, gate (mm x0 x1 (i 0) f) (mm x0 x2 (i 0) f) * x3 (ix2 f (i 1)) := by
  rw [eq_ix2 i]
  pointwise [val_main_v4, ref_gate]

theorem refA (i : S4x4224x704.Idx) : val_main_v8 (F := Ideal) x0 x1 i = mm x0 x1 (i 1) (col (i 0) (i 2)) := by
  rw [eq_ix3 i]
  pointwise [val_main_v8, val_main_v7, val_main_v6, val_main_v5]
  rfl

theorem refB (i : S4x4224x704.Idx) : val_main_v12 (F := Ideal) x0 x2 i = mm x0 x2 (i 1) (col (i 0) (i 2)) := by
  rw [eq_ix3 i]
  pointwise [val_main_v12, val_main_v11, val_main_v10, val_main_v9]
  rfl

end

theorem algebraic : Cert.algebraic_Kernel2Ideal_Reference2Ideal := by
  intro m g m' g' _ hagree
  refine ⟨fun c i => (∑ f, F m c (i 0) (i 1) f : EReal), fun c i => mm (Xx m c) (Wg m c) (i 1) (col (i 0) (i 2)),
    fun c i => mm (Xx m c) (Wu m c) (i 1) (col (i 0) (i 2)), ?_, ?_⟩
  · refine (θ_run _ _ _).mono (fun r h c => ?_) (Cert.Kernel2Ideal.Value.run_blocks m g)
    obtain ⟨h0, h1, h2, hargs⟩ := h c
    exact ⟨h0.trans (arrF m c), h1.trans (arrA m c), h2.trans (arrB m c), hargs⟩
  · refine (θ_run _ _ _).mono (fun r h c => ?_) (Cert.Reference2Ideal.Value.run m' g')
    obtain ⟨h0, h1, h2, hargs⟩ := h c
    obtain ⟨a0, a1, a2, a3⟩ := hagree c
    refine ⟨h0.trans ?_, h1.trans ?_, h2.trans ?_, hargs⟩
    · rw [Cert.Reference2Ideal.Read.val_main_v4_eq, a0, a1, a2, a3]; exact funext fun i => refF _ _ _ _ i
    · rw [Cert.Reference2Ideal.Read.val_main_v8_eq, a0, a1]; exact funext fun i => refA _ _ i
    · rw [Cert.Reference2Ideal.Read.val_main_v12_eq, a0, a2]; exact funext fun i => refB _ _ i

/-- The reference terminates, keeps its arguments, and has no semaphore. -/
theorem reference : Cert.quiescent_Reference2Ideal := fun m g _ =>
  (θ_run _ _ _).mono (fun r h => ⟨fun c => (h c).2.2.2, sem_eq_zero_of_no_sems rfl r.2⟩) (Cert.Reference2Ideal.Value.run m g)

end Cert.Ffn.Fw
-- ==== Proof.Ffn.BxPoint.lean ====
/- The layer's gradient in its input, one grid point of the kernel: what a block of columns of the gate contributes
   to a block of rows of the result, and the blocks of the gate's two gradients and of the gate. The point takes its
   rows in four parts of 176; case A starts the result from zero, case B adds to it. -/
module

public import proofs.«01_k».proof.Proof.Ffn.Spec
public import proofs.«01_k».proof.Proof.Gen.Kernel3Ideal.Frame
public import proofs.«01_k».proof.Proof.Gen.Kernel3Ideal.Value
public import Idealize.ShloMosaic.Lib.Pipeline.ValueKit
public import Idealize.ShloMosaic.Lib.Pipeline.ReadBack

@[expose] public section

set_option maxRecDepth 16384
set_option maxHeartbeats 400000

noncomputable section

namespace Cert.Ffn.Bx

open Cert.Kernel3Ideal Cert.Kernel3Ideal.Gen Idealize.ShloMosaic Idealize.ShloMosaic.Pointwise Finset

/-- The gradient of the gate in its first argument, as the kernel writes it. -/
def gateK (a b g : EReal) : EReal := g * b * (logistic a * (1 + a * (1 - logistic a)))

/-- A row of the layer's cotangent times a row of the last weight. -/
def dot {n : ℕ} (u : Vec Ideal ⟨2, ![n, 1024]⟩ .bf16) (w : Vec Ideal S1x704x1024 .bf16) (r : Fin n) (y : Fin 704) : EReal :=
  ∑ k : Fin 1024, u (ix2 r k) * w (ix3 0 y k)

/-- Entries of the gate's two gradients and of the gate, from blocks of `n` rows. -/
def ga {n : ℕ} (p q : Vec Ideal ⟨3, ![1, n, 704]⟩ .bf16) (u : Vec Ideal ⟨2, ![n, 1024]⟩ .bf16) (w : Vec Ideal S1x704x1024 .bf16) (r : Fin n) (y : Fin 704) : EReal :=
  gateK (p (ix3 0 r y)) (q (ix3 0 r y)) (dot u w r y)
@[inherit_doc ga]
def gb {n : ℕ} (p : Vec Ideal ⟨3, ![1, n, 704]⟩ .bf16) (u : Vec Ideal ⟨2, ![n, 1024]⟩ .bf16) (w : Vec Ideal S1x704x1024 .bf16) (r : Fin n) (y : Fin 704) : EReal :=
  gateB (p (ix3 0 r y)) (dot u w r y)
@[inherit_doc ga]
def gh {n : ℕ} (p q : Vec Ideal ⟨3, ![1, n, 704]⟩ .bf16) (r : Fin n) (y : Fin 704) : EReal := gate (p (ix3 0 r y)) (q (ix3 0 r y))

/-- What the blocks contribute to the result. -/
def back {n : ℕ} (p q : Vec Ideal ⟨3, ![1, n, 704]⟩ .bf16) (u : Vec Ideal ⟨2, ![n, 1024]⟩ .bf16) (w1 w2 w3 : Vec Ideal S1x704x1024 .bf16) (r : Fin n) (d : Fin 1024) : EReal :=
  (∑ y : Fin 704, ga p q u w3 r y * w1 (ix3 0 y d)) + ∑ y : Fin 704, gb p u w3 r y * w2 (ix3 0 y d)

/-! ## The stores of a part of the rows -/

section
variable (p q : Vec Ideal S1x176x704 .bf16) (u : Vec Ideal S176x1024 .bf16) (w1 w2 w3 : Vec Ideal S1x704x1024 .bf16) (o : Vec Ideal S176x1024 .f32)

theorem logistic_at (r : Fin 176) (y : Fin 704) : k0_pay8 (F := Ideal) p (ix2 r y) = logistic (p (ix3 0 r y)) := by
  pointwise [k0_pay8, k0_pay5]
  simp only [zero_sub]
  rfl

theorem dot_at (r : Fin 176) (y : Fin 704) : k0_pay7 (F := Ideal) u w3 (ix2 r y) = dot u w3 r y := by
  pointwise [k0_pay7]
  rfl

theorem ga_at (r : Fin 176) (y : Fin 704) : k0_pay10 (F := Ideal) p q u w3 (ix2 r y) = ga p q u w3 r y := by
  pointwise [k0_pay10, k0_pay5, k0_pay6, logistic_at, dot_at]
  rfl

theorem gb_at (r : Fin 176) (y : Fin 704) : k0_pay11 (F := Ideal) p u w3 (ix2 r y) = gb p u w3 r y := by
  pointwise [k0_pay11, k0_pay9, k0_pay5, logistic_at, dot_at]
  exact mul_comm _ _

theorem back_at (r : Fin 176) (d : Fin 1024) :
    k0_pay13 (F := Ideal) (k0_pay10 p q u w3) (k0_pay11 p u w3) (k0_pay12 o) w1 w2 (ix2 r d) = o (ix2 r d) + back p q u w1 w2 w3 r d := by
  pointwise [k0_pay13, k0_pay12, ga_at, gb_at]
  rfl

theorem sa (i : S1x176x704.Idx) : k0_pay14 (F := Ideal) (k0_pay10 p q u w3) i = ga p q u w3 (i 1) (i 2) := by
  have h0 : i 0 = (0 : Fin 1) := Fin.fin_one_eq_zero (i 0)
  rw [eq_ix3 i, h0]
  pointwise [k0_pay14, ga_at]

theorem sb (i : S1x176x704.Idx) : k0_pay15 (F := Ideal) (k0_pay11 p u w3) i = gb p u w3 (i 1) (i 2) := by
  have h0 : i 0 = (0 : Fin 1) := Fin.fin_one_eq_zero (i 0)
  rw [eq_ix3 i, h0]
  pointwise [k0_pay15, gb_at]

theorem sh_at (r : Fin 176) (y : Fin 704) : k0_pay16 (F := Ideal) (k0_pay6 q) (k0_pay9 p) (ix3 0 r y) = gh p q r y := by
  pointwise [k0_pay16, k0_pay6, k0_pay9, k0_pay5, logistic_at]
  rfl

theorem sh (i : S1x176x704.Idx) : k0_pay16 (F := Ideal) (k0_pay6 q) (k0_pay9 p) i = gh p q (i 1) (i 2) := by
  have h0 : i 0 = (0 : Fin 1) := Fin.fin_one_eq_zero (i 0)
  rw [eq_ix3 i, h0]
  exact sh_at p q _ _

theorem sx (i : S176x1024.Idx) :
    k0_pay13 (F := Ideal) (k0_pay10 p q u w3) (k0_pay11 p u w3) (k0_pay12 o) w1 w2 i = o i + back p q u w1 w2 w3 (i 0) (i 1) := by
  rw [eq_ix2 i]
  exact back_at p q u w1 w2 w3 o _ _

/-! The other three parts store the same functions of their own rows. -/

theorem sx2 : k0_pay25 (F := Ideal) (k0_pay17 p) (k0_pay18 q) (k0_pay19 u) w3 o w1 w2 = k0_pay13 (k0_pay10 p q u w3) (k0_pay11 p u w3) (k0_pay12 o) w1 w2 := rfl
theorem sx3 : k0_pay37 (F := Ideal) (k0_pay31 u w3) (k0_pay33 p) (k0_pay34 p q u w3) o w1 w2 = k0_pay13 (k0_pay10 p q u w3) (k0_pay11 p u w3) (k0_pay12 o) w1 w2 := rfl
theorem sx4 : k0_pay48 (F := Ideal) (k0_pay41 p) q u w3 o w1 w2 = k0_pay13 (k0_pay10 p q u w3) (k0_pay11 p u w3) (k0_pay12 o) w1 w2 := rfl
theorem sa2 : k0_pay26 (F := Ideal) (k0_pay17 p) (k0_pay18 q) (k0_pay19 u) w3 = k0_pay14 (k0_pay10 p q u w3) := rfl
theorem sa3 : k0_pay38 (F := Ideal) (k0_pay34 p q u w3) = k0_pay14 (k0_pay10 p q u w3) := rfl
theorem sa4 : k0_pay1 (F := Ideal) (k0_pay46 (k0_pay41 p) q u w3) = k0_pay14 (k0_pay10 p q u w3) := rfl
theorem sb2 : k0_pay27 (F := Ideal) (k0_pay24 (k0_pay17 p) (k0_pay19 u) w3) = k0_pay15 (k0_pay11 p u w3) := rfl
theorem sb3 : k0_pay39 (F := Ideal) (k0_pay31 u w3) (k0_pay33 p) = k0_pay15 (k0_pay11 p u w3) := rfl
theorem sb4 : k0_pay2 (F := Ideal) (k0_pay47 (k0_pay41 p) u w3) = k0_pay15 (k0_pay11 p u w3) := rfl
theorem sh2 : k0_pay28 (F := Ideal) (k0_pay18 q) (k0_pay22 (k0_pay17 p)) = k0_pay16 (k0_pay6 q) (k0_pay9 p) := rfl
theorem sh3 : k0_pay40 (F := Ideal) (k0_pay30 q) (k0_pay33 p) = k0_pay16 (k0_pay6 q) (k0_pay9 p) := rfl
theorem sh4 : k0_pay3 (F := Ideal) (k0_pay42 q) (k0_pay45 (k0_pay41 p)) = k0_pay16 (k0_pay6 q) (k0_pay9 p) := rfl

end

/-! ## Parts of the blocks -/

theorem cut2 {e} (X : Vec Ideal S704x1024 e) (n : ℕ) (h : ∀ a, (![n, 0] : Fin 2 → ℕ) a + (![176, 1024] : Fin 2 → ℕ) a ≤ S704x1024.size a)
    (r : Fin 176) (k : Fin 1024) (j : Fin 704) (hj : j.val = n + r.val) :
    View.ld X (Rect.unit (s := S704x1024) ![n, 0] ![176, 1024] h) (ix2 r k) = X (ix2 j k) :=
  congrArg X (funext fun a => Fin.ext (by fin_cases a <;> simp [Rect.emb_apply, hj]))

theorem cut3 {e} (X : Vec Ideal S1x704x704 e) (n : ℕ) (h : ∀ a, (![0, n, 0] : Fin 3 → ℕ) a + (![1, 176, 704] : Fin 3 → ℕ) a ≤ S1x704x704.size a)
    (r : Fin 176) (k : Fin 704) (j : Fin 704) (hj : j.val = n + r.val) :
    View.ld X (Rect.unit (s := S1x704x704) ![0, n, 0] ![1, 176, 704] h) (ix3 0 r k) = X (ix3 0 j k) :=
  congrArg X (funext fun a => Fin.ext (by fin_cases a <;> simp [Rect.emb_apply, hj]))

section
variable (x0 : Vec Ideal S704x1024 .bf16) (x1 x2 : Vec Ideal S1x704x704 .bf16) (x3 x4 x5 : Vec Ideal S1x704x1024 .bf16) (o : Vec Ideal S704x1024 .f32)
  (n : ℕ) (h2 : ∀ a, (![n, 0] : Fin 2 → ℕ) a + (![176, 1024] : Fin 2 → ℕ) a ≤ S704x1024.size a)
  (h3 : ∀ a, (![0, n, 0] : Fin 3 → ℕ) a + (![1, 176, 704] : Fin 3 → ℕ) a ≤ S1x704x704.size a)
  (r : Fin 176) (j : Fin 704) (hj : j.val = n + r.val)
include hj

theorem dot_cut (y : Fin 704) : dot (View.ld x0 (Rect.unit (s := S704x1024) ![n, 0] ![176, 1024] h2)) x5 r y = dot x0 x5 j y :=
  sum_congr rfl fun k _ => congrArg (· * x5 (ix3 0 y k)) (cut2 x0 n h2 r k j hj)

theorem ga_cut (y : Fin 704) : ga (View.ld x1 (Rect.unit (s := S1x704x704) ![0, n, 0] ![1, 176, 704] h3)) (View.ld x2 (Rect.unit (s := S1x704x704) ![0, n, 0] ![1, 176, 704] h3))
    (View.ld x0 (Rect.unit (s := S704x1024) ![n, 0] ![176, 1024] h2)) x5 r y = ga x1 x2 x0 x5 j y := by
  unfold ga
  rw [dot_cut x0 x5 n h2 r j hj y]
  exact congrArg₂ (gateK · · _) (cut3 x1 n h3 r y j hj) (cut3 x2 n h3 r y j hj)

theorem gb_cut (y : Fin 704) : gb (View.ld x1 (Rect.unit (s := S1x704x704) ![0, n, 0] ![1, 176, 704] h3))
    (View.ld x0 (Rect.unit (s := S704x1024) ![n, 0] ![176, 1024] h2)) x5 r y = gb x1 x0 x5 j y := by
  unfold gb
  rw [dot_cut x0 x5 n h2 r j hj y]
  exact congrArg (gateB · _) (cut3 x1 n h3 r y j hj)

theorem gh_cut (y : Fin 704) : gh (View.ld x1 (Rect.unit (s := S1x704x704) ![0, n, 0] ![1, 176, 704] h3))
    (View.ld x2 (Rect.unit (s := S1x704x704) ![0, n, 0] ![1, 176, 704] h3)) r y = gh x1 x2 j y :=
  congrArg₂ gate (cut3 x1 n h3 r y j hj) (cut3 x2 n h3 r y j hj)

theorem back_cut (d : Fin 1024) : back (View.ld x1 (Rect.unit (s := S1x704x704) ![0, n, 0] ![1, 176, 704] h3)) (View.ld x2 (Rect.unit (s := S1x704x704) ![0, n, 0] ![1, 176, 704] h3))
    (View.ld x0 (Rect.unit (s := S704x1024) ![n, 0] ![176, 1024] h2)) x3 x4 x5 r d = back x1 x2 x0 x3 x4 x5 j d :=
  congrArg₂ (· + ·) (sum_congr rfl fun y _ => congrArg (· * x3 (ix3 0 y d)) (ga_cut x0 x1 x2 x5 n h2 h3 r j hj y))
    (sum_congr rfl fun y _ => congrArg (· * x4 (ix3 0 y d)) (gb_cut x0 x1 x5 n h2 h3 r j hj y))

theorem tile_x (d : Fin 1024) (i : S176x1024.Idx) (hr : i 0 = r) (hd : i 1 = d) :
    k0_pay13 (F := Ideal) (k0_pay10 (View.ld x1 (Rect.unit (s := S1x704x704) ![0, n, 0] ![1, 176, 704] h3)) (View.ld x2 (Rect.unit (s := S1x704x704) ![0, n, 0] ![1, 176, 704] h3))
      (View.ld x0 (Rect.unit (s := S704x1024) ![n, 0] ![176, 1024] h2)) x5) (k0_pay11 (View.ld x1 (Rect.unit (s := S1x704x704) ![0, n, 0] ![1, 176, 704] h3))
      (View.ld x0 (Rect.unit (s := S704x1024) ![n, 0] ![176, 1024] h2)) x5) (k0_pay12 (View.ld o (Rect.unit (s := S704x1024) ![n, 0] ![176, 1024] h2))) x3 x4 i
      = o (ix2 j d) + back x1 x2 x0 x3 x4 x5 j d := by
  rw [sx, hr, hd, back_cut x0 x1 x2 x3 x4 x5 n h2 h3 r j hj d]
  refine congrArg (· + _) ?_
  rw [eq_ix2 i]
  exact (congrArg₂ (fun a b => View.ld o (Rect.unit (s := S704x1024) ![n, 0] ![176, 1024] h2) (ix2 a b)) hr hd).trans (cut2 o n h2 r d j hj)

/-- The store of the rows from `n` on, over a result that starts from `o`. -/
def rows (o : Vec Ideal S704x1024 .f32) (n : ℕ) (h2 : ∀ a, (![n, 0] : Fin 2 → ℕ) a + (![176, 1024] : Fin 2 → ℕ) a ≤ S704x1024.size a)
    (h3 : ∀ a, (![0, n, 0] : Fin 3 → ℕ) a + (![1, 176, 704] : Fin 3 → ℕ) a ≤ S1x704x704.size a) : View.Piece (Elt Ideal) S704x1024 .f32 :=
  ⟨Rect.unit (s := S704x1024) ![n, 0] ![176, 1024] h2,
    k0_pay13 (F := Ideal) (k0_pay10 (View.ld x1 (Rect.unit (s := S1x704x704) ![0, n, 0] ![1, 176, 704] h3)) (View.ld x2 (Rect.unit (s := S1x704x704) ![0, n, 0] ![1, 176, 704] h3))
      (View.ld x0 (Rect.unit (s := S704x1024) ![n, 0] ![176, 1024] h2)) x5) (k0_pay11 (View.ld x1 (Rect.unit (s := S1x704x704) ![0, n, 0] ![1, 176, 704] h3))
      (View.ld x0 (Rect.unit (s := S704x1024) ![n, 0] ![176, 1024] h2)) x5) (k0_pay12 (View.ld o (Rect.unit (s := S704x1024) ![n, 0] ![176, 1024] h2))) x3 x4⟩

omit hj
theorem rows_at (o : Vec Ideal S704x1024 .f32) (n : ℕ) (h2) (h3) (i : S176x1024.Idx) : (rows x0 x1 x2 x3 x4 x5 o n h2 h3).2 i
    = (fun y => (o y : EReal) + back x1 x2 x0 x3 x4 x5 (y 0) (y 1) : S704x1024.Idx → EReal) ((rows x0 x1 x2 x3 x4 x5 o n h2 h3).1.emb i) :=
  (tile_x x0 x1 x2 x3 x4 x5 o n h2 h3 (i 0) ((rows x0 x1 x2 x3 x4 x5 o n h2 h3).1.emb i 0) (by show n + 1 * (i 0).val = n + (i 0).val; omega) ((rows x0 x1 x2 x3 x4 x5 o n h2 h3).1.emb i 1) i rfl
    (Fin.ext (by show (i 1).val = 0 + 1 * (i 1).val; omega))).trans
    (congrArg (fun z => (o z : EReal) + back x1 x2 x0 x3 x4 x5 ((rows x0 x1 x2 x3 x4 x5 o n h2 h3).1.emb i 0) ((rows x0 x1 x2 x3 x4 x5 o n h2 h3).1.emb i 1)) (eq_ix2 _).symm)

/-- The stores of all rows, over whatever was there. -/
theorem rows_all (o : Vec Ideal S704x1024 .f32) (L : List (View.Piece (Elt Ideal) S704x1024 .f32)) (a2 a3 b2 b3 c2 c3 d2 d3) (y : S704x1024.Idx) :
    View.canon ([rows x0 x1 x2 x3 x4 x5 o 528 a2 a3, rows x0 x1 x2 x3 x4 x5 o 352 b2 b3, rows x0 x1 x2 x3 x4 x5 o 176 c2 c3, rows x0 x1 x2 x3 x4 x5 o 0 d2 d3] ++ L) y
      = (o y : EReal) + back x1 x2 x0 x3 x4 x5 (y 0) (y 1) :=
  by
  refine View.canon_append_of_piecesOf (fun y => (o y : EReal) + back x1 x2 x0 x3 x4 x5 (y 0) (y 1) : S704x1024.Idx → EReal) L _ ?_ y ?_
  · exact And.intro (rows_at x0 x1 x2 x3 x4 x5 o 528 a2 a3) (And.intro (rows_at x0 x1 x2 x3 x4 x5 o 352 b2 b3) (And.intro (rows_at x0 x1 x2 x3 x4 x5 o 176 c2 c3)
      (And.intro (rows_at x0 x1 x2 x3 x4 x5 o 0 d2 d3) trivial)))
  · unfold rows
    exact View.cover_of_tiledL _ ![176, 1024] (by rfl) _

include hj

theorem tile_a (y : Fin 704) (i : S1x176x704.Idx) (hr : i 1 = r) (hy : i 2 = y) :
    k0_pay14 (F := Ideal) (k0_pay10 (View.ld x1 (Rect.unit (s := S1x704x704) ![0, n, 0] ![1, 176, 704] h3)) (View.ld x2 (Rect.unit (s := S1x704x704) ![0, n, 0] ![1, 176, 704] h3))
      (View.ld x0 (Rect.unit (s := S704x1024) ![n, 0] ![176, 1024] h2)) x5) i = ga x1 x2 x0 x5 j y := by
  rw [sa, hr, hy]
  exact ga_cut x0 x1 x2 x5 n h2 h3 r j hj y

theorem tile_b (y : Fin 704) (i : S1x176x704.Idx) (hr : i 1 = r) (hy : i 2 = y) :
    k0_pay15 (F := Ideal) (k0_pay11 (View.ld x1 (Rect.unit (s := S1x704x704) ![0, n, 0] ![1, 176, 704] h3))
      (View.ld x0 (Rect.unit (s := S704x1024) ![n, 0] ![176, 1024] h2)) x5) i = gb x1 x0 x5 j y := by
  rw [sb, hr, hy]
  exact gb_cut x0 x1 x5 n h2 h3 r j hj y

theorem tile_h (y : Fin 704) (i : S1x176x704.Idx) (hr : i 1 = r) (hy : i 2 = y) :
    k0_pay16 (F := Ideal) (k0_pay6 (View.ld x2 (Rect.unit (s := S1x704x704) ![0, n, 0] ![1, 176, 704] h3)))
      (k0_pay9 (View.ld x1 (Rect.unit (s := S1x704x704) ![0, n, 0] ![1, 176, 704] h3))) i = gh x1 x2 j y := by
  rw [sh, hr, hy]
  exact gh_cut x1 x2 n h3 r j hj y

end

/-! ## What a grid point leaves -/

variable (c : Dev nD) (i : grid0.Coords)
  (arg2 : Memref sig .tc .vmem S704x1024 .bf16) (harg2 : arg2.IsWhole)  (arg3 : Memref sig .tc .vmem S1x704x704 .bf16) (harg3 : arg3.IsWhole)
  (arg4 : Memref sig .tc .vmem S1x704x704 .bf16) (harg4 : arg4.IsWhole)  (arg5 : Memref sig .tc .vmem S1x704x1024 .bf16) (harg5 : arg5.IsWhole)
  (arg6 : Memref sig .tc .vmem S1x704x1024 .bf16) (harg6 : arg6.IsWhole)  (arg7 : Memref sig .tc .vmem S1x704x1024 .bf16) (harg7 : arg7.IsWhole)
  (arg8 : Memref sig .tc .vmem S704x1024 .f32) (harg8 : arg8.IsWhole)  (arg9 : Memref sig .tc .vmem S1x704x704 .bf16) (harg9 : arg9.IsWhole)
  (arg10 : Memref sig .tc .vmem S1x704x704 .bf16) (harg10 : arg10.IsWhole)  (arg11 : Memref sig .tc .vmem S1x704x704 .bf16) (harg11 : arg11.IsWhole)
  (x0 : Vec Ideal S704x1024 .bf16) (x1 x2 : Vec Ideal S1x704x704 .bf16) (x3 x4 x5 : Vec Ideal S1x704x1024 .bf16)
theorem outx_A (hc0 : cond0_0 i) :
    out0_A_6 c i arg2 harg2 arg3 harg3 arg4 harg4 arg5 harg5 arg6 harg6 arg7 harg7 arg8 harg8 arg9 harg9 arg10 harg10 arg11 harg11 hc0 x0 x1 x2 x3 x4 x5 = fun y => ((k0_pay4 (F := Ideal)) y : EReal) + back x1 x2 x0 x3 x4 x5 (y 0) (y 1) := by
  funext y
  frame_out
  simp (discharger := decide) only [↓View.readCov_skip (Val := Elt Ideal), View.readCov_fill (Val := Elt Ideal) arg8.view inb_S704x1024_S704x1024_0_0 (k0_pay4 (F := Ideal)) [] _ (by decide)]
  rw [sx2, sx3, sx4]
  exact rows_all x0 x1 x2 x3 x4 x5 (k0_pay4 (F := Ideal)) [_] _ _ _ _ _ _ _ _ y

theorem outa_A (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5 = fun y => ga x1 x2 x0 x5 (y 1) (y 2) := by
  funext y
  frame_out
  rw [sa2, sa3, sa4]
  canon_tiles x hx
  all_goals
    refine tile_a x0 x1 x2 x5 _ _ _ _ (y 1) ?_ (y 2) x rfl ?_
    · omega
    · exact Fin.ext (by omega)

theorem outb_A (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 = fun y => gb x1 x0 x5 (y 1) (y 2) := by
  funext y
  frame_out
  rw [sb2, sb3, sb4]
  canon_tiles x hx
  all_goals
    refine tile_b x0 x1 x5 _ _ _ _ (y 1) ?_ (y 2) x rfl ?_
    · omega
    · exact Fin.ext (by omega)

theorem outh_A (hc0 : cond0_0 i) :
    out0_A_9 c i arg2 harg2 arg3 harg3 arg4 harg4 arg5 harg5 arg6 harg6 arg7 harg7 arg8 harg8 arg9 harg9 arg10 harg10 arg11 harg11 hc0 x0 x1 x2 x3 x4 x5 = fun y => gh x1 x2 (y 1) (y 2) := by
  funext y
  frame_out
  rw [sh2, sh3, sh4]
  canon_tiles x hx
  all_goals
    refine tile_h x1 x2 _ _ _ (y 1) ?_ (y 2) x rfl ?_
    · omega
    · exact Fin.ext (by omega)

theorem outx_B (hc0 : ¬cond0_0 i) (xo6 : Vec Ideal S704x1024 .f32) :
    out0_B_6 c i arg2 harg2 arg3 harg3 arg4 harg4 arg5 harg5 arg6 harg6 arg7 harg7 arg8 harg8 arg9 harg9 arg10 harg10 arg11 harg11 hc0 x0 x1 x2 x3 x4 x5 xo6 = fun y => (xo6 y : EReal) + back x1 x2 x0 x3 x4 x5 (y 0) (y 1) := by
  funext y
  frame_out
  rw [sx2, sx3, sx4]
  exact rows_all x0 x1 x2 x3 x4 x5 xo6 [] _ _ _ _ _ _ _ _ y

theorem outa_B (hc0 : ¬cond0_0 i) (xo6 : Vec Ideal S704x1024 .f32) :
    out0_B_7 c i arg2 harg2 arg3 harg3 arg4 harg4 arg5 harg5 arg6 harg6 arg7 harg7 arg8 harg8 arg9 harg9 arg10 harg10 arg11 harg11 hc0 x0 x1 x2 x3 x4 x5 xo6 = fun y => ga x1 x2 x0 x5 (y 1) (y 2) := by
  funext y
  frame_out
  rw [sa2, sa3, sa4]
  canon_tiles x hx
  all_goals
    refine tile_a x0 x1 x2 x5 _ _ _ _ (y 1) ?_ (y 2) x rfl ?_
    · omega
    · exact Fin.ext (by omega)

theorem outb_B (hc0 : ¬cond0_0 i) (xo6 : Vec Ideal S704x1024 .f32) :
    out0_B_8 c i arg2 harg2 arg3 harg3 arg4 harg4 arg5 harg5 arg6 harg6 arg7 harg7 arg8 harg8 arg9 harg9 arg10 harg10 arg11 harg11 hc0 x0 x1 x2 x3 x4 x5 xo6 = fun y => gb x1 x0 x5 (y 1) (y 2) := by
  funext y
  frame_out
  rw [sb2, sb3, sb4]
  canon_tiles x hx
  all_goals
    refine tile_b x0 x1 x5 _ _ _ _ (y 1) ?_ (y 2) x rfl ?_
    · omega
    · exact Fin.ext (by omega)

theorem outh_B (hc0 : ¬cond0_0 i) (xo6 : Vec Ideal S704x1024 .f32) :
    out0_B_9 c i arg2 harg2 arg3 harg3 arg4 harg4 arg5 harg5 arg6 harg6 arg7 harg7 arg8 harg8 arg9 harg9 arg10 harg10 arg11 harg11 hc0 x0 x1 x2 x3 x4 x5 xo6 = fun y => gh x1 x2 (y 1) (y 2) := by
  funext y
  frame_out
  rw [sh2, sh3, sh4]
  canon_tiles x hx
  all_goals
    refine tile_h x1 x2 _ _ _ (y 1) ?_ (y 2) x rfl ?_
    · omega
    · exact Fin.ext (by omega)

end Cert.Ffn.Bx
-- ==== Proof.Ffn.BxReal.lean ====
/- The two ways of writing the gate's gradient in its first argument agree where the product of the second argument and
   the gradient is a real number. -/
module

public import proofs.«01_k».proof.Proof.Ffn.BxPoint
public import proofs.«01_k».proof.Proof.Gla.Read

@[expose] public section

noncomputable section

namespace Cert.Ffn.Bx

open Idealize.ShloMosaic Finset

/-- A real number among the extended ones. -/
def IsReal (x : EReal) : Prop := ∃ r : ℝ, x = (r : EReal)

theorem isReal {x : EReal} (h : x ≠ ⊤ ∧ x ≠ ⊥) : IsReal x := ⟨x.toReal, (EReal.coe_toReal h.1 h.2).symm⟩

theorem IsReal.mul {x y : EReal} : IsReal x → IsReal y → IsReal (x * y)
  | ⟨r, hr⟩, ⟨s, hs⟩ => ⟨r * s, by rw [hr, hs, EReal.coe_mul]⟩

theorem IsReal.sum {n : ℕ} {f : Fin n → EReal} (h : ∀ i, IsReal (f i)) : IsReal (∑ i, f i) := by
  choose r hr using h
  exact ⟨∑ i, r i, by rw [sum_congr rfl fun i _ => hr i, Cert.Gla.coe_sum]⟩

theorem logistic_coe (a : ℝ) : logistic (a : EReal) = ((1 / (1 + Real.exp (-a)) : ℝ) : EReal) := by
  have h : (1 : ℝ) + Real.exp (-a) ≠ 0 := by positivity
  unfold logistic
  rw [← EReal.coe_neg, Ideal.exp_coe, ← EReal.coe_one, ← EReal.coe_add, Ideal.div_coe h, ← EReal.coe_mul, one_mul]

theorem logistic_top : logistic ⊤ = 1 := by
  have h := Ideal.div_coe one_ne_zero (1 : EReal)
  unfold logistic
  rw [EReal.neg_top, Ideal.exp_bot, add_zero]
  simpa using h

theorem logistic_bot : logistic ⊥ = 0 := by
  unfold logistic Ideal.div
  rw [EReal.neg_bot, Ideal.exp_top, EReal.add_top_of_ne_bot (by decide)]
  simp

theorem gateK_eq (a b g : EReal) (h : IsReal (g * b)) : gateK a b g = gateA a b g := by
  obtain ⟨p, hp⟩ := h
  unfold gateK gateA
  rw [hp]
  induction a using EReal.rec with
  | bot => rw [logistic_bot]; simp
  | top => rw [logistic_top, show (1 : EReal) - 1 = 0 from by rw [← EReal.coe_one, ← EReal.coe_sub]; simp]; simp
  | coe a =>
    rw [logistic_coe, ← EReal.coe_one]
    simp only [← EReal.coe_mul, ← EReal.coe_add, ← EReal.coe_sub]
    exact congrArg _ (by ring)

end Cert.Ffn.Bx
-- ==== Proof.Ffn.BxSteps.lean ====
/- The layer's gradient in its input: the blocks that the kernel reads, what the grid points leave, and the four arrays
   that the kernel leaves. -/
module

public import proofs.«01_k».proof.Proof.Ffn.BxPoint
public import Idealize.ShloMosaic.Lib.StableHlo.ReadAt

@[expose] public section

set_option maxRecDepth 16384
set_option maxHeartbeats 400000

noncomputable section

namespace Cert.Ffn.Bx

open Cert.Kernel3Ideal Cert.Kernel3Ideal.Gen Idealize.ShloMosaic Idealize.ShloMosaic.Pointwise Idealize.ShloMosaic.TcCoe
open Idealize.SL.Sem Finset

variable (m : (ℓ : Loc nD τ sig) → Buf (Elt Ideal) ℓ) (c : Dev nD)

/-! ## The blocks -/

/-- Block `t / 4` of the rows and block `t % 4` of the columns at grid point `t`: the windows on rows alone, on columns alone, on both. -/
theorem idx (t : Fin cfg0.N) : (win0_0.index t = ![t.val / 4, 0] ∧ win0_6.index t = ![t.val / 4, 0])
    ∧ (win0_3.index t = ![t.val % 4, 0, 0] ∧ win0_4.index t = ![t.val % 4, 0, 0] ∧ win0_5.index t = ![t.val % 4, 0, 0])
    ∧ win0_1.index t = ![t.val % 4, t.val / 4, 0] ∧ win0_2.index t = ![t.val % 4, t.val / 4, 0] ∧ win0_7.index t = ![t.val % 4, t.val / 4, 0]
    ∧ win0_8.index t = ![t.val % 4, t.val / 4, 0] ∧ win0_9.index t = ![t.val % 4, t.val / 4, 0] := by
  have h : ∀ t : Fin grid0.N, (win0_0.index t = ![t.val / 4, 0] ∧ win0_6.index t = ![t.val / 4, 0])
    ∧ (win0_3.index t = ![t.val % 4, 0, 0] ∧ win0_4.index t = ![t.val % 4, 0, 0] ∧ win0_5.index t = ![t.val % 4, 0, 0])
    ∧ win0_1.index t = ![t.val % 4, t.val / 4, 0] ∧ win0_2.index t = ![t.val % 4, t.val / 4, 0] ∧ win0_7.index t = ![t.val % 4, t.val / 4, 0]
    ∧ win0_8.index t = ![t.val % 4, t.val / 4, 0] ∧ win0_9.index t = ![t.val % 4, t.val / 4, 0] := by
    decide +kernel
  exact h t

theorem blk0 (t : Fin cfg0.N) (r : Fin 704) (j : Fin 4224) (hj : j.val = 704 * (t.val / 4) + r.val) (k : Fin 1024) :
    iblk m c 0 t (ix2 r k) = V m c (Pipeline.arrRef spec0 0) (ix2 j k) := by
  blk_ext [iblk, (idx t).1.1]

section
variable (t : Fin cfg0.N) (s : Fin 4) (hs : s.val = t.val % 4)
include hs

theorem blk1 (r : Fin 704) (j : Fin 4224) (hj : j.val = 704 * (t.val / 4) + r.val) (y : Fin 704) :
    iblk m c 1 t (ix3 0 r y) = V m c (Pipeline.arrRef spec0 1) (ix3 s j y) := by
  blk_ext [iblk, (idx t).2.2.1]

theorem blk2 (r : Fin 704) (j : Fin 4224) (hj : j.val = 704 * (t.val / 4) + r.val) (y : Fin 704) :
    iblk m c 2 t (ix3 0 r y) = V m c (Pipeline.arrRef spec0 2) (ix3 s j y) := by
  blk_ext [iblk, (idx t).2.2.2.1]

theorem blk3 (y : Fin 704) (k : Fin 1024) : iblk m c 3 t (ix3 0 y k) = V m c (Pipeline.arrRef spec0 3) (ix3 s y k) := by
  blk_ext [iblk, (idx t).2.1.1]

theorem blk4 (y : Fin 704) (k : Fin 1024) : iblk m c 4 t (ix3 0 y k) = V m c (Pipeline.arrRef spec0 4) (ix3 s y k) := by
  blk_ext [iblk, (idx t).2.1.2.1]

theorem blk5 (y : Fin 704) (k : Fin 1024) : iblk m c 5 t (ix3 0 y k) = V m c (Pipeline.arrRef spec0 5) (ix3 s y k) := by
  blk_ext [iblk, (idx t).2.1.2.2]

end

/-! ## The arguments and what the host code prepares -/

abbrev Xx : FVec Ideal ⟨2, ![4224, 1024]⟩ .f32 := m ((c : Thread nD τ).loc main_arg0)
abbrev Wg : FVec Ideal ⟨2, ![1024, 2816]⟩ .f32 := m ((c : Thread nD τ).loc main_arg1)
abbrev Wu : FVec Ideal ⟨2, ![1024, 2816]⟩ .f32 := m ((c : Thread nD τ).loc main_arg2)
abbrev Wd : FVec Ideal ⟨2, ![2816, 1024]⟩ .f32 := m ((c : Thread nD τ).loc main_arg3)
abbrev Df : FVec Ideal ⟨2, ![4224, 1024]⟩ .f32 := m ((c : Thread nD τ).loc main_arg4)

theorem read0 (j : Fin 4224) (k : Fin 1024) : V m c main_v8 (ix2 j k) = Df m c (ix2 j k) := by
  unfold V
  after_reads_at

theorem read1 (s : Fin 4) (j : Fin 4224) (y : Fin 704) : V m c main_v3 (ix3 s j y) = mm (Xx m c) (Wg m c) j (col s y) := by
  unfold V
  after_reads_at
  rfl

theorem read2 (s : Fin 4) (j : Fin 4224) (y : Fin 704) : V m c main_v7 (ix3 s j y) = mm (Xx m c) (Wu m c) j (col s y) := by
  unfold V
  after_reads_at
  rfl

theorem read3 (s : Fin 4) (y : Fin 704) (k : Fin 1024) : V m c main_v11 (ix3 s y k) = Wg m c (ix2 k (col s y)) := by
  unfold V
  after_reads_at

theorem read4 (s : Fin 4) (y : Fin 704) (k : Fin 1024) : V m c main_v14 (ix3 s y k) = Wu m c (ix2 k (col s y)) := by
  unfold V
  after_reads_at

theorem read5 (s : Fin 4) (y : Fin 704) (k : Fin 1024) : V m c main_v16 (ix3 s y k) = Wd m c (ix2 (col s y) k) := by
  unfold V
  after_reads_at

/-! ## The grid -/

theorem lt (t : Fin cfg0.N) : t.val < 24 := lt_of_lt_of_eq t.isLt N_0

/-- The grid point before `t`. -/
abbrev prev (t : Fin cfg0.N) : Fin cfg0.N := ⟨t.val - 1, lt_of_le_of_lt (Nat.sub_le _ _) t.isLt⟩

/-- The gate's two gradients and the gate, row `j` and column `f`. -/
def A (j : Fin 4224) (f : Fin 2816) : EReal := gateK (mm (Xx m c) (Wg m c) j f) (mm (Xx m c) (Wu m c) j f) (mmT (Df m c) (Wd m c) j f)
@[inherit_doc A]
def B (j : Fin 4224) (f : Fin 2816) : EReal := gateB (mm (Xx m c) (Wg m c) j f) (mmT (Df m c) (Wd m c) j f)
@[inherit_doc A]
def H (j : Fin 4224) (f : Fin 2816) : EReal := gate (mm (Xx m c) (Wg m c) j f) (mm (Xx m c) (Wu m c) j f)

/-- The terms of entry `j, d` of the result, over the columns. -/
def F (j : Fin 4224) (d : Fin 1024) (f : Fin 2816) : EReal := A m c j f * Wg m c (ix2 d f) + B m c j f * Wu m c (ix2 d f)

/-- What the blocks of a grid point contribute to the result. -/
def P (t : Fin cfg0.N) : Vec Ideal S704x1024 .f32 := fun y =>
  back (iblk m c 1 t) (iblk m c 2 t) (iblk m c 0 t) (iblk m c 3 t) (iblk m c 4 t) (iblk m c 5 t) (y 0) (y 1)

section
variable (t : Fin cfg0.N) (s : Fin 4) (hs : s.val = t.val % 4) (r : Fin 704) (j : Fin 4224) (hj : j.val = 704 * (t.val / 4) + r.val) (y : Fin 704)
include hs hj

theorem dot_t : dot (iblk m c 0 t) (iblk m c 5 t) r y = mmT (Df m c) (Wd m c) j (col s y) :=
  sum_congr rfl fun k _ => congrArg₂ (· * ·) ((blk0 m c t r j hj k).trans (read0 m c j k)) ((blk5 m c t s hs y k).trans (read5 m c s y k))

theorem a_t : iblk m c 1 t (ix3 0 r y) = mm (Xx m c) (Wg m c) j (col s y) := (blk1 m c t s hs r j hj y).trans (read1 m c s j y)
theorem b_t : iblk m c 2 t (ix3 0 r y) = mm (Xx m c) (Wu m c) j (col s y) := (blk2 m c t s hs r j hj y).trans (read2 m c s j y)

theorem A_t : ga (iblk m c 1 t) (iblk m c 2 t) (iblk m c 0 t) (iblk m c 5 t) r y = A m c j (col s y) :=
  (congrArg (gateK _ _) (dot_t m c t s hs r j hj y)).trans (congrArg₂ (gateK · · _) (a_t m c t s hs r j hj y) (b_t m c t s hs r j hj y))

theorem B_t : gb (iblk m c 1 t) (iblk m c 0 t) (iblk m c 5 t) r y = B m c j (col s y) :=
  congrArg₂ gateB (a_t m c t s hs r j hj y) (dot_t m c t s hs r j hj y)

theorem H_t : gh (iblk m c 1 t) (iblk m c 2 t) r y = H m c j (col s y) :=
  congrArg₂ gate (a_t m c t s hs r j hj y) (b_t m c t s hs r j hj y)

end

theorem P_t (t : Fin cfg0.N) (s : ℕ) (hs : s = t.val % 4) (h : 704 * s + 704 ≤ 2816) (r : Fin 704) (j : Fin 4224) (hj : j.val = 704 * (t.val / 4) + r.val) (d : Fin 1024) :
    P m c t (ix2 r d) = part (F m c j d) 704 s h := by
  refine (sum_add_distrib (M := EReal)).symm.trans (sum_congr rfl fun y _ => ?_)
  have e : col ⟨s, by omega⟩ y = (⟨704 * s + y.val, by omega⟩ : Fin 2816) := Fin.ext (by show s * 704 + y.val = 704 * s + y.val; omega)
  unfold F
  rw [← e]
  exact congrArg₂ (· + ·) (congrArg₂ (· * ·) (A_t m c t ⟨s, by omega⟩ hs r j hj y) ((blk3 m c t ⟨s, by omega⟩ hs y d).trans (read3 m c _ y d)))
    (congrArg₂ (· * ·) (B_t m c t ⟨s, by omega⟩ hs r j hj y) ((blk4 m c t ⟨s, by omega⟩ hs y d).trans (read4 m c _ y d)))

theorem zero_at (y : S704x1024.Idx) : k0_pay4 (F := Ideal) y = (0 : EReal) := by
  pointwise [k0_pay4]

theorem start (t : Fin cfg0.N) (h : t.val % 4 = 0) (y : S704x1024.Idx) : (outsAt0 m c t.val t.isLt).1 y = P m c t y := by
  rw [outsAt0_A m c t h]
  dsimp only
  rw [outx_A]
  exact (congrArg (· + P m c t y) (zero_at y)).trans (zero_add _)

theorem next (t : Fin cfg0.N) (h : ¬t.val % 4 = 0) (y : S704x1024.Idx) :
    (outsAt0 m c t.val t.isLt).1 y = (outsAt0 m c (prev t).val (prev t).isLt).1 y + P m c t y := by
  rw [outsAt0_B m c t h]
  dsimp only
  rw [outx_B]
  rfl

theorem final (t : Fin cfg0.N) (h : t.val % 4 = 3) (r : Fin 704) (d : Fin 1024) (j : Fin 4224) (hj : j.val = 704 * (t.val / 4) + r.val) :
    (outsAt0 m c t.val t.isLt).1 (ix2 r d) = ∑ f, F m c j d f := by
  have h1 : (prev t).val % 4 = 2 := by show (t.val - 1) % 4 = 2; omega
  have h2 : (prev (prev t)).val % 4 = 1 := by show (t.val - 1 - 1) % 4 = 1; omega
  have h3 : (prev (prev (prev t))).val % 4 = 0 := by show (t.val - 1 - 1 - 1) % 4 = 0; omega
  have j1 : j.val = 704 * ((prev t).val / 4) + r.val := by show j.val = 704 * ((t.val - 1) / 4) + r.val; omega
  have j2 : j.val = 704 * ((prev (prev t)).val / 4) + r.val := by show j.val = 704 * ((t.val - 1 - 1) / 4) + r.val; omega
  have j3 : j.val = 704 * ((prev (prev (prev t))).val / 4) + r.val := by show j.val = 704 * ((t.val - 1 - 1 - 1) / 4) + r.val; omega
  rw [next m c t (by omega), next m c (prev t) (by omega), next m c (prev (prev t)) (by omega), start m c (prev (prev (prev t))) h3, sum_four]
  exact congrArg₂ (· + ·) (congrArg₂ (· + ·) (congrArg₂ (· + ·) (P_t m c _ 0 h3.symm _ r j j3 d) (P_t m c _ 1 h2.symm _ r j j2 d))
    (P_t m c _ 2 h1.symm _ r j j1 d)) (P_t m c t 3 h.symm _ r j hj d)

theorem atA (t : Fin cfg0.N) (y : S1x704x704.Idx) : (outsAt0 m c t.val t.isLt).2.1 y = ga (iblk m c 1 t) (iblk m c 2 t) (iblk m c 0 t) (iblk m c 5 t) (y 1) (y 2) := by
  by_cases h : t.val % 4 = 0
  · rw [outsAt0_A m c t h]
    dsimp only
    rw [outa_A]
  · rw [outsAt0_B m c t h]
    dsimp only
    rw [outa_B]

theorem atB (t : Fin cfg0.N) (y : S1x704x704.Idx) : (outsAt0 m c t.val t.isLt).2.2.1 y = gb (iblk m c 1 t) (iblk m c 0 t) (iblk m c 5 t) (y 1) (y 2) := by
  by_cases h : t.val % 4 = 0
  · rw [outsAt0_A m c t h]
    dsimp only
    rw [outb_A]
  · rw [outsAt0_B m c t h]
    dsimp only
    rw [outb_B]

theorem atH (t : Fin cfg0.N) (y : S1x704x704.Idx) : (outsAt0 m c t.val t.isLt).2.2.2 y = gh (iblk m c 1 t) (iblk m c 2 t) (y 1) (y 2) := by
  by_cases h : t.val % 4 = 0
  · rw [outsAt0_A m c t h]
    dsimp only
    rw [outh_A]
  · rw [outsAt0_B m c t h]
    dsimp only
    rw [outh_B]

/-- The result. -/
theorem arrX : (dats m 0 c).arrAt 6 cfg0.N = fun i : S4224x1024.Idx => (∑ f, F m c (i 0) (i 1) f : EReal) := by
  refine (dats m 0 c).arrAt_eq_of_covers 6 _ (by decide +kernel) fun t hf y => ?_
  have h := (flush0_6 t).mp hf
  have ht := lt t
  have hi := (idx t).1.2
  have hy : (y 0).val < 704 := (y 0).isLt
  have e0 : (win0_6.blk t).view.emb y 0 = (⟨t.val / 4 * 704 + (y 0).val, by omega⟩ : Fin 4224) := Fin.ext (by blk_simp [hi])
  have e1 : (win0_6.blk t).view.emb y 1 = (⟨(y 1).val, (y 1).isLt⟩ : Fin 1024) := Fin.ext (by blk_simp [hi])
  blk_simp [after0_6]
  rw [e0, e1]
  refine (congrArg (outsAt0 m c t.val t.isLt).1 (eq_ix2 y)).trans ?_
  exact final m c t h (y 0) (y 1) _ (congrArg (· + (y 0).val) (Nat.mul_comm (t.val / 4) 704))

/-- The gate's gradient in its first argument, by blocks of columns. -/
theorem arrA : (dats m 0 c).arrAt 7 cfg0.N = fun i : S4x4224x704.Idx => A m c (i 1) (col (i 0) (i 2)) := by
  refine (dats m 0 c).arrAt_eq_of_covers 7 _ (by decide +kernel) fun t hf y => ?_
  have ht := lt t
  have hi := (idx t).2.2.2.2.1
  have hy : (y 1).val < 704 := (y 1).isLt
  have e0 : (win0_7.blk t).view.emb y 0 = (⟨t.val % 4, by omega⟩ : Fin 4) := Fin.ext (by blk_simp [hi])
  have e1 : (win0_7.blk t).view.emb y 1 = (⟨t.val / 4 * 704 + (y 1).val, by omega⟩ : Fin 4224) := Fin.ext (by blk_simp [hi])
  have e2 : (win0_7.blk t).view.emb y 2 = (⟨(y 2).val, (y 2).isLt⟩ : Fin 704) := Fin.ext (by blk_simp [hi])
  blk_simp [after0_7]
  rw [e0, e1, e2]
  exact (atA m c t y).trans (A_t m c t _ rfl (y 1) _ (congrArg (· + (y 1).val) (Nat.mul_comm (t.val / 4) 704)) (y 2))

/-- The gate's gradient in its second argument, by blocks of columns. -/
theorem arrB : (dats m 0 c).arrAt 8 cfg0.N = fun i : S4x4224x704.Idx => B m c (i 1) (col (i 0) (i 2)) := by
  refine (dats m 0 c).arrAt_eq_of_covers 8 _ (by decide +kernel) fun t hf y => ?_
  have ht := lt t
  have hi := (idx t).2.2.2.2.2.1
  have hy : (y 1).val < 704 := (y 1).isLt
  have e0 : (win0_8.blk t).view.emb y 0 = (⟨t.val % 4, by omega⟩ : Fin 4) := Fin.ext (by blk_simp [hi])
  have e1 : (win0_8.blk t).view.emb y 1 = (⟨t.val / 4 * 704 + (y 1).val, by omega⟩ : Fin 4224) := Fin.ext (by blk_simp [hi])
  have e2 : (win0_8.blk t).view.emb y 2 = (⟨(y 2).val, (y 2).isLt⟩ : Fin 704) := Fin.ext (by blk_simp [hi])
  blk_simp [after0_8]
  rw [e0, e1, e2]
  exact (atB m c t y).trans (B_t m c t _ rfl (y 1) _ (congrArg (· + (y 1).val) (Nat.mul_comm (t.val / 4) 704)) (y 2))

/-- The gate, by blocks of columns. -/
theorem arrH : (dats m 0 c).arrAt 9 cfg0.N = fun i : S4x4224x704.Idx => H m c (i 1) (col (i 0) (i 2)) := by
  refine (dats m 0 c).arrAt_eq_of_covers 9 _ (by decide +kernel) fun t hf y => ?_
  have ht := lt t
  have hi := (idx t).2.2.2.2.2.2
  have hy : (y 1).val < 704 := (y 1).isLt
  have e0 : (win0_9.blk t).view.emb y 0 = (⟨t.val % 4, by omega⟩ : Fin 4) := Fin.ext (by blk_simp [hi])
  have e1 : (win0_9.blk t).view.emb y 1 = (⟨t.val / 4 * 704 + (y 1).val, by omega⟩ : Fin 4224) := Fin.ext (by blk_simp [hi])
  have e2 : (win0_9.blk t).view.emb y 2 = (⟨(y 2).val, (y 2).isLt⟩ : Fin 704) := Fin.ext (by blk_simp [hi])
  blk_simp [after0_9]
  rw [e0, e1, e2]
  exact (atH m c t y).trans (H_t m c t _ rfl (y 1) _ (congrArg (· + (y 1).val) (Nat.mul_comm (t.val / 4) 704)) (y 2))

end Cert.Ffn.Bx
-- ==== Proof.Ffn.BxRef.lean ====
/- The layer's gradient in its input: what the reference computes, entry by entry. -/
module

public import proofs.«01_k».proof.Proof.Ffn.Spec
public import proofs.«01_k».proof.Proof.Gen.Reference3Ideal.Run
public import proofs.«01_k».proof.Proof.Gen.Reference3Ideal.Read

@[expose] public section

set_option maxRecDepth 16384

noncomputable section

namespace Cert.Ffn.Bx

open Cert.Reference3Ideal Cert.Reference3Ideal.Gen Cert.Reference3Ideal.Read Idealize.ShloMosaic Idealize.ShloMosaic.Pointwise Finset

variable (x0 : FVec Ideal ⟨2, ![4224, 1024]⟩ .f32) (x1 x2 : FVec Ideal ⟨2, ![1024, 2816]⟩ .f32) (x3 : FVec Ideal ⟨2, ![2816, 1024]⟩ .f32)
  (x4 : FVec Ideal ⟨2, ![4224, 1024]⟩ .f32)

/-! ## The gate and its gradients: once for the layer's gradient, once for the results that later products use -/

theorem ref_logistic (t : Fin 4224) (f : Fin 2816) : val_main_v1_2 (F := Ideal) x0 x1 (ix2 t f) = logistic (mm x0 x1 t f) := by
  pointwise [val_main_v1_2, val_main_call0_v4, val_main_call0_cst_0, val_main_call0_v3, val_main_call0_v2, val_main_call0_cst, val_main_call0_v1,
    val_main_call0_v0, val_main_v0]
  rfl

theorem ref_gateB (t : Fin 4224) (f : Fin 2816) : val_main_v6 (F := Ideal) x0 x1 x3 x4 (ix2 t f) = gateB (mm x0 x1 t f) (mmT x4 x3 t f) := by
  pointwise [val_main_v6, val_main_v5, val_main_v1_0, val_main_v0, ref_logistic]
  rfl

theorem ref_gateA (t : Fin 4224) (f : Fin 2816) :
    val_main_v9 (F := Ideal) x0 x1 x2 x3 x4 (ix2 t f) = gateA (mm x0 x1 t f) (mm x0 x2 t f) (mmT x4 x3 t f) := by
  pointwise [val_main_v9, val_main_call1_v2, val_main_call1_v1, val_main_call1_v0, val_main_v7, val_main_v5, val_main_v2, val_main_v1_1,
    val_main_call0_v7, val_main_call0_v6, val_main_call0_cst_1, val_main_v0, ref_logistic]
  rfl

theorem ref_logistic' (t : Fin 4224) (f : Fin 2816) : val_main_v14_2 (F := Ideal) x0 x1 (ix2 t f) = logistic (mm x0 x1 t f) := by
  pointwise [val_main_v14_2, val_main_call2_v4, val_main_call2_cst_0, val_main_call2_v3, val_main_call2_v2, val_main_call2_cst, val_main_call2_v1,
    val_main_call2_v0, val_main_v12]
  rfl

theorem ref_gateB' (t : Fin 4224) (f : Fin 2816) : val_main_v18 (F := Ideal) x0 x1 x3 x4 (ix2 t f) = gateB (mm x0 x1 t f) (mmT x4 x3 t f) := by
  pointwise [val_main_v18, val_main_v17, val_main_v14_0, val_main_v12, ref_logistic']
  rfl

theorem ref_gateA' (t : Fin 4224) (f : Fin 2816) :
    val_main_v20 (F := Ideal) x0 x1 x2 x3 x4 (ix2 t f) = gateA (mm x0 x1 t f) (mm x0 x2 t f) (mmT x4 x3 t f) := by
  pointwise [val_main_v20, val_main_call3_v2, val_main_call3_v1, val_main_call3_v0, val_main_v19, val_main_v17, val_main_v13, val_main_v14_1,
    val_main_call2_v7, val_main_call2_v6, val_main_call2_cst_1, val_main_v12, ref_logistic']
  rfl

theorem ref_gate (t : Fin 4224) (f : Fin 2816) : val_main_v28 (F := Ideal) x0 x1 x2 (ix2 t f) = gate (mm x0 x1 t f) (mm x0 x2 t f) := by
  pointwise [val_main_v28, val_main_v27, val_main_v12, val_main_v13, val_main_call4_v5, val_main_call4_v4, val_main_call4_cst_0, val_main_call4_v3,
    val_main_call4_v2, val_main_call4_cst, val_main_call4_v1, val_main_call4_v0]
  rfl

/-! ## The results -/

theorem refX (i : S4224x1024.Idx) : val_main_v11 (F := Ideal) x0 x1 x2 x3 x4 i
    = (∑ f : Fin 2816, gateB (mm x0 x1 (i 0) f) (mmT x4 x3 (i 0) f) * x2 (ix2 (i 1) f))
      + ∑ f : Fin 2816, gateA (mm x0 x1 (i 0) f) (mm x0 x2 (i 0) f) (mmT x4 x3 (i 0) f) * x1 (ix2 (i 1) f) := by
  rw [eq_ix2 i]
  pointwise [val_main_v11, val_main_v10, val_main_v8, ref_gateA, ref_gateB]

theorem refA (i : S4x4224x704.Idx) : val_main_v23 (F := Ideal) x0 x1 x2 x3 x4 i
    = gateA (mm x0 x1 (i 1) (col (i 0) (i 2))) (mm x0 x2 (i 1) (col (i 0) (i 2))) (mmT x4 x3 (i 1) (col (i 0) (i 2))) := by
  rw [eq_ix3 i]
  pointwise [val_main_v23, val_main_v22, val_main_v21, ref_gateA']

theorem refB (i : S4x4224x704.Idx) : val_main_v26 (F := Ideal) x0 x1 x3 x4 i
    = gateB (mm x0 x1 (i 1) (col (i 0) (i 2))) (mmT x4 x3 (i 1) (col (i 0) (i 2))) := by
  rw [eq_ix3 i]
  pointwise [val_main_v26, val_main_v25, val_main_v24, ref_gateB']

theorem refH (i : S4x4224x704.Idx) : val_main_v31 (F := Ideal) x0 x1 x2 i
    = gate (mm x0 x1 (i 1) (col (i 0) (i 2))) (mm x0 x2 (i 1) (col (i 0) (i 2))) := by
  rw [eq_ix3 i]
  pointwise [val_main_v31, val_main_v30, val_main_v29, ref_gate]

end Cert.Ffn.Bx
-- ==== Proof.Ffn.BxClaim.lean ====
/- The layer's gradient in its input: the claim. -/
module

public import proofs.«01_k».proof.Proof.Ffn.BxReal
public import proofs.«01_k».proof.Proof.Ffn.BxSteps
public import proofs.«01_k».proof.Proof.Ffn.BxRef
public import proofs.«01_k».proof.Proof.Gla.Claim
public import proofs.«01_k».proof.Proof.Gen.Pre_bx_finite
public import proofs.«01_k».proof.Defs
public import Idealize.ShloMosaic.Lib.Quiescent

@[expose] public section

set_option maxRecDepth 16384
set_option maxHeartbeats 400000

noncomputable section

namespace Cert.Ffn.Bx

open Cert.Kernel3Ideal Idealize.ShloMosaic Idealize.ShloMosaic.TcCoe Idealize.SL.Sem Finset

/-- Under the precondition the gradient of the gate reaches the layer as a real number. -/
theorem A_eq {m : (ℓ : Loc nD τ sig) → Buf (Elt Ideal) ℓ} (h : Cert.Pre_Kernel3Ideal_bx_finite m) (c : Dev nD) (j : Fin 4224) (f : Fin 2816) :
    A m c j f = gateA (mm (Xx m c) (Wg m c) j f) (mm (Xx m c) (Wu m c) j f) (mmT (Df m c) (Wd m c) j f) := by
  have hx (i) : IsReal (Xx m c i) := isReal (Cert.Gla.finite_of_bit (congrFun (h c).1 i))
  have hu (i) : IsReal (Wu m c i) := isReal (Cert.Gla.finite_of_bit (congrFun (h c).2.1 i))
  have hd (i) : IsReal (Wd m c i) := isReal (Cert.Gla.finite_of_bit (congrFun (h c).2.2.1 i))
  have hf (i) : IsReal (Df m c i) := isReal (Cert.Gla.finite_of_bit (congrFun (h c).2.2.2 i))
  exact gateK_eq _ _ _ (IsReal.mul (IsReal.sum fun k => (hf _).mul (hd _)) (IsReal.sum fun k => (hx _).mul (hu _)))

theorem algebraic : Cert.algebraic_Kernel3Ideal_Reference3Ideal_pre_bx_finite := by
  intro m g m' g' hpre hagree
  refine ⟨fun c i => (∑ f, F m c (i 0) (i 1) f : EReal), fun c i => A m c (i 1) (col (i 0) (i 2)),
    fun c i => B m c (i 1) (col (i 0) (i 2)), fun c i => H m c (i 1) (col (i 0) (i 2)), ?_, ?_⟩
  · refine (θ_run _ _ _).mono (fun r h c => ?_) (Cert.Kernel3Ideal.Value.run_blocks m g)
    obtain ⟨h0, h1, h2, h3, hargs⟩ := h c
    exact ⟨h0.trans (arrX m c), h1.trans (arrA m c), h2.trans (arrB m c), h3.trans (arrH m c), hargs⟩
  · refine (θ_run _ _ _).mono (fun r h c => ?_) (Cert.Reference3Ideal.Value.run m' g')
    obtain ⟨h0, h1, h2, h3, hargs⟩ := h c
    obtain ⟨a0, a1, a2, a3, a4⟩ := hagree c
    refine ⟨h0.trans ?_, h1.trans ?_, h2.trans ?_, h3.trans ?_, hargs⟩
    · rw [Cert.Reference3Ideal.Read.val_main_v11_eq, a0, a1, a2, a3, a4]
      refine funext fun i => (refX _ _ _ _ _ i).trans ((add_comm _ _).trans (sum_add_distrib.symm.trans (sum_congr rfl fun f _ => ?_)))
      exact congrArg (· * Wg m c (ix2 (i 1) f) + B m c (i 0) f * Wu m c (ix2 (i 1) f)) (A_eq hpre c (i 0) f).symm
    · rw [Cert.Reference3Ideal.Read.val_main_v23_eq, a0, a1, a2, a3, a4]
      exact funext fun i => (refA _ _ _ _ _ i).trans (A_eq hpre c (i 1) (col (i 0) (i 2))).symm
    · rw [Cert.Reference3Ideal.Read.val_main_v26_eq, a0, a1, a3, a4]; exact funext fun i => refB _ _ _ _ i
    · rw [Cert.Reference3Ideal.Read.val_main_v31_eq, a0, a1, a2]; exact funext fun i => refH _ _ _ i

/-- The reference terminates, keeps its arguments, and has no semaphore. -/
theorem reference : Cert.quiescent_Reference3Ideal := fun m g _ =>
  (θ_run _ _ _).mono (fun r h => ⟨fun c => (h c).2.2.2.2, sem_eq_zero_of_no_sems rfl r.2⟩) (Cert.Reference3Ideal.Value.run m g)

end Cert.Ffn.Bx
-- ==== Proof.Ffn.BwPoint.lean ====
/- The gradients of the three weights, one grid point of the kernel: each of the three accumulators receives the
   product of two blocks of rows, added to what it held. -/
module

public import proofs.«01_k».proof.Proof.Gen.Kernel4Ideal.Frame
public import proofs.«01_k».proof.Proof.Gen.Kernel4Ideal.Value
public import Idealize.ShloMosaic.Lib.Pipeline.ValueKit

@[expose] public section

set_option maxRecDepth 16384
set_option maxHeartbeats 1000000

noncomputable section

namespace Cert.Ffn.Bw

open Cert.Kernel4Ideal Cert.Kernel4Ideal.Gen Idealize.ShloMosaic Idealize.ShloMosaic.Pointwise

/-- The product of two blocks of 1408 rows, over the rows. -/
def prod (x : Vec Ideal S1x1408x704 .bf16) (y : Vec Ideal S1408x1024 .bf16) : Vec Ideal S704x1024 .f32 :=
  fun i => ∑ r : Fin 1408, x (ix3 0 r (i 0)) * y (ix2 r (i 1))

theorem prod_sum (x : Vec Ideal S1x1408x704 .bf16) (y : Vec Ideal S1408x1024 .bf16) (j : Fin 704) (k : Fin 1024) :
    prod x y (ix2 j k) = (∑ r : Fin 1408, x (ix3 0 r j) * y (ix2 r k) : EReal) := rfl

theorem prod_at (x : Vec Ideal S1408x1024 .bf16) (y : Vec Ideal S1x1408x704 .bf16) (j : Fin 704) (k : Fin 1024) :
    k0_pay2 (F := Ideal) x y (ix2 j k) = prod y x (ix2 j k) := by
  pointwise [k0_pay2, k0_pay1, prod]

theorem pay2 (x : Vec Ideal S1408x1024 .bf16) (y : Vec Ideal S1x1408x704 .bf16) : k0_pay2 (F := Ideal) x y = prod y x := by
  funext i
  rw [eq_ix2 i]
  exact prod_at x y _ _

theorem same (x : FVec Ideal S704x1024 .f32) : shapeCast S704x1024 x shapeCasts_S704x1024_S704x1024 = x := by
  funext i
  rw [eq_ix2 i]
  pointwise

/-- What a later point leaves in an accumulator. -/
theorem pay8 (x : Vec Ideal S1408x1024 .bf16) (y : Vec Ideal S1x1408x704 .bf16) (a : Vec Ideal S704x1024 .f32) :
    k0_pay8 (F := Ideal) x y a = fun i => a i + prod y x i := by
  unfold k0_pay8
  refine (same _).trans (funext fun i => ?_)
  exact congrArg (a i + ·) (congrFun (pay2 x y) i)

theorem pay9 (x : Vec Ideal S1408x1024 .bf16) (y : Vec Ideal S1x1408x704 .bf16) (a : Vec Ideal S704x1024 .f32) :
    k0_pay9 (F := Ideal) x y a = fun i => a i + prod y x i := pay8 x y a

theorem pay10 (x : Vec Ideal S1408x1024 .bf16) (y : Vec Ideal S1x1408x704 .bf16) (a : Vec Ideal S704x1024 .f32) :
    k0_pay10 (F := Ideal) y x a = fun i => a i + prod y x i := pay8 x y a

/-- The block that is written: the accumulator, as one block of the three dimensional result. -/
theorem out_at (x : FVec Ideal S704x1024 .f32) (i : S1x704x1024.Idx) :
    shapeCast S1x704x1024 (truncf .bf16 x bitsLt_bf16_f32) shapeCasts_S704x1024_S1x704x1024 i = x (ix2 (i 1) (i 2)) := by
  have h0 : i 0 = (0 : Fin 1) := Fin.fin_one_eq_zero (i 0)
  rw [eq_ix3 i, h0]
  pointwise

variable (c : Dev nD) (i : grid0.Coords)
  (arg2 : Memref sig .tc .vmem S1408x1024 .bf16) (harg2 : arg2.IsWhole) (arg3 : Memref sig .tc .vmem S1408x1024 .bf16) (harg3 : arg3.IsWhole)
  (arg4 : Memref sig .tc .vmem S1x1408x704 .bf16) (harg4 : arg4.IsWhole) (arg5 : Memref sig .tc .vmem S1x1408x704 .bf16) (harg5 : arg5.IsWhole)
  (arg6 : Memref sig .tc .vmem S1x1408x704 .bf16) (harg6 : arg6.IsWhole) (arg7 : Memref sig .tc .vmem S1x704x1024 .bf16) (harg7 : arg7.IsWhole)
  (arg8 : Memref sig .tc .vmem S1x704x1024 .bf16) (harg8 : arg8.IsWhole) (arg9 : Memref sig .tc .vmem S1x704x1024 .bf16) (harg9 : arg9.IsWhole)
  (arg10 : Memref sig .tc .vmem S704x1024 .f32) (harg10 : arg10.IsWhole) (arg11 : Memref sig .tc .vmem S704x1024 .f32) (harg11 : arg11.IsWhole)
  (arg12 : Memref sig .tc .vmem S704x1024 .f32) (harg12 : arg12.IsWhole)
  (x0 x1 : Vec Ideal S1408x1024 .bf16) (x2 x3 x4 : Vec Ideal S1x1408x704 .bf16) (xs0 xs1 xs2 : Vec Ideal S704x1024 .f32)

theorem acc0_A (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 arg10 harg10 arg11 harg11 arg12 harg12 hc0 hc1 hc2 x0 x1 x2 x3 x4 = prod x2 x0 := by
  funext y
  frame_out
  exact congrFun ((same _).trans (pay2 _ _)) y

theorem acc1_A (hc0 : cond0_0 i) (hc1 : ¬cond0_1 i) (hc2 : ¬cond0_2 i) :
    sout0_A_1 c i arg2 harg2 arg3 harg3 arg4 harg4 arg5 harg5 arg6 harg6 arg7 harg7 arg8 harg8 arg9 harg9 arg10 harg10 arg11 harg11 arg12 harg12 hc0 hc1 hc2 x0 x1 x2 x3 x4 = prod x3 x0 := by
  funext y
  frame_out
  exact congrFun ((same _).trans (pay2 _ _)) y

theorem acc2_A (hc0 : cond0_0 i) (hc1 : ¬cond0_1 i) (hc2 : ¬cond0_2 i) :
    sout0_A_2 c i arg2 harg2 arg3 harg3 arg4 harg4 arg5 harg5 arg6 harg6 arg7 harg7 arg8 harg8 arg9 harg9 arg10 harg10 arg11 harg11 arg12 harg12 hc0 hc1 hc2 x0 x1 x2 x3 x4 = prod x4 x1 := by
  funext y
  frame_out
  exact congrFun ((same _).trans (pay2 _ _)) y

theorem acc0_B (hc0 : ¬cond0_0 i) (hc1 : cond0_1 i) (hc2 : ¬cond0_2 i) :
    sout0_B_0 c i arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2
      = fun y => xs0 y + prod x2 x0 y := by
  funext y
  frame_out
  exact congrFun (pay8 _ _ _) y

theorem acc1_B (hc0 : ¬cond0_0 i) (hc1 : cond0_1 i) (hc2 : ¬cond0_2 i) :
    sout0_B_1 c i arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2
      = fun y => xs1 y + prod x3 x0 y := by
  funext y
  frame_out
  exact congrFun (pay9 _ _ _) y

theorem acc2_B (hc0 : ¬cond0_0 i) (hc1 : cond0_1 i) (hc2 : ¬cond0_2 i) :
    sout0_B_2 c i arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2
      = fun y => xs2 y + prod x4 x1 y := by
  funext y
  frame_out
  exact congrFun (pay10 _ _ _) y

theorem acc0_C (hc0 : ¬cond0_0 i) (hc1 : cond0_1 i) (hc2 : cond0_2 i) :
    sout0_C_0 c i arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2
      = fun y => xs0 y + prod x2 x0 y := by
  funext y
  frame_out
  exact congrFun (pay8 _ _ _) y

theorem acc1_C (hc0 : ¬cond0_0 i) (hc1 : cond0_1 i) (hc2 : cond0_2 i) :
    sout0_C_1 c i arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2
      = fun y => xs1 y + prod x3 x0 y := by
  funext y
  frame_out
  exact congrFun (pay9 _ _ _) y

theorem acc2_C (hc0 : ¬cond0_0 i) (hc1 : cond0_1 i) (hc2 : cond0_2 i) :
    sout0_C_2 c i arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2
      = fun y => xs2 y + prod x4 x1 y := by
  funext y
  frame_out
  exact congrFun (pay10 _ _ _) y

theorem out0_C (hc0 : ¬cond0_0 i) (hc1 : cond0_1 i) (hc2 : cond0_2 i) :
    out0_C_5 c i arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2
      = fun y => xs0 (ix2 (y 1) (y 2)) + prod x2 x0 (ix2 (y 1) (y 2)) := by
  funext y
  frame_out
  exact (out_at _ y).trans (congrFun (pay8 _ _ _) _)

theorem out1_C (hc0 : ¬cond0_0 i) (hc1 : cond0_1 i) (hc2 : cond0_2 i) :
    out0_C_6 c i arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2
      = fun y => xs1 (ix2 (y 1) (y 2)) + prod x3 x0 (ix2 (y 1) (y 2)) := by
  funext y
  frame_out
  exact (out_at _ y).trans (congrFun (pay9 _ _ _) _)

theorem out2_C (hc0 : ¬cond0_0 i) (hc1 : cond0_1 i) (hc2 : cond0_2 i) :
    out0_C_7 c i arg2 harg2 arg3 harg3 arg4 harg4 arg5 harg5 arg6 harg6 arg7 harg7 arg8 harg8 arg9 harg9 arg10 harg10 arg11 harg11 arg12 harg12 hc0 hc1 hc2 x0 x1 x2 x3 x4 xs0 xs1 xs2
      = fun y => xs2 (ix2 (y 1) (y 2)) + prod x4 x1 (ix2 (y 1) (y 2)) := by
  funext y
  frame_out
  exact (out_at _ y).trans (congrFun (pay10 _ _ _) _)

end Cert.Ffn.Bw
-- ==== Proof.Ffn.BwReads.lean ====
/- The gradients of the three weights: the blocks that the kernel reads, and what the host code prepares. -/
module

public import proofs.«01_k».proof.Proof.Ffn.BwPoint
public import proofs.«01_k».proof.Proof.Ffn.Spec
public import Idealize.ShloMosaic.Lib.StableHlo.ReadAt

@[expose] public section

set_option maxRecDepth 16384
set_option maxHeartbeats 1000000

noncomputable section

namespace Cert.Ffn.Bw

open Cert.Kernel4Ideal Cert.Kernel4Ideal.Gen Idealize.ShloMosaic Idealize.ShloMosaic.Pointwise Idealize.ShloMosaic.TcCoe
open Idealize.SL.Sem Finset

variable (m : (ℓ : Loc nD τ sig) → Buf (Elt Ideal) ℓ) (c : Dev nD)

/-! ## The blocks -/

/-- The block of each window at grid point `t`: block `t / 3` of the columns and block `t % 3` of the rows. -/
theorem idx (t : Fin cfg0.N) : win0_0.index t = ![t.val % 3, 0] ∧ win0_1.index t = ![t.val % 3, 0] ∧ win0_2.index t = ![t.val / 3, t.val % 3, 0]
    ∧ win0_3.index t = ![t.val / 3, t.val % 3, 0] ∧ win0_4.index t = ![t.val / 3, t.val % 3, 0] ∧ win0_5.index t = ![t.val / 3, 0, 0]
    ∧ win0_6.index t = ![t.val / 3, 0, 0] ∧ win0_7.index t = ![t.val / 3, 0, 0] := by
  have h : ∀ t : Fin grid0.N, win0_0.index t = ![t.val % 3, 0] ∧ win0_1.index t = ![t.val % 3, 0] ∧ win0_2.index t = ![t.val / 3, t.val % 3, 0]
    ∧ win0_3.index t = ![t.val / 3, t.val % 3, 0] ∧ win0_4.index t = ![t.val / 3, t.val % 3, 0] ∧ win0_5.index t = ![t.val / 3, 0, 0]
    ∧ win0_6.index t = ![t.val / 3, 0, 0] ∧ win0_7.index t = ![t.val / 3, 0, 0] := by
    decide +kernel
  exact h t

variable (t : Fin cfg0.N) (r : Fin 1408) (j : Fin 4224) (hj : j.val = 1408 * (t.val % 3) + r.val)
include hj

theorem blk0 (k : Fin 1024) : iblk m c 0 t (ix2 r k) = V m c (Pipeline.arrRef spec0 0) (ix2 j k) := by
  blk_ext [iblk, (idx t).1]

theorem blk1 (k : Fin 1024) : iblk m c 1 t (ix2 r k) = V m c (Pipeline.arrRef spec0 1) (ix2 j k) := by
  blk_ext [iblk, (idx t).2.1]

variable (s : Fin 4) (hs : s.val = t.val / 3)
include hs

theorem blk2 (y : Fin 704) : iblk m c 2 t (ix3 0 r y) = V m c (Pipeline.arrRef spec0 2) (ix3 s j y) := by
  blk_ext [iblk, (idx t).2.2.1]

theorem blk3 (y : Fin 704) : iblk m c 3 t (ix3 0 r y) = V m c (Pipeline.arrRef spec0 3) (ix3 s j y) := by
  blk_ext [iblk, (idx t).2.2.2.1]

theorem blk4 (y : Fin 704) : iblk m c 4 t (ix3 0 r y) = V m c (Pipeline.arrRef spec0 4) (ix3 s j y) := by
  blk_ext [iblk, (idx t).2.2.2.2.1]

omit hj hs

/-! ## The arguments and what the host code prepares -/

abbrev Xx : FVec Ideal ⟨2, ![4224, 1024]⟩ .f32 := m ((c : Thread nD τ).loc main_arg0)
abbrev Wg : FVec Ideal ⟨2, ![1024, 2816]⟩ .f32 := m ((c : Thread nD τ).loc main_arg1)
abbrev Wu : FVec Ideal ⟨2, ![1024, 2816]⟩ .f32 := m ((c : Thread nD τ).loc main_arg2)
abbrev Wd : FVec Ideal ⟨2, ![2816, 1024]⟩ .f32 := m ((c : Thread nD τ).loc main_arg3)
abbrev Df : FVec Ideal ⟨2, ![4224, 1024]⟩ .f32 := m ((c : Thread nD τ).loc main_arg4)

theorem read0 (j : Fin 4224) (k : Fin 1024) : V m c main_v9 (ix2 j k) = Xx m c (ix2 j k) := by
  unfold V
  after_reads_at

theorem read1 (j : Fin 4224) (k : Fin 1024) : V m c main_v10 (ix2 j k) = Df m c (ix2 j k) := by
  unfold V
  after_reads_at

theorem read2 (s : Fin 4) (j : Fin 4224) (y : Fin 704) :
    V m c main_v13 (ix3 s j y) = gateA (mm (Xx m c) (Wg m c) j (col s y)) (mm (Xx m c) (Wu m c) j (col s y)) (mmT (Df m c) (Wd m c) j (col s y)) := by
  unfold V
  after_reads_at
  rfl

theorem read3 (s : Fin 4) (j : Fin 4224) (y : Fin 704) :
    V m c main_v16 (ix3 s j y) = gateB (mm (Xx m c) (Wg m c) j (col s y)) (mmT (Df m c) (Wd m c) j (col s y)) := by
  unfold V
  after_reads_at
  rfl

theorem read4 (s : Fin 4) (j : Fin 4224) (y : Fin 704) :
    V m c main_v19 (ix3 s j y) = gate (mm (Xx m c) (Wg m c) j (col s y)) (mm (Xx m c) (Wu m c) j (col s y)) := by
  unfold V
  after_reads_at
  rfl

end Cert.Ffn.Bw
-- ==== Proof.Ffn.BwSteps.lean ====
/- The gradients of the three weights: what the grid points leave, and the three arrays that the kernel leaves. -/
module

public import proofs.«01_k».proof.Proof.Ffn.BwReads

@[expose] public section

set_option maxRecDepth 16384
set_option maxHeartbeats 200000

noncomputable section

namespace Cert.Ffn.Bw

open Cert.Kernel4Ideal Cert.Kernel4Ideal.Gen Idealize.ShloMosaic Idealize.ShloMosaic.Pointwise Idealize.ShloMosaic.TcCoe
open Idealize.SL.Sem Finset

variable (m : (ℓ : Loc nD τ sig) → Buf (Elt Ideal) ℓ) (c : Dev nD)

/-! ## The grid -/

theorem lt (t : Fin cfg0.N) : t.val < 12 := lt_of_lt_of_eq t.isLt N_0

/-- The grid point `k` before `t`. -/
abbrev back (t : Fin cfg0.N) (k : ℕ) : Fin cfg0.N := ⟨t.val - k, lt_of_le_of_lt (Nat.sub_le _ _) t.isLt⟩

/-- The terms of entry `y, k` of block `s` of the gradient of the first weight (gate), over the rows. -/
def F0 (s : Fin 4) (y : Fin 704) (k : Fin 1024) (j : Fin 4224) : EReal :=
  gateA (mm (Xx m c) (Wg m c) j (col s y)) (mm (Xx m c) (Wu m c) j (col s y)) (mmT (Df m c) (Wd m c) j (col s y)) * Xx m c (ix2 j k)

/-- The product of the blocks of a grid point. -/
def P0 (t : Fin cfg0.N) : Vec Ideal S704x1024 .f32 := prod (iblk m c 2 t) (iblk m c 0 t)

theorem P0_at (t : Fin cfg0.N) (s : Fin 4) (hs : s.val = t.val / 3) (i : ℕ) (hi : i = t.val % 3) (h : 1408 * i + 1408 ≤ 4224) (y : Fin 704) (k : Fin 1024) :
    P0 m c t (ix2 y k) = part (F0 m c s y k) 1408 i h := by
  refine (prod_sum _ _ _ _).trans (sum_congr rfl fun r _ => ?_)
  have hj : 1408 * i + r.val = 1408 * (t.val % 3) + r.val := by rw [hi]
  exact congrArg₂ (· * ·) ((blk2 m c t r ⟨1408 * i + r, by omega⟩ hj s hs y).trans (read2 m c s _ y))
    ((blk0 m c t r ⟨1408 * i + r, by omega⟩ hj k).trans (read0 m c _ k))

theorem start0 (t : Fin cfg0.N) (h : t.val % 3 = 0) : (outsAt0 m c t.val t.isLt).2.2.2.1 = P0 m c t := by
  rw [outsAt0_A m c t h (by omega) (by omega)]
  dsimp only
  rw [acc0_A]
  rfl

theorem mid0 (t : Fin cfg0.N) (h : t.val % 3 = 1) :
    (outsAt0 m c t.val t.isLt).2.2.2.1 = fun y => P0 m c (back t 1) y + P0 m c t y := by
  rw [outsAt0_B m c t (by omega) (by omega) (by omega)]
  dsimp only
  rw [acc0_B, start0 m c (back t 1) (show (t.val - 1) % 3 = 0 by omega)]
  rfl

theorem end0 (t : Fin cfg0.N) (h : t.val % 3 = 2) (y : S1x704x1024.Idx) :
    (outsAt0 m c t.val t.isLt).1 y = P0 m c (back (back t 1) 1) (ix2 (y 1) (y 2)) + P0 m c (back t 1) (ix2 (y 1) (y 2)) + P0 m c t (ix2 (y 1) (y 2)) := by
  rw [outsAt0_C m c t (by omega) (by omega) (by omega)]
  dsimp only
  rw [out0_C, mid0 m c (back t 1) (show (t.val - 1) % 3 = 1 by omega)]
  rfl

theorem block0 (t : Fin cfg0.N) (h : t.val % 3 = 2) (s : Fin 4) (hs : s.val = t.val / 3) (y : S1x704x1024.Idx) :
    (outsAt0 m c t.val t.isLt).1 y = ∑ j, F0 m c s (y 1) (y 2) j := by
  rw [end0 m c t h y, sum_three]
  refine congrArg₂ (· + ·) (congrArg₂ (· + ·) (P0_at m c _ s ?_ 0 ?_ _ _ _) (P0_at m c _ s ?_ 1 ?_ _ _ _)) (P0_at m c _ s hs 2 h.symm _ _ _)
  · show s.val = (t.val - 1 - 1) / 3; omega
  · show 0 = (t.val - 1 - 1) % 3; omega
  · show s.val = (t.val - 1) / 3; omega
  · show 1 = (t.val - 1) % 3; omega

/-- The gradient of the first weight (gate). -/
theorem arr0 : (dats m 0 c).arrAt 5 cfg0.N = fun i : S4x704x1024.Idx => ∑ j, F0 m c (i 0) (i 1) (i 2) j := by
  refine (dats m 0 c).arrAt_eq_of_covers 5 _ (by decide +kernel) fun t hf y => ?_
  have h2 : t.val % 3 = 2 := (flush0_5 t).mp hf
  have ht := lt t
  have hi := (idx t).2.2.2.2.2.1
  have e0 : (win0_5.blk t).view.emb y 0 = (⟨t.val / 3, by omega⟩ : Fin 4) := Fin.ext (by blk_simp [hi])
  have e1 : (win0_5.blk t).view.emb y 1 = (⟨(y 1).val, (y 1).isLt⟩ : Fin 704) := Fin.ext (by blk_simp [hi])
  have e2 : (win0_5.blk t).view.emb y 2 = (⟨(y 2).val, (y 2).isLt⟩ : Fin 1024) := Fin.ext (by blk_simp [hi])
  blk_simp [after0_5]
  rw [e0, e1, e2]
  exact block0 m c t h2 _ rfl y

/-- The terms of entry `y, k` of block `s` of the gradient of the second weight (up), over the rows. -/
def F1 (s : Fin 4) (y : Fin 704) (k : Fin 1024) (j : Fin 4224) : EReal :=
  gateB (mm (Xx m c) (Wg m c) j (col s y)) (mmT (Df m c) (Wd m c) j (col s y)) * Xx m c (ix2 j k)

/-- The product of the blocks of a grid point. -/
def P1 (t : Fin cfg0.N) : Vec Ideal S704x1024 .f32 := prod (iblk m c 3 t) (iblk m c 0 t)

theorem P1_at (t : Fin cfg0.N) (s : Fin 4) (hs : s.val = t.val / 3) (i : ℕ) (hi : i = t.val % 3) (h : 1408 * i + 1408 ≤ 4224) (y : Fin 704) (k : Fin 1024) :
    P1 m c t (ix2 y k) = part (F1 m c s y k) 1408 i h := by
  refine (prod_sum _ _ _ _).trans (sum_congr rfl fun r _ => ?_)
  have hj : 1408 * i + r.val = 1408 * (t.val % 3) + r.val := by rw [hi]
  exact congrArg₂ (· * ·) ((blk3 m c t r ⟨1408 * i + r, by omega⟩ hj s hs y).trans (read3 m c s _ y))
    ((blk0 m c t r ⟨1408 * i + r, by omega⟩ hj k).trans (read0 m c _ k))

theorem start1 (t : Fin cfg0.N) (h : t.val % 3 = 0) : (outsAt0 m c t.val t.isLt).2.2.2.2.1 = P1 m c t := by
  rw [outsAt0_A m c t h (by omega) (by omega)]
  dsimp only
  rw [acc1_A]
  rfl

theorem mid1 (t : Fin cfg0.N) (h : t.val % 3 = 1) :
    (outsAt0 m c t.val t.isLt).2.2.2.2.1 = fun y => P1 m c (back t 1) y + P1 m c t y := by
  rw [outsAt0_B m c t (by omega) (by omega) (by omega)]
  dsimp only
  rw [acc1_B, start1 m c (back t 1) (show (t.val - 1) % 3 = 0 by omega)]
  rfl

theorem end1 (t : Fin cfg0.N) (h : t.val % 3 = 2) (y : S1x704x1024.Idx) :
    (outsAt0 m c t.val t.isLt).2.1 y = P1 m c (back (back t 1) 1) (ix2 (y 1) (y 2)) + P1 m c (back t 1) (ix2 (y 1) (y 2)) + P1 m c t (ix2 (y 1) (y 2)) := by
  rw [outsAt0_C m c t (by omega) (by omega) (by omega)]
  dsimp only
  rw [out1_C, mid1 m c (back t 1) (show (t.val - 1) % 3 = 1 by omega)]
  rfl

theorem block1 (t : Fin cfg0.N) (h : t.val % 3 = 2) (s : Fin 4) (hs : s.val = t.val / 3) (y : S1x704x1024.Idx) :
    (outsAt0 m c t.val t.isLt).2.1 y = ∑ j, F1 m c s (y 1) (y 2) j := by
  rw [end1 m c t h y, sum_three]
  refine congrArg₂ (· + ·) (congrArg₂ (· + ·) (P1_at m c _ s ?_ 0 ?_ _ _ _) (P1_at m c _ s ?_ 1 ?_ _ _ _)) (P1_at m c _ s hs 2 h.symm _ _ _)
  · show s.val = (t.val - 1 - 1) / 3; omega
  · show 0 = (t.val - 1 - 1) % 3; omega
  · show s.val = (t.val - 1) / 3; omega
  · show 1 = (t.val - 1) % 3; omega

/-- The gradient of the second weight (up). -/
theorem arr1 : (dats m 0 c).arrAt 6 cfg0.N = fun i : S4x704x1024.Idx => ∑ j, F1 m c (i 0) (i 1) (i 2) j := by
  refine (dats m 0 c).arrAt_eq_of_covers 6 _ (by decide +kernel) fun t hf y => ?_
  have h2 : t.val % 3 = 2 := (flush0_6 t).mp hf
  have ht := lt t
  have hi := (idx t).2.2.2.2.2.2.1
  have e0 : (win0_6.blk t).view.emb y 0 = (⟨t.val / 3, by omega⟩ : Fin 4) := Fin.ext (by blk_simp [hi])
  have e1 : (win0_6.blk t).view.emb y 1 = (⟨(y 1).val, (y 1).isLt⟩ : Fin 704) := Fin.ext (by blk_simp [hi])
  have e2 : (win0_6.blk t).view.emb y 2 = (⟨(y 2).val, (y 2).isLt⟩ : Fin 1024) := Fin.ext (by blk_simp [hi])
  blk_simp [after0_6]
  rw [e0, e1, e2]
  exact block1 m c t h2 _ rfl y

/-- The terms of entry `y, k` of block `s` of the gradient of the third weight (down), over the rows. -/
def F2 (s : Fin 4) (y : Fin 704) (k : Fin 1024) (j : Fin 4224) : EReal :=
  gate (mm (Xx m c) (Wg m c) j (col s y)) (mm (Xx m c) (Wu m c) j (col s y)) * Df m c (ix2 j k)

/-- The product of the blocks of a grid point. -/
def P2 (t : Fin cfg0.N) : Vec Ideal S704x1024 .f32 := prod (iblk m c 4 t) (iblk m c 1 t)

theorem P2_at (t : Fin cfg0.N) (s : Fin 4) (hs : s.val = t.val / 3) (i : ℕ) (hi : i = t.val % 3) (h : 1408 * i + 1408 ≤ 4224) (y : Fin 704) (k : Fin 1024) :
    P2 m c t (ix2 y k) = part (F2 m c s y k) 1408 i h := by
  refine (prod_sum _ _ _ _).trans (sum_congr rfl fun r _ => ?_)
  have hj : 1408 * i + r.val = 1408 * (t.val % 3) + r.val := by rw [hi]
  exact congrArg₂ (· * ·) ((blk4 m c t r ⟨1408 * i + r, by omega⟩ hj s hs y).trans (read4 m c s _ y))
    ((blk1 m c t r ⟨1408 * i + r, by omega⟩ hj k).trans (read1 m c _ k))

theorem start2 (t : Fin cfg0.N) (h : t.val % 3 = 0) : (outsAt0 m c t.val t.isLt).2.2.2.2.2 = P2 m c t := by
  rw [outsAt0_A m c t h (by omega) (by omega)]
  dsimp only
  rw [acc2_A]
  rfl

theorem mid2 (t : Fin cfg0.N) (h : t.val % 3 = 1) :
    (outsAt0 m c t.val t.isLt).2.2.2.2.2 = fun y => P2 m c (back t 1) y + P2 m c t y := by
  rw [outsAt0_B m c t (by omega) (by omega) (by omega)]
  dsimp only
  rw [acc2_B, start2 m c (back t 1) (show (t.val - 1) % 3 = 0 by omega)]
  rfl

theorem end2 (t : Fin cfg0.N) (h : t.val % 3 = 2) (y : S1x704x1024.Idx) :
    (outsAt0 m c t.val t.isLt).2.2.1 y = P2 m c (back (back t 1) 1) (ix2 (y 1) (y 2)) + P2 m c (back t 1) (ix2 (y 1) (y 2)) + P2 m c t (ix2 (y 1) (y 2)) := by
  rw [outsAt0_C m c t (by omega) (by omega) (by omega)]
  dsimp only
  rw [out2_C, mid2 m c (back t 1) (show (t.val - 1) % 3 = 1 by omega)]
  rfl

theorem block2 (t : Fin cfg0.N) (h : t.val % 3 = 2) (s : Fin 4) (hs : s.val = t.val / 3) (y : S1x704x1024.Idx) :
    (outsAt0 m c t.val t.isLt).2.2.1 y = ∑ j, F2 m c s (y 1) (y 2) j := by
  rw [end2 m c t h y, sum_three]
  refine congrArg₂ (· + ·) (congrArg₂ (· + ·) (P2_at m c _ s ?_ 0 ?_ _ _ _) (P2_at m c _ s ?_ 1 ?_ _ _ _)) (P2_at m c _ s hs 2 h.symm _ _ _)
  · show s.val = (t.val - 1 - 1) / 3; omega
  · show 0 = (t.val - 1 - 1) % 3; omega
  · show s.val = (t.val - 1) / 3; omega
  · show 1 = (t.val - 1) % 3; omega

/-- The gradient of the third weight (down). -/
theorem arr2 : (dats m 0 c).arrAt 7 cfg0.N = fun i : S4x704x1024.Idx => ∑ j, F2 m c (i 0) (i 1) (i 2) j := by
  refine (dats m 0 c).arrAt_eq_of_covers 7 _ (by decide +kernel) fun t hf y => ?_
  have h2 : t.val % 3 = 2 := (flush0_7 t).mp hf
  have ht := lt t
  have hi := (idx t).2.2.2.2.2.2.2
  have e0 : (win0_7.blk t).view.emb y 0 = (⟨t.val / 3, by omega⟩ : Fin 4) := Fin.ext (by blk_simp [hi])
  have e1 : (win0_7.blk t).view.emb y 1 = (⟨(y 1).val, (y 1).isLt⟩ : Fin 704) := Fin.ext (by blk_simp [hi])
  have e2 : (win0_7.blk t).view.emb y 2 = (⟨(y 2).val, (y 2).isLt⟩ : Fin 1024) := Fin.ext (by blk_simp [hi])
  blk_simp [after0_7]
  rw [e0, e1, e2]
  exact block2 m c t h2 _ rfl y

end Cert.Ffn.Bw
-- ==== Proof.Ffn.BwRef.lean ====
/- The gradients of the three weights: what the reference computes, entry by entry. -/
module

public import proofs.«01_k».proof.Proof.Ffn.Spec
public import proofs.«01_k».proof.Proof.Gen.Reference4Ideal.Run
public import proofs.«01_k».proof.Proof.Gen.Reference4Ideal.Read

@[expose] public section

set_option maxRecDepth 16384

noncomputable section

namespace Cert.Ffn.Bw

open Cert.Reference4Ideal Cert.Reference4Ideal.Gen Cert.Reference4Ideal.Read Idealize.ShloMosaic Idealize.ShloMosaic.Pointwise Finset

variable (x0 : FVec Ideal ⟨2, ![4224, 1024]⟩ .f32) (x1 x2 : FVec Ideal ⟨2, ![1024, 2816]⟩ .f32) (x3 : FVec Ideal ⟨2, ![2816, 1024]⟩ .f32)
  (x4 : FVec Ideal ⟨2, ![4224, 1024]⟩ .f32)

theorem ref_logistic (t : Fin 4224) (f : Fin 2816) : val_main_v1_2 (F := Ideal) x0 x1 (ix2 t f) = logistic (mm x0 x1 t f) := by
  pointwise [val_main_v1_2, val_main_call0_v4, val_main_call0_cst_0, val_main_call0_v3, val_main_call0_v2, val_main_call0_cst, val_main_call0_v1,
    val_main_call0_v0, val_main_v0]
  rfl

theorem ref_up (t : Fin 4224) (f : Fin 2816) : val_main_v2 (F := Ideal) x0 x2 (ix2 t f) = mm x0 x2 t f := by
  pointwise [val_main_v2]
  rfl

theorem ref_gate (t : Fin 4224) (f : Fin 2816) : val_main_v3 (F := Ideal) x0 x1 x2 (ix2 t f) = gate (mm x0 x1 t f) (mm x0 x2 t f) := by
  pointwise [val_main_v3, val_main_v2, val_main_v1_0, val_main_v0, ref_logistic]
  rfl

theorem ref_gateB (t : Fin 4224) (f : Fin 2816) : val_main_v8 (F := Ideal) x0 x1 x3 x4 (ix2 t f) = gateB (mm x0 x1 t f) (mmT x4 x3 t f) := by
  pointwise [val_main_v8, val_main_v7, val_main_v1_0, val_main_v0, ref_logistic]
  rfl

theorem ref_gateA (t : Fin 4224) (f : Fin 2816) :
    val_main_v12 (F := Ideal) x0 x1 x2 x3 x4 (ix2 t f) = gateA (mm x0 x1 t f) (mm x0 x2 t f) (mmT x4 x3 t f) := by
  pointwise [val_main_v12, val_main_call1_v2, val_main_call1_v1, val_main_call1_v0, val_main_v9, val_main_v7, val_main_v2, val_main_v1_1,
    val_main_call0_v7, val_main_call0_v6, val_main_call0_cst_1, val_main_v0, ref_logistic]
  rfl

theorem ref0 (i : S4x704x1024.Idx) : val_main_v17 (F := Ideal) x0 x1 x2 x3 x4 i
    = ∑ j : Fin 4224, gateA (mm x0 x1 j (col (i 0) (i 1))) (mm x0 x2 j (col (i 0) (i 1))) (mmT x4 x3 j (col (i 0) (i 1))) * x0 (ix2 j (i 2)) := by
  rw [eq_ix3 i]
  pointwise [val_main_v17, val_main_v16, val_main_v15, val_main_v14, val_main_v13, ref_gateA]

theorem ref1 (i : S4x704x1024.Idx) : val_main_v20 (F := Ideal) x0 x1 x3 x4 i
    = ∑ j : Fin 4224, gateB (mm x0 x1 j (col (i 0) (i 1))) (mmT x4 x3 j (col (i 0) (i 1))) * x0 (ix2 j (i 2)) := by
  rw [eq_ix3 i]
  pointwise [val_main_v20, val_main_v19, val_main_v18, val_main_v11, val_main_v10, ref_gateB]

theorem ref2 (i : S4x704x1024.Idx) : val_main_v22 (F := Ideal) x0 x1 x2 x4 i
    = ∑ j : Fin 4224, gate (mm x0 x1 j (col (i 0) (i 1))) (mm x0 x2 j (col (i 0) (i 1))) * x4 (ix2 j (i 2)) := by
  rw [eq_ix3 i]
  pointwise [val_main_v22, val_main_v21, val_main_v6, val_main_v5, ref_gate]
  exact sum_congr rfl fun j _ => mul_comm _ _

end Cert.Ffn.Bw
-- ==== Proof.Ffn.BwClaim.lean ====
/- The gradients of the three weights: kernel and reference leave the same three arrays. -/
module

public import proofs.«01_k».proof.Proof.Ffn.BwSteps
public import proofs.«01_k».proof.Proof.Ffn.BwRef
public import proofs.«01_k».proof.Defs
public import Idealize.ShloMosaic.Lib.Quiescent

@[expose] public section

noncomputable section

namespace Cert.Ffn.Bw

open Idealize.ShloMosaic Idealize.ShloMosaic.TcCoe Idealize.SL.Sem

theorem algebraic : Cert.algebraic_Kernel4Ideal_Reference4Ideal := by
  intro m g m' g' _ hagree
  refine ⟨fun c i => (∑ j, F0 m c (i 0) (i 1) (i 2) j : EReal), fun c i => (∑ j, F1 m c (i 0) (i 1) (i 2) j : EReal), fun c i => (∑ j, F2 m c (i 0) (i 1) (i 2) j : EReal), ?_, ?_⟩
  · refine (θ_run _ _ _).mono (fun r h c => ?_) (Cert.Kernel4Ideal.Value.run_blocks m g)
    obtain ⟨h0, h1, h2, hargs⟩ := h c
    exact ⟨h0.trans (arr0 m c), h1.trans (arr1 m c), h2.trans (arr2 m c), hargs⟩
  · refine (θ_run _ _ _).mono (fun r h c => ?_) (Cert.Reference4Ideal.Value.run m' g')
    obtain ⟨h0, h1, h2, hargs⟩ := h c
    obtain ⟨a0, a1, a2, a3, a4⟩ := hagree c
    refine ⟨h0.trans ?_, h1.trans ?_, h2.trans ?_, hargs⟩
    · rw [Cert.Reference4Ideal.Read.val_main_v17_eq, a0, a1, a2, a3, a4]; exact funext fun i => ref0 _ _ _ _ _ i
    · rw [Cert.Reference4Ideal.Read.val_main_v20_eq, a0, a1, a3, a4]; exact funext fun i => ref1 _ _ _ _ i
    · rw [Cert.Reference4Ideal.Read.val_main_v22_eq, a0, a1, a2, a4]; exact funext fun i => ref2 _ _ _ _ i

/-- The reference terminates, keeps its arguments, and has no semaphore. -/
theorem reference : Cert.quiescent_Reference4Ideal := fun m g _ =>
  (θ_run _ _ _).mono (fun r h => ⟨fun c => (h c).2.2.2, sem_eq_zero_of_no_sems rfl r.2⟩) (Cert.Reference4Ideal.Value.run m g)

end Cert.Ffn.Bw
-- ==== Proof.Proj.Spec.lean ====
/- Rows of 3088 columns followed by zeros up to 3584 columns: the layout of one layer's first projection. -/
module

public import Idealize.ShloMosaic.Lib.KernelVsHost

@[expose] public section

noncomputable section

namespace Cert.Proj

open Idealize.ShloMosaic Finset

/-- The value that the host code and the reference put beyond the last column. -/
theorem zero : (FloatOps.sitofp FTy.f32 0#32 : Ideal .f32) = 0 := sitofp_zero

/-- 3088 values followed by zeros. -/
def wide (g : Fin 3088 → EReal) (f : Fin 3584) : EReal := if h : f.val < 3088 then g ⟨f.val, h⟩ else 0

/-- A sum over the padded columns is the sum over the columns: the terms beyond are products of zeros. -/
theorem sum_wide (a b : Fin 3088 → EReal) : ∑ f, wide a f * wide b f = ∑ f, a f * b f := by
  refine (Fin.sum_univ_add (a := 3088) (b := 496) (fun f => wide a f * wide b f)).trans ?_
  have h0 : ∀ f : Fin 496, wide a (Fin.natAdd 3088 f) * wide b (Fin.natAdd 3088 f) = 0 := fun f => by
    unfold wide
    rw [dif_neg (by simp), dif_neg (by simp), mul_zero]
  rw [sum_eq_zero fun f _ => h0 f, add_zero]
  refine sum_congr rfl fun f _ => ?_
  unfold wide
  rw [dif_pos (by simp), dif_pos (by simp)]
  rfl

/-- A padded column of the first factor gives a zero. -/
theorem wide_left {n : ℕ} (a : Fin 3088 → Fin n → EReal) (b : Fin n → EReal) (f : Fin 3584) :
    ∑ k, wide (fun f => a f k) f * b k = wide (fun f => ∑ k, a f k * b k) f := by
  unfold wide
  split
  · rfl
  · simp

/-- A padded column of the second factor gives a zero. -/
theorem wide_right {n : ℕ} (a : Fin n → EReal) (b : Fin 3088 → Fin n → EReal) (f : Fin 3584) :
    ∑ k, a k * wide (fun f => b f k) f = wide (fun f => ∑ k, a k * b f k) f := by
  unfold wide
  split
  · rfl
  · simp

end Cert.Proj
-- ==== Proof.Proj.InDw.lean ====
/- The weight gradient of the gated-linear-attention layer's first projection: `ctᵀ x`, rows up to 3584 zero. -/
module

public import proofs.«01_k».proof.Proof.Proj.Spec
public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.InDw

open Idealize.ShloMosaic Idealize.ShloMosaic.Pointwise Idealize.ShloMosaic.TcCoe Idealize.SL.Sem Finset

section
open Cert.Kernel5Ideal Cert.Kernel5Ideal.Gen

variable (m : (ℓ : Loc nD τ sig) → Buf (Elt Ideal) ℓ) (c : Dev nD)

/-! ## One grid point: the product of two blocks -/

theorem pay (x : Vec Ideal S4224x512 .bf16) (w : Vec Ideal S4224x512 .bf16) (r : Fin 512) (y : Fin 512) :
    k0_pay1 (F := Ideal) x w (ix2 r y) = (∑ k : Fin 4224, x (ix2 k r) * w (ix2 k y) : EReal) := by
  pointwise [k0_pay1]

theorem out (x : Vec Ideal S4224x512 .bf16) (w : Vec Ideal S4224x512 .bf16) (r : Fin 512) (y : Fin 512) :
    out0_2 (F := Ideal) x w (ix2 r y) = (∑ k : Fin 4224, x (ix2 k r) * w (ix2 k y) : EReal) := by
  frame_out
  exact pay x w r y

/-! ## The blocks -/

/-- The block of each window at grid point `t`. -/
theorem idx (t : Fin cfg0.N) : win0_0.index t = ![0, t.val / 2] ∧ win0_1.index t = ![0, t.val % 2] ∧ win0_2.index t = ![t.val / 2, t.val % 2] := by
  have h : ∀ t : Fin grid0.N, win0_0.index t = ![0, t.val / 2] ∧ win0_1.index t = ![0, t.val % 2] ∧ win0_2.index t = ![t.val / 2, t.val % 2] := by
    decide +kernel
  exact h t

theorem lt (t : Fin cfg0.N) : t.val < 14 := lt_of_lt_of_eq t.isLt N_0

theorem blk0 (t : Fin cfg0.N) (r : Fin 512) (i : Fin 3584) (hi : i.val = 512 * (t.val / 2) + r.val) (k : Fin 4224) :
    iblk m c 0 t (ix2 k r) = V m c (Pipeline.arrRef spec0 0) (ix2 k i) := by
  blk_ext [iblk, (idx t).1]

theorem blk1 (t : Fin cfg0.N) (y : Fin 512) (j : Fin 1024) (hj : j.val = 512 * (t.val % 2) + y.val) (k : Fin 4224) :
    iblk m c 1 t (ix2 k y) = V m c (Pipeline.arrRef spec0 1) (ix2 k j) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 3088]⟩ .f32 := m ((c : Thread nD τ).loc main_arg1)
abbrev Ct : FVec Ideal ⟨2, ![4224, 3088]⟩ .f32 := m ((c : Thread nD τ).loc main_arg2)

theorem read0 (i : Fin 3584) (k : Fin 4224) : V m c main_v1 (ix2 k i) = wide (fun f => Ct m c (ix2 k f)) i := by
  unfold V
  after_reads_at
  rw [zero]
  rfl

theorem read1 (j : Fin 1024) (k : Fin 4224) : V m c main_v2 (ix2 k j) = X m c (ix2 k j) := by
  unfold V
  after_reads_at

/-! ## The array -/

theorem point (t : Fin cfg0.N) (r : Fin 512) (i : Fin 3584) (hi : i.val = 512 * (t.val / 2) + r.val) (y : Fin 512) (j : Fin 1024) (hj : j.val = 512 * (t.val % 2) + y.val) :
    out0_2 (iblk m c 0 t) (iblk m c 1 t) (ix2 r y) = ∑ k : Fin 4224, wide (fun f => Ct m c (ix2 k f)) i * X m c (ix2 k j) :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S3584x1024.Idx => (∑ k : Fin 4224, wide (fun f => Ct m c (ix2 k f)) (i 0) * X m c (ix2 k (i 1)) : EReal) := by
  refine (dats m 0 c).arrAt_eq_of_covers 2 _ (by decide +kernel) fun t hf y => ?_
  have ht := lt t
  have hi := (idx t).2.2
  have hr : (y 0).val < 512 := (y 0).isLt
  have hc : (y 1).val < 512 := (y 1).isLt
  have e0 : (win0_2.blk t).view.emb y 0 = (⟨(t.val / 2) * 512 + (y 0).val, by omega⟩ : Fin 3584) := Fin.ext (by blk_simp [hi])
  have e1 : (win0_2.blk t).view.emb y 1 = (⟨(t.val % 2) * 512 + (y 1).val, by omega⟩ : Fin 1024) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val / 2) 512)) (y 1) _ (congrArg (· + (y 1).val) (Nat.mul_comm (t.val % 2) 512))

/-- The same with the zeros apart. -/
theorem arr' : (dats m 0 c).arrAt 2 cfg0.N = fun i : S3584x1024.Idx => (wide (fun f => ∑ k, Ct m c (ix2 k f) * X m c (ix2 k (i 1))) (i 0) : EReal) :=
  (arr m c).trans (funext fun i => wide_left (fun f k => Ct m c (ix2 k f)) (fun k => X m c (ix2 k (i 1))) (i 0))

end

section
open Cert.Reference5Ideal Cert.Reference5Ideal.Gen Cert.Reference5Ideal.Read

theorem ref (x0 : FVec Ideal ⟨2, ![4224, 1024]⟩ .f32) (x2 : FVec Ideal ⟨2, ![4224, 3088]⟩ .f32) (i : S3584x1024.Idx) :
    val_main_v5 (F := Ideal) x0 x2 i = (wide (fun f => ∑ k, x2 (ix2 k f) * x0 (ix2 k (i 1))) (i 0) : EReal) := by
  rw [eq_ix2 i]
  pointwise [val_main_v5, val_main_v4, val_main_v2, val_main_v1, val_main_call0_v0, val_main_c]
  rw [zero]
  rfl

end

theorem algebraic : Cert.algebraic_Kernel5Ideal_Reference5Ideal := by
  intro m g m' g' _ hagree
  refine ⟨fun c i => (wide (fun f => ∑ k, Ct m c (ix2 k f) * X m c (ix2 k (i 1))) (i 0) : EReal), ?_, ?_⟩
  · refine (θ_run _ _ _).mono (fun r h c => ?_) (Cert.Kernel5Ideal.Value.run_blocks m g)
    obtain ⟨h0, hargs⟩ := h c
    exact ⟨h0.trans (arr' m c), hargs⟩
  · refine (θ_run _ _ _).mono (fun r h c => ?_) (Cert.Reference5Ideal.Value.run m' g')
    obtain ⟨h0, hargs⟩ := h c
    obtain ⟨a0, a1, a2⟩ := hagree c
    refine ⟨h0.trans ?_, hargs⟩
    rw [Cert.Reference5Ideal.Read.val_main_v5_eq, a0, a2]; exact funext fun i => ref _ _ i

/-- The reference terminates, keeps its arguments, and has no semaphore. -/
theorem reference : Cert.quiescent_Reference5Ideal := fun m g _ =>
  (θ_run _ _ _).mono (fun r h => ⟨fun c => (h c).2, sem_eq_zero_of_no_sems rfl r.2⟩) (Cert.Reference5Ideal.Value.run m g)

end Cert.Proj.InDw
-- ==== Proof.Proj.InDx.lean ====
/- The input gradient of the gated-linear-attention layer's first projection: `ct wᵀ`, over columns of which the last 496 are zero. -/
module

public import proofs.«01_k».proof.Proof.Proj.Spec
public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.InDx

open Idealize.ShloMosaic Idealize.ShloMosaic.Pointwise Idealize.ShloMosaic.TcCoe Idealize.SL.Sem Finset

section
open Cert.Kernel6Ideal Cert.Kernel6Ideal.Gen

variable (m : (ℓ : Loc nD τ sig) → Buf (Elt Ideal) ℓ) (c : Dev nD)

/-! ## One grid point: the product of two blocks -/

theorem pay (x : Vec Ideal S704x3584 .bf16) (w : Vec Ideal S3584x512 .bf16) (r : Fin 704) (y : Fin 512) :
    k0_pay1 (F := Ideal) x w (ix2 r y) = (∑ k : Fin 3584, x (ix2 r k) * w (ix2 k y) : EReal) := by
  pointwise [k0_pay1]

theorem out (x : Vec Ideal S704x3584 .bf16) (w : Vec Ideal S3584x512 .bf16) (r : Fin 704) (y : Fin 512) :
    out0_2 (F := Ideal) x w (ix2 r y) = (∑ k : Fin 3584, x (ix2 r k) * w (ix2 k y) : EReal) := by
  frame_out
  exact pay x w r y

/-! ## The blocks -/

/-- The block of each window at grid point `t`. -/
theorem idx (t : Fin cfg0.N) : win0_0.index t = ![t.val % 6, 0] ∧ win0_1.index t = ![0, t.val / 6] ∧ win0_2.index t = ![t.val % 6, t.val / 6] := by
  have h : ∀ t : Fin grid0.N, win0_0.index t = ![t.val % 6, 0] ∧ win0_1.index t = ![0, t.val / 6] ∧ win0_2.index t = ![t.val % 6, t.val / 6] := by
    decide +kernel
  exact h t

theorem lt (t : Fin cfg0.N) : t.val < 12 := lt_of_lt_of_eq t.isLt N_0

theorem blk0 (t : Fin cfg0.N) (r : Fin 704) (i : Fin 4224) (hi : i.val = 704 * (t.val % 6) + r.val) (k : Fin 3584) :
    iblk m c 0 t (ix2 r k) = V m c (Pipeline.arrRef spec0 0) (ix2 i k) := by
  blk_ext [iblk, (idx t).1]

theorem blk1 (t : Fin cfg0.N) (y : Fin 512) (j : Fin 1024) (hj : j.val = 512 * (t.val / 6) + y.val) (k : Fin 3584) :
    iblk m c 1 t (ix2 k y) = V m c (Pipeline.arrRef spec0 1) (ix2 k j) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 3088]⟩ .f32 := m ((c : Thread nD τ).loc main_arg1)
abbrev Ct : FVec Ideal ⟨2, ![4224, 3088]⟩ .f32 := m ((c : Thread nD τ).loc main_arg2)

theorem read0 (i : Fin 4224) (k : Fin 3584) : V m c main_v1 (ix2 i k) = wide (fun f => Ct m c (ix2 i f)) k := by
  unfold V
  after_reads_at
  rw [zero]
  rfl

theorem read1 (j : Fin 1024) (k : Fin 3584) : V m c main_v4 (ix2 k j) = wide (fun f => W m c (ix2 j f)) k := by
  unfold V
  after_reads_at
  rw [zero]
  rfl

/-! ## The array -/

theorem point (t : Fin cfg0.N) (r : Fin 704) (i : Fin 4224) (hi : i.val = 704 * (t.val % 6) + r.val) (y : Fin 512) (j : Fin 1024) (hj : j.val = 512 * (t.val / 6) + y.val) :
    out0_2 (iblk m c 0 t) (iblk m c 1 t) (ix2 r y) = ∑ k : Fin 3584, wide (fun f => Ct m c (ix2 i f)) k * wide (fun f => W m c (ix2 j f)) k :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S4224x1024.Idx => (∑ k : Fin 3584, wide (fun f => Ct m c (ix2 (i 0) f)) k * wide (fun f => W m c (ix2 (i 1) f)) k : EReal) := by
  refine (dats m 0 c).arrAt_eq_of_covers 2 _ (by decide +kernel) fun t hf y => ?_
  have ht := lt t
  have hi := (idx t).2.2
  have hr : (y 0).val < 704 := (y 0).isLt
  have hc : (y 1).val < 512 := (y 1).isLt
  have e0 : (win0_2.blk t).view.emb y 0 = (⟨(t.val % 6) * 704 + (y 0).val, by omega⟩ : Fin 4224) := Fin.ext (by blk_simp [hi])
  have e1 : (win0_2.blk t).view.emb y 1 = (⟨(t.val / 6) * 512 + (y 1).val, by omega⟩ : Fin 1024) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val % 6) 704)) (y 1) _ (congrArg (· + (y 1).val) (Nat.mul_comm (t.val / 6) 512))

/-- The same with the zeros apart. -/
theorem arr' : (dats m 0 c).arrAt 2 cfg0.N = fun i : S4224x1024.Idx => (∑ f : Fin 3088, Ct m c (ix2 (i 0) f) * W m c (ix2 (i 1) f) : EReal) :=
  (arr m c).trans (funext fun i => sum_wide (fun f => Ct m c (ix2 (i 0) f)) (fun f => W m c (ix2 (i 1) f)))

end

section
open Cert.Reference6Ideal Cert.Reference6Ideal.Gen Cert.Reference6Ideal.Read

theorem ref (x1 : FVec Ideal ⟨2, ![1024, 3088]⟩ .f32) (x2 : FVec Ideal ⟨2, ![4224, 3088]⟩ .f32) (i : S4224x1024.Idx) :
    val_main_v3 (F := Ideal) x1 x2 i = (∑ f : Fin 3088, x2 (ix2 (i 0) f) * x1 (ix2 (i 1) f) : EReal) := by
  rw [eq_ix2 i]
  pointwise [val_main_v3]

end

theorem algebraic : Cert.algebraic_Kernel6Ideal_Reference6Ideal := by
  intro m g m' g' _ hagree
  refine ⟨fun c i => (∑ f : Fin 3088, Ct m c (ix2 (i 0) f) * W m c (ix2 (i 1) f) : EReal), ?_, ?_⟩
  · refine (θ_run _ _ _).mono (fun r h c => ?_) (Cert.Kernel6Ideal.Value.run_blocks m g)
    obtain ⟨h0, hargs⟩ := h c
    exact ⟨h0.trans (arr' m c), hargs⟩
  · refine (θ_run _ _ _).mono (fun r h c => ?_) (Cert.Reference6Ideal.Value.run m' g')
    obtain ⟨h0, hargs⟩ := h c
    obtain ⟨a0, a1, a2⟩ := hagree c
    refine ⟨h0.trans ?_, hargs⟩
    rw [Cert.Reference6Ideal.Read.val_main_v3_eq, a1, a2]; exact funext fun i => ref _ _ i

/-- The reference terminates, keeps its arguments, and has no semaphore. -/
theorem reference : Cert.quiescent_Reference6Ideal := fun m g _ =>
  (θ_run _ _ _).mono (fun r h => ⟨fun c => (h c).2, sem_eq_zero_of_no_sems rfl r.2⟩) (Cert.Reference6Ideal.Value.run m g)

end Cert.Proj.InDx
-- ==== Proof.Proj.In.lean ====
/- The gated-linear-attention layer's first projection: `x w`, columns up to 3584 zero. -/
module

public import proofs.«01_k».proof.Proof.Proj.Spec
public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.In

open Idealize.ShloMosaic Idealize.ShloMosaic.Pointwise Idealize.ShloMosaic.TcCoe Idealize.SL.Sem Finset

section
open Cert.Kernel7Ideal Cert.Kernel7Ideal.Gen

variable (m : (ℓ : Loc nD τ sig) → Buf (Elt Ideal) ℓ) (c : Dev nD)

/-! ## One grid point: the product of two blocks -/

theorem pay (x : Vec Ideal S1408x1024 .bf16) (w : Vec Ideal S896x1024 .bf16) (r : Fin 1408) (y : Fin 896) :
    k0_pay1 (F := Ideal) x w (ix2 r y) = (∑ k : Fin 1024, x (ix2 r k) * w (ix2 y k) : EReal) := by
  pointwise [k0_pay1]

theorem out (x : Vec Ideal S1408x1024 .bf16) (w : Vec Ideal S896x1024 .bf16) (r : Fin 1408) (y : Fin 896) :
    out0_2 (F := Ideal) x w (ix2 r y) = (∑ k : Fin 1024, x (ix2 r k) * w (ix2 y k) : EReal) := by
  frame_out
  exact pay x w r y

/-! ## The blocks -/

/-- The block of each window at grid point `t`. -/
theorem idx (t : Fin cfg0.N) : win0_0.index t = ![t.val % 3, 0] ∧ win0_1.index t = ![t.val / 3, 0] ∧ win0_2.index t = ![t.val % 3, t.val / 3] := by
  have h : ∀ t : Fin grid0.N, win0_0.index t = ![t.val % 3, 0] ∧ win0_1.index t = ![t.val / 3, 0] ∧ win0_2.index t = ![t.val % 3, t.val / 3] := by
    decide +kernel
  exact h t

theorem lt (t : Fin cfg0.N) : t.val < 12 := lt_of_lt_of_eq t.isLt N_0

theorem blk0 (t : Fin cfg0.N) (r : Fin 1408) (i : Fin 4224) (hi : i.val = 1408 * (t.val % 3) + r.val) (k : Fin 1024) :
    iblk m c 0 t (ix2 r k) = V m c (Pipeline.arrRef spec0 0) (ix2 i k) := by
  blk_ext [iblk, (idx t).1]

theorem blk1 (t : Fin cfg0.N) (y : Fin 896) (j : Fin 3584) (hj : j.val = 896 * (t.val / 3) + y.val) (k : Fin 1024) :
    iblk m c 1 t (ix2 y k) = V m c (Pipeline.arrRef spec0 1) (ix2 j k) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 3088]⟩ .f32 := m ((c : Thread nD τ).loc main_arg1)

theorem read0 (i : Fin 4224) (k : Fin 1024) : V m c main_v0 (ix2 i k) = X m c (ix2 i k) := by
  unfold V
  after_reads_at

theorem read1 (j : Fin 3584) (k : Fin 1024) : V m c main_v3 (ix2 j k) = wide (fun f => W m c (ix2 k f)) j := by
  unfold V
  after_reads_at
  rw [zero]
  rfl

/-! ## The array -/

theorem point (t : Fin cfg0.N) (r : Fin 1408) (i : Fin 4224) (hi : i.val = 1408 * (t.val % 3) + r.val) (y : Fin 896) (j : Fin 3584) (hj : j.val = 896 * (t.val / 3) + y.val) :
    out0_2 (iblk m c 0 t) (iblk m c 1 t) (ix2 r y) = ∑ k : Fin 1024, X m c (ix2 i k) * wide (fun f => W m c (ix2 k f)) j :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S4224x3584.Idx => (∑ k : Fin 1024, X m c (ix2 (i 0) k) * wide (fun f => W m c (ix2 k f)) (i 1) : EReal) := by
  refine (dats m 0 c).arrAt_eq_of_covers 2 _ (by decide +kernel) fun t hf y => ?_
  have ht := lt t
  have hi := (idx t).2.2
  have hr : (y 0).val < 1408 := (y 0).isLt
  have hc : (y 1).val < 896 := (y 1).isLt
  have e0 : (win0_2.blk t).view.emb y 0 = (⟨(t.val % 3) * 1408 + (y 0).val, by omega⟩ : Fin 4224) := Fin.ext (by blk_simp [hi])
  have e1 : (win0_2.blk t).view.emb y 1 = (⟨(t.val / 3) * 896 + (y 1).val, by omega⟩ : Fin 3584) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val % 3) 1408)) (y 1) _ (congrArg (· + (y 1).val) (Nat.mul_comm (t.val / 3) 896))

/-- The same with the zeros apart. -/
theorem arr' : (dats m 0 c).arrAt 2 cfg0.N = fun i : S4224x3584.Idx => (wide (fun f => ∑ k, X m c (ix2 (i 0) k) * W m c (ix2 k f)) (i 1) : EReal) :=
  (arr m c).trans (funext fun i => wide_right (fun k => X m c (ix2 (i 0) k)) (fun f k => W m c (ix2 k f)) (i 1))

end

section
open Cert.Reference7Ideal Cert.Reference7Ideal.Gen Cert.Reference7Ideal.Read

theorem ref (x0 : FVec Ideal ⟨2, ![4224, 1024]⟩ .f32) (x1 : FVec Ideal ⟨2, ![1024, 3088]⟩ .f32) (i : S4224x3584.Idx) :
    val_main_v1 (F := Ideal) x0 x1 i = (wide (fun f => ∑ k, x0 (ix2 (i 0) k) * x1 (ix2 k f)) (i 1) : EReal) := by
  rw [eq_ix2 i]
  pointwise [val_main_v1, val_main_v0, val_main_call0_v0, val_main_c]
  rw [zero]
  rfl

end

theorem algebraic : Cert.algebraic_Kernel7Ideal_Reference7Ideal := by
  intro m g m' g' _ hagree
  refine ⟨fun c i => (wide (fun f => ∑ k, X m c (ix2 (i 0) k) * W m c (ix2 k f)) (i 1) : EReal), ?_, ?_⟩
  · refine (θ_run _ _ _).mono (fun r h c => ?_) (Cert.Kernel7Ideal.Value.run_blocks m g)
    obtain ⟨h0, hargs⟩ := h c
    exact ⟨h0.trans (arr' m c), hargs⟩
  · refine (θ_run _ _ _).mono (fun r h c => ?_) (Cert.Reference7Ideal.Value.run m' g')
    obtain ⟨h0, hargs⟩ := h c
    obtain ⟨a0, a1⟩ := hagree c
    refine ⟨h0.trans ?_, hargs⟩
    rw [Cert.Reference7Ideal.Read.val_main_v1_eq, a0, a1]; exact funext fun i => ref _ _ i

/-- The reference terminates, keeps its arguments, and has no semaphore. -/
theorem reference : Cert.quiescent_Reference7Ideal := fun m g _ =>
  (θ_run _ _ _).mono (fun r h => ⟨fun c => (h c).2, sem_eq_zero_of_no_sems rfl r.2⟩) (Cert.Reference7Ideal.Value.run m g)

end Cert.Proj.In
-- ==== Proof.Proj.OutDw.lean ====
/- The weight gradient of the gated-linear-attention layer's last projection: `xᵀ ct`. -/
module

public import proofs.«01_k».proof.Proof.Proj.Spec
public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.OutDw

open Idealize.ShloMosaic Idealize.ShloMosaic.Pointwise Idealize.ShloMosaic.TcCoe Idealize.SL.Sem Finset

section
open Cert.Kernel8Ideal Cert.Kernel8Ideal.Gen

variable (m : (ℓ : Loc nD τ sig) → Buf (Elt Ideal) ℓ) (c : Dev nD)

/-! ## One grid point: the product of two blocks -/

theorem pay (x : Vec Ideal S4224x512 .bf16) (w : Vec Ideal S4224x512 .bf16) (r : Fin 512) (y : Fin 512) :
    k0_pay1 (F := Ideal) x w (ix2 r y) = (∑ k : Fin 4224, x (ix2 k r) * w (ix2 k y) : EReal) := by
  pointwise [k0_pay1]

theorem out (x : Vec Ideal S4224x512 .bf16) (w : Vec Ideal S4224x512 .bf16) (r : Fin 512) (y : Fin 512) :
    out0_2 (F := Ideal) x w (ix2 r y) = (∑ k : Fin 4224, x (ix2 k r) * w (ix2 k y) : EReal) := by
  frame_out
  exact pay x w r y

/-! ## The blocks -/

/-- The block of each window at grid point `t`. -/
theorem idx (t : Fin cfg0.N) : win0_0.index t = ![0, t.val / 2] ∧ win0_1.index t = ![0, t.val % 2] ∧ win0_2.index t = ![t.val / 2, t.val % 2] := by
  have h : ∀ t : Fin grid0.N, win0_0.index t = ![0, t.val / 2] ∧ win0_1.index t = ![0, t.val % 2] ∧ win0_2.index t = ![t.val / 2, t.val % 2] := by
    decide +kernel
  exact h t

theorem lt (t : Fin cfg0.N) : t.val < 4 := lt_of_lt_of_eq t.isLt N_0

theorem blk0 (t : Fin cfg0.N) (r : Fin 512) (i : Fin 1024) (hi : i.val = 512 * (t.val / 2) + r.val) (k : Fin 4224) :
    iblk m c 0 t (ix2 k r) = V m c (Pipeline.arrRef spec0 0) (ix2 k i) := by
  blk_ext [iblk, (idx t).1]

theorem blk1 (t : Fin cfg0.N) (y : Fin 512) (j : Fin 1024) (hj : j.val = 512 * (t.val % 2) + y.val) (k : Fin 4224) :
    iblk m c 1 t (ix2 k y) = V m c (Pipeline.arrRef spec0 1) (ix2 k j) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 1024]⟩ .f32 := m ((c : Thread nD τ).loc main_arg1)
abbrev Ct : FVec Ideal ⟨2, ![4224, 1024]⟩ .f32 := m ((c : Thread nD τ).loc main_arg2)

theorem read0 (i : Fin 1024) (k : Fin 4224) : V m c main_v0 (ix2 k i) = X m c (ix2 k i) := by
  unfold V
  after_reads_at

theorem read1 (j : Fin 1024) (k : Fin 4224) : V m c main_v1 (ix2 k j) = Ct m c (ix2 k j) := by
  unfold V
  after_reads_at

/-! ## The array -/

theorem point (t : Fin cfg0.N) (r : Fin 512) (i : Fin 1024) (hi : i.val = 512 * (t.val / 2) + r.val) (y : Fin 512) (j : Fin 1024) (hj : j.val = 512 * (t.val % 2) + y.val) :
    out0_2 (iblk m c 0 t) (iblk m c 1 t) (ix2 r y) = ∑ k : Fin 4224, X m c (ix2 k i) * Ct m c (ix2 k j) :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S1024x1024.Idx => (∑ k : Fin 4224, X m c (ix2 k (i 0)) * Ct m c (ix2 k (i 1)) : EReal) := by
  refine (dats m 0 c).arrAt_eq_of_covers 2 _ (by decide +kernel) fun t hf y => ?_
  have ht := lt t
  have hi := (idx t).2.2
  have hr : (y 0).val < 512 := (y 0).isLt
  have hc : (y 1).val < 512 := (y 1).isLt
  have e0 : (win0_2.blk t).view.emb y 0 = (⟨(t.val / 2) * 512 + (y 0).val, by omega⟩ : Fin 1024) := Fin.ext (by blk_simp [hi])
  have e1 : (win0_2.blk t).view.emb y 1 = (⟨(t.val % 2) * 512 + (y 1).val, by omega⟩ : Fin 1024) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val / 2) 512)) (y 1) _ (congrArg (· + (y 1).val) (Nat.mul_comm (t.val % 2) 512))

end

section
open Cert.Reference8Ideal Cert.Reference8Ideal.Gen Cert.Reference8Ideal.Read

theorem ref (x0 : FVec Ideal ⟨2, ![4224, 1024]⟩ .f32) (x2 : FVec Ideal ⟨2, ![4224, 1024]⟩ .f32) (i : S1024x1024.Idx) :
    val_main_v2 (F := Ideal) x0 x2 i = (∑ k : Fin 4224, x0 (ix2 k (i 0)) * x2 (ix2 k (i 1)) : EReal) := by
  rw [eq_ix2 i]
  pointwise [val_main_v2, val_main_v1]
  exact sum_congr rfl fun k _ => mul_comm _ _

end

theorem algebraic : Cert.algebraic_Kernel8Ideal_Reference8Ideal := by
  intro m g m' g' _ hagree
  refine ⟨fun c i => (∑ k : Fin 4224, X m c (ix2 k (i 0)) * Ct m c (ix2 k (i 1)) : EReal), ?_, ?_⟩
  · refine (θ_run _ _ _).mono (fun r h c => ?_) (Cert.Kernel8Ideal.Value.run_blocks m g)
    obtain ⟨h0, hargs⟩ := h c
    exact ⟨h0.trans (arr m c), hargs⟩
  · refine (θ_run _ _ _).mono (fun r h c => ?_) (Cert.Reference8Ideal.Value.run m' g')
    obtain ⟨h0, hargs⟩ := h c
    obtain ⟨a0, a1, a2⟩ := hagree c
    refine ⟨h0.trans ?_, hargs⟩
    rw [Cert.Reference8Ideal.Read.val_main_v2_eq, a0, a2]; exact funext fun i => ref _ _ i

/-- The reference terminates, keeps its arguments, and has no semaphore. -/
theorem reference : Cert.quiescent_Reference8Ideal := fun m g _ =>
  (θ_run _ _ _).mono (fun r h => ⟨fun c => (h c).2, sem_eq_zero_of_no_sems rfl r.2⟩) (Cert.Reference8Ideal.Value.run m g)

end Cert.Proj.OutDw
-- ==== Proof.Proj.OutDx.lean ====
/- The input gradient of the gated-linear-attention layer's last projection: `ct wᵀ`. -/
module

public import proofs.«01_k».proof.Proof.Proj.Spec
public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.OutDx

open Idealize.ShloMosaic Idealize.ShloMosaic.Pointwise Idealize.ShloMosaic.TcCoe Idealize.SL.Sem Finset

section
open Cert.Kernel9Ideal Cert.Kernel9Ideal.Gen

variable (m : (ℓ : Loc nD τ sig) → Buf (Elt Ideal) ℓ) (c : Dev nD)

/-! ## One grid point: the product of two blocks -/

theorem pay (x : Vec Ideal S1408x1024 .bf16) (w : Vec Ideal S1024x1024 .bf16) (r : Fin 1408) (y : Fin 1024) :
    k0_pay1 (F := Ideal) x w (ix2 r y) = (∑ k : Fin 1024, x (ix2 r k) * w (ix2 y k) : EReal) := by
  pointwise [k0_pay1]

theorem out (x : Vec Ideal S1408x1024 .bf16) (w : Vec Ideal S1024x1024 .bf16) (r : Fin 1408) (y : Fin 1024) :
    out0_2 (F := Ideal) x w (ix2 r y) = (∑ k : Fin 1024, x (ix2 r k) * w (ix2 y k) : EReal) := by
  frame_out
  exact pay x w r y

/-! ## The blocks -/

/-- The block of each window at grid point `t`. -/
theorem idx (t : Fin cfg0.N) : win0_0.index t = ![t.val % 3, 0] ∧ win0_1.index t = ![t.val / 3, 0] ∧ win0_2.index t = ![t.val % 3, t.val / 3] := by
  have h : ∀ t : Fin grid0.N, win0_0.index t = ![t.val % 3, 0] ∧ win0_1.index t = ![t.val / 3, 0] ∧ win0_2.index t = ![t.val % 3, t.val / 3] := by
    decide +kernel
  exact h t

theorem lt (t : Fin cfg0.N) : t.val < 3 := lt_of_lt_of_eq t.isLt N_0

theorem blk0 (t : Fin cfg0.N) (r : Fin 1408) (i : Fin 4224) (hi : i.val = 1408 * (t.val % 3) + r.val) (k : Fin 1024) :
    iblk m c 0 t (ix2 r k) = V m c (Pipeline.arrRef spec0 0) (ix2 i k) := by
  blk_ext [iblk, (idx t).1]

theorem blk1 (t : Fin cfg0.N) (y : Fin 1024) (j : Fin 1024) (hj : j.val = 1024 * (t.val / 3) + y.val) (k : Fin 1024) :
    iblk m c 1 t (ix2 y k) = V m c (Pipeline.arrRef spec0 1) (ix2 j k) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 1024]⟩ .f32 := m ((c : Thread nD τ).loc main_arg1)
abbrev Ct : FVec Ideal ⟨2, ![4224, 1024]⟩ .f32 := m ((c : Thread nD τ).loc main_arg2)

theorem read0 (i : Fin 4224) (k : Fin 1024) : V m c main_v0 (ix2 i k) = Ct m c (ix2 i k) := by
  unfold V
  after_reads_at

theorem read1 (j : Fin 1024) (k : Fin 1024) : V m c main_v1 (ix2 j k) = W m c (ix2 j k) := by
  unfold V
  after_reads_at

/-! ## The array -/

theorem point (t : Fin cfg0.N) (r : Fin 1408) (i : Fin 4224) (hi : i.val = 1408 * (t.val % 3) + r.val) (y : Fin 1024) (j : Fin 1024) (hj : j.val = 1024 * (t.val / 3) + y.val) :
    out0_2 (iblk m c 0 t) (iblk m c 1 t) (ix2 r y) = ∑ k : Fin 1024, Ct m c (ix2 i k) * W m c (ix2 j k) :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S4224x1024.Idx => (∑ k : Fin 1024, Ct m c (ix2 (i 0) k) * W m c (ix2 (i 1) k) : EReal) := by
  refine (dats m 0 c).arrAt_eq_of_covers 2 _ (by decide +kernel) fun t hf y => ?_
  have ht := lt t
  have hi := (idx t).2.2
  have hr : (y 0).val < 1408 := (y 0).isLt
  have hc : (y 1).val < 1024 := (y 1).isLt
  have e0 : (win0_2.blk t).view.emb y 0 = (⟨(t.val % 3) * 1408 + (y 0).val, by omega⟩ : Fin 4224) := Fin.ext (by blk_simp [hi])
  have e1 : (win0_2.blk t).view.emb y 1 = (⟨(t.val / 3) * 1024 + (y 1).val, by omega⟩ : Fin 1024) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val % 3) 1408)) (y 1) _ (congrArg (· + (y 1).val) (Nat.mul_comm (t.val / 3) 1024))

end

section
open Cert.Reference9Ideal Cert.Reference9Ideal.Gen Cert.Reference9Ideal.Read

theorem ref (x1 : FVec Ideal ⟨2, ![1024, 1024]⟩ .f32) (x2 : FVec Ideal ⟨2, ![4224, 1024]⟩ .f32) (i : S4224x1024.Idx) :
    val_main_v3 (F := Ideal) x1 x2 i = (∑ k : Fin 1024, x2 (ix2 (i 0) k) * x1 (ix2 (i 1) k) : EReal) := by
  rw [eq_ix2 i]
  pointwise [val_main_v3]

end

theorem algebraic : Cert.algebraic_Kernel9Ideal_Reference9Ideal := by
  intro m g m' g' _ hagree
  refine ⟨fun c i => (∑ k : Fin 1024, Ct m c (ix2 (i 0) k) * W m c (ix2 (i 1) k) : EReal), ?_, ?_⟩
  · refine (θ_run _ _ _).mono (fun r h c => ?_) (Cert.Kernel9Ideal.Value.run_blocks m g)
    obtain ⟨h0, hargs⟩ := h c
    exact ⟨h0.trans (arr m c), hargs⟩
  · refine (θ_run _ _ _).mono (fun r h c => ?_) (Cert.Reference9Ideal.Value.run m' g')
    obtain ⟨h0, hargs⟩ := h c
    obtain ⟨a0, a1, a2⟩ := hagree c
    refine ⟨h0.trans ?_, hargs⟩
    rw [Cert.Reference9Ideal.Read.val_main_v3_eq, a1, a2]; exact funext fun i => ref _ _ i

/-- The reference terminates, keeps its arguments, and has no semaphore. -/
theorem reference : Cert.quiescent_Reference9Ideal := fun m g _ =>
  (θ_run _ _ _).mono (fun r h => ⟨fun c => (h c).2, sem_eq_zero_of_no_sems rfl r.2⟩) (Cert.Reference9Ideal.Value.run m g)

end Cert.Proj.OutDx
-- ==== Proof.Proj.Out.lean ====
/- The gated-linear-attention layer's last projection: `x w`. -/
module

public import proofs.«01_k».proof.Proof.Proj.Spec
public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.Out

open Idealize.ShloMosaic Idealize.ShloMosaic.Pointwise Idealize.ShloMosaic.TcCoe Idealize.SL.Sem Finset

section
open Cert.Kernel10Ideal Cert.Kernel10Ideal.Gen

variable (m : (ℓ : Loc nD τ sig) → Buf (Elt Ideal) ℓ) (c : Dev nD)

/-! ## One grid point: the product of two blocks -/

theorem pay (x : Vec Ideal S1408x1024 .bf16) (w : Vec Ideal S1024x512 .bf16) (r : Fin 1408) (y : Fin 512) :
    k0_pay1 (F := Ideal) x w (ix2 r y) = (∑ k : Fin 1024, x (ix2 r k) * w (ix2 k y) : EReal) := by
  pointwise [k0_pay1]

theorem out (x : Vec Ideal S1408x1024 .bf16) (w : Vec Ideal S1024x512 .bf16) (r : Fin 1408) (y : Fin 512) :
    out0_2 (F := Ideal) x w (ix2 r y) = (∑ k : Fin 1024, x (ix2 r k) * w (ix2 k y) : EReal) := by
  frame_out
  exact pay x w r y

/-! ## The blocks -/

/-- The block of each window at grid point `t`. -/
theorem idx (t : Fin cfg0.N) : win0_0.index t = ![t.val % 3, 0] ∧ win0_1.index t = ![0, t.val / 3] ∧ win0_2.index t = ![t.val % 3, t.val / 3] := by
  have h : ∀ t : Fin grid0.N, win0_0.index t = ![t.val % 3, 0] ∧ win0_1.index t = ![0, t.val / 3] ∧ win0_2.index t = ![t.val % 3, t.val / 3] := by
    decide +kernel
  exact h t

theorem lt (t : Fin cfg0.N) : t.val < 6 := lt_of_lt_of_eq t.isLt N_0

theorem blk0 (t : Fin cfg0.N) (r : Fin 1408) (i : Fin 4224) (hi : i.val = 1408 * (t.val % 3) + r.val) (k : Fin 1024) :
    iblk m c 0 t (ix2 r k) = V m c (Pipeline.arrRef spec0 0) (ix2 i k) := by
  blk_ext [iblk, (idx t).1]

theorem blk1 (t : Fin cfg0.N) (y : Fin 512) (j : Fin 1024) (hj : j.val = 512 * (t.val / 3) + y.val) (k : Fin 1024) :
    iblk m c 1 t (ix2 k y) = V m c (Pipeline.arrRef spec0 1) (ix2 k j) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 1024]⟩ .f32 := m ((c : Thread nD τ).loc main_arg1)

theorem read0 (i : Fin 4224) (k : Fin 1024) : V m c main_v0 (ix2 i k) = X m c (ix2 i k) := by
  unfold V
  after_reads_at

theorem read1 (j : Fin 1024) (k : Fin 1024) : V m c main_v1 (ix2 k j) = W m c (ix2 k j) := by
  unfold V
  after_reads_at

/-! ## The array -/

theorem point (t : Fin cfg0.N) (r : Fin 1408) (i : Fin 4224) (hi : i.val = 1408 * (t.val % 3) + r.val) (y : Fin 512) (j : Fin 1024) (hj : j.val = 512 * (t.val / 3) + y.val) :
    out0_2 (iblk m c 0 t) (iblk m c 1 t) (ix2 r y) = ∑ k : Fin 1024, X m c (ix2 i k) * W m c (ix2 k j) :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S4224x1024.Idx => (∑ k : Fin 1024, X m c (ix2 (i 0) k) * W m c (ix2 k (i 1)) : EReal) := by
  refine (dats m 0 c).arrAt_eq_of_covers 2 _ (by decide +kernel) fun t hf y => ?_
  have ht := lt t
  have hi := (idx t).2.2
  have hr : (y 0).val < 1408 := (y 0).isLt
  have hc : (y 1).val < 512 := (y 1).isLt
  have e0 : (win0_2.blk t).view.emb y 0 = (⟨(t.val % 3) * 1408 + (y 0).val, by omega⟩ : Fin 4224) := Fin.ext (by blk_simp [hi])
  have e1 : (win0_2.blk t).view.emb y 1 = (⟨(t.val / 3) * 512 + (y 1).val, by omega⟩ : Fin 1024) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val % 3) 1408)) (y 1) _ (congrArg (· + (y 1).val) (Nat.mul_comm (t.val / 3) 512))

end

section
open Cert.Reference10Ideal Cert.Reference10Ideal.Gen Cert.Reference10Ideal.Read

theorem ref (x0 : FVec Ideal ⟨2, ![4224, 1024]⟩ .f32) (x1 : FVec Ideal ⟨2, ![1024, 1024]⟩ .f32) (i : S4224x1024.Idx) :
    val_main_v0 (F := Ideal) x0 x1 i = (∑ k : Fin 1024, x0 (ix2 (i 0) k) * x1 (ix2 k (i 1)) : EReal) := by
  rw [eq_ix2 i]
  pointwise [val_main_v0]

end

theorem algebraic : Cert.algebraic_Kernel10Ideal_Reference10Ideal := by
  intro m g m' g' _ hagree
  refine ⟨fun c i => (∑ k : Fin 1024, X m c (ix2 (i 0) k) * W m c (ix2 k (i 1)) : EReal), ?_, ?_⟩
  · refine (θ_run _ _ _).mono (fun r h c => ?_) (Cert.Kernel10Ideal.Value.run_blocks m g)
    obtain ⟨h0, hargs⟩ := h c
    exact ⟨h0.trans (arr m c), hargs⟩
  · refine (θ_run _ _ _).mono (fun r h c => ?_) (Cert.Reference10Ideal.Value.run m' g')
    obtain ⟨h0, hargs⟩ := h c
    obtain ⟨a0, a1⟩ := hagree c
    refine ⟨h0.trans ?_, hargs⟩
    rw [Cert.Reference10Ideal.Read.val_main_v0_eq, a0, a1]; exact funext fun i => ref _ _ i

/-- The reference terminates, keeps its arguments, and has no semaphore. -/
theorem reference : Cert.quiescent_Reference10Ideal := fun m g _ =>
  (θ_run _ _ _).mono (fun r h => ⟨fun c => (h c).2, sem_eq_zero_of_no_sems rfl r.2⟩) (Cert.Reference10Ideal.Value.run m g)

end Cert.Proj.Out
-- ==== Proof.Proj.Heads.lean ====
/- Columns spread out with zeros: the layouts of the projections of the layer with the sliding-window attention, in which each
   head of 64 columns is followed by 64 zeros. -/
module

public import proofs.«01_k».proof.Proof.Proj.Spec

@[expose] public section

noncomputable section

namespace Cert.Proj

open Idealize.ShloMosaic Finset

/-! ## The first projection -/

/-- 2824 values spread over 4096: 12 heads of 64, each followed by 64 zeros, then the rest and zeros. -/
def spreadIn (g : Fin 2824 → EReal) (p : Fin 4096) : EReal :=
  if h : p.val < 1536 then if h' : p.val % 128 < 64 then g ⟨p.val / 128 * 64 + p.val % 128, by omega⟩ else 0
  else if h : p.val - 1536 < 2056 then g ⟨768 + (p.val - 1536), by omega⟩ else 0

/-- Where each value goes. -/
def placeIn (o : Fin 2824) : Fin 4096 :=
  ⟨if o.val < 768 then o.val / 64 * 128 + o.val % 64 else o.val + 768, by split <;> omega⟩

theorem placeIn_low (o : Fin 2824) (h : o.val < 768) : (placeIn o).val = o.val / 64 * 128 + o.val % 64 := if_pos h

theorem placeIn_high (o : Fin 2824) (h : ¬o.val < 768) : (placeIn o).val = o.val + 768 := if_neg h

theorem spreadIn_at (g : Fin 2824 → EReal) (o : Fin 2824) : spreadIn g (placeIn o) = g o := by
  unfold spreadIn
  by_cases h : o.val < 768
  · have e : (placeIn o).val = o.val / 64 * 128 + o.val % 64 := placeIn_low o h
    rw [dif_pos (by omega), dif_pos (by omega)]
    exact congrArg g (Fin.ext (by show (placeIn o).val / 128 * 64 + (placeIn o).val % 128 = o.val; omega))
  · have e : (placeIn o).val = o.val + 768 := placeIn_high o h
    rw [dif_neg (by omega), dif_pos (by omega)]
    exact congrArg g (Fin.ext (by show 768 + ((placeIn o).val - 1536) = o.val; omega))

theorem spreadIn_zero (g : Fin 2824 → EReal) (p : Fin 4096) (hp : ¬∃ o, placeIn o = p) : spreadIn g p = 0 := by
  unfold spreadIn
  by_cases h1 : p.val < 1536
  · by_cases h2 : p.val % 128 < 64
    · refine absurd ⟨⟨p.val / 128 * 64 + p.val % 128, by omega⟩, Fin.ext ?_⟩ hp
      refine (placeIn_low _ (by show p.val / 128 * 64 + p.val % 128 < 768; omega)).trans ?_
      show (p.val / 128 * 64 + p.val % 128) / 64 * 128 + (p.val / 128 * 64 + p.val % 128) % 64 = p.val
      omega
    · rw [dif_pos h1, dif_neg h2]
  · by_cases h2 : p.val - 1536 < 2056
    · exact absurd ⟨⟨768 + (p.val - 1536), by omega⟩, Fin.ext ((placeIn_high _ (by show ¬768 + (p.val - 1536) < 768; omega)).trans
        (by show 768 + (p.val - 1536) + 768 = p.val; omega))⟩ hp
    · rw [dif_neg h1, dif_neg h2]

theorem placeIn_injective : Function.Injective placeIn := fun o o' h => by
  have e : (if o.val < 768 then o.val / 64 * 128 + o.val % 64 else o.val + 768)
      = if o'.val < 768 then o'.val / 64 * 128 + o'.val % 64 else o'.val + 768 := congrArg Fin.val h
  refine Fin.ext ?_
  split_ifs at e <;> omega

/-- A sum over the spread columns is the sum over the columns. -/
theorem sum_spreadIn (a b : Fin 2824 → EReal) : ∑ p, spreadIn a p * spreadIn b p = ∑ o, a o * b o := by
  refine (sum_of_injOn placeIn placeIn_injective.injOn (fun _ _ => mem_coe.mpr (mem_univ _)) (fun p _ hp => ?_) (fun o _ => ?_)).symm
  · rw [spreadIn_zero a p (fun ⟨o, ho⟩ => hp ⟨o, mem_coe.mpr (mem_univ _), ho⟩), zero_mul]
  · rw [spreadIn_at, spreadIn_at]

/-- A column of zeros of the first factor gives a zero. -/
theorem spreadIn_left {n : ℕ} (a : Fin 2824 → Fin n → EReal) (b : Fin n → EReal) (p : Fin 4096) :
    ∑ k, spreadIn (fun o => a o k) p * b k = spreadIn (fun o => ∑ k, a o k * b k) p := by
  unfold spreadIn
  split_ifs
  all_goals first | rfl | simp

/-- A column of zeros of the second factor gives a zero. -/
theorem spreadIn_right {n : ℕ} (a : Fin n → EReal) (b : Fin 2824 → Fin n → EReal) (p : Fin 4096) :
    ∑ k, a k * spreadIn (fun o => b o k) p = spreadIn (fun o => ∑ k, a k * b o k) p := by
  unfold spreadIn
  split_ifs
  all_goals first | rfl | simp

/-! ## The last projection -/

/-- 1024 values spread over 1536: 8 heads of 64, each followed by 64 zeros, then the rest. -/
def spreadOut (g : Fin 1024 → EReal) (p : Fin 1536) : EReal :=
  if h : p.val < 1024 then if h' : p.val % 128 < 64 then g ⟨p.val / 128 * 64 + p.val % 128, by omega⟩ else 0
  else g ⟨512 + (p.val - 1024), by omega⟩

/-- Where each value goes. -/
def placeOut (o : Fin 1024) : Fin 1536 :=
  ⟨if o.val < 512 then o.val / 64 * 128 + o.val % 64 else o.val + 512, by split <;> omega⟩

theorem placeOut_low (o : Fin 1024) (h : o.val < 512) : (placeOut o).val = o.val / 64 * 128 + o.val % 64 := if_pos h

theorem placeOut_high (o : Fin 1024) (h : ¬o.val < 512) : (placeOut o).val = o.val + 512 := if_neg h

theorem spreadOut_at (g : Fin 1024 → EReal) (o : Fin 1024) : spreadOut g (placeOut o) = g o := by
  unfold spreadOut
  by_cases h : o.val < 512
  · have e : (placeOut o).val = o.val / 64 * 128 + o.val % 64 := placeOut_low o h
    rw [dif_pos (by omega), dif_pos (by omega)]
    exact congrArg g (Fin.ext (by show (placeOut o).val / 128 * 64 + (placeOut o).val % 128 = o.val; omega))
  · have e : (placeOut o).val = o.val + 512 := placeOut_high o h
    rw [dif_neg (by omega)]
    exact congrArg g (Fin.ext (by show 512 + ((placeOut o).val - 1024) = o.val; omega))

theorem spreadOut_zero (g : Fin 1024 → EReal) (p : Fin 1536) (hp : ¬∃ o, placeOut o = p) : spreadOut g p = 0 := by
  unfold spreadOut
  by_cases h1 : p.val < 1024
  · by_cases h2 : p.val % 128 < 64
    · refine absurd ⟨⟨p.val / 128 * 64 + p.val % 128, by omega⟩, Fin.ext ?_⟩ hp
      refine (placeOut_low _ (by show p.val / 128 * 64 + p.val % 128 < 512; omega)).trans ?_
      show (p.val / 128 * 64 + p.val % 128) / 64 * 128 + (p.val / 128 * 64 + p.val % 128) % 64 = p.val
      omega
    · rw [dif_pos h1, dif_neg h2]
  · exact absurd ⟨⟨512 + (p.val - 1024), by omega⟩, Fin.ext ((placeOut_high _ (by show ¬512 + (p.val - 1024) < 512; omega)).trans
        (by show 512 + (p.val - 1024) + 512 = p.val; omega))⟩ hp

theorem placeOut_injective : Function.Injective placeOut := fun o o' h => by
  have e : (if o.val < 512 then o.val / 64 * 128 + o.val % 64 else o.val + 512)
      = if o'.val < 512 then o'.val / 64 * 128 + o'.val % 64 else o'.val + 512 := congrArg Fin.val h
  refine Fin.ext ?_
  split_ifs at e <;> omega

/-- A sum over the spread columns is the sum over the columns. -/
theorem sum_spreadOut (a b : Fin 1024 → EReal) : ∑ p, spreadOut a p * spreadOut b p = ∑ o, a o * b o := by
  refine (sum_of_injOn placeOut placeOut_injective.injOn (fun _ _ => mem_coe.mpr (mem_univ _)) (fun p _ hp => ?_) (fun o _ => ?_)).symm
  · rw [spreadOut_zero a p (fun ⟨o, ho⟩ => hp ⟨o, mem_coe.mpr (mem_univ _), ho⟩), zero_mul]
  · rw [spreadOut_at, spreadOut_at]

/-- A column of zeros of the first factor gives a zero. -/
theorem spreadOut_left {n : ℕ} (a : Fin 1024 → Fin n → EReal) (b : Fin n → EReal) (p : Fin 1536) :
    ∑ k, spreadOut (fun o => a o k) p * b k = spreadOut (fun o => ∑ k, a o k * b k) p := by
  unfold spreadOut
  split_ifs
  all_goals first | rfl | simp

/-- A column of zeros of the second factor gives a zero. -/
theorem spreadOut_right {n : ℕ} (a : Fin n → EReal) (b : Fin 1024 → Fin n → EReal) (p : Fin 1536) :
    ∑ k, a k * spreadOut (fun o => b o k) p = spreadOut (fun o => ∑ k, a k * b o k) p := by
  unfold spreadOut
  split_ifs
  all_goals first | rfl | simp

/-! ## The first projection's layout, case by case -/

theorem spreadIn_head (g : Fin 2824 → EReal) (p : Fin 4096) (h : p.val < 1536) (h' : p.val % 128 < 64) :
    spreadIn g p = g ⟨p.val / 128 * 64 + p.val % 128, by omega⟩ := by
  unfold spreadIn
  rw [dif_pos h, dif_pos h']

theorem spreadIn_pad (g : Fin 2824 → EReal) (p : Fin 4096) (h : p.val < 1536) (h' : ¬p.val % 128 < 64) :
    spreadIn g p = 0 := by
  unfold spreadIn
  rw [dif_pos h, dif_neg h']

theorem spreadIn_tail (g : Fin 2824 → EReal) (p : Fin 4096) (h : ¬p.val < 1536) (o : Fin 2824) (ho : o.val = 768 + (p.val - 1536)) :
    spreadIn g p = g o := by
  unfold spreadIn
  rw [dif_neg h, dif_pos (by omega)]
  exact congrArg g (Fin.ext ho.symm)

theorem spreadIn_end (g : Fin 2824 → EReal) (p : Fin 4096) (h : ¬p.val < 1536) (h' : ¬p.val - 1536 < 2056) :
    spreadIn g p = 0 := by
  unfold spreadIn
  rw [dif_neg h, dif_neg h']

end Cert.Proj
-- ==== Proof.Proj.EvenInDw.lean ====
/- The weight gradient of the first projection of the layer with the sliding-window attention: `ctᵀ x`, its rows spread out with zeros. -/
module

public import proofs.«01_k».proof.Proof.Proj.Heads
public import proofs.«01_k».proof.Proof.Gen.Kernel11Ideal.Value
public import proofs.«01_k».proof.Proof.Gen.Reference11Ideal.Run
public import proofs.«01_k».proof.Proof.Gen.Reference11Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.EvenInDw

open Idealize.ShloMosaic Idealize.ShloMosaic.Pointwise Idealize.ShloMosaic.TcCoe Idealize.SL.Sem Finset

section
open Cert.Kernel11Ideal Cert.Kernel11Ideal.Gen

variable (m : (ℓ : Loc nD τ sig) → Buf (Elt Ideal) ℓ) (c : Dev nD)

/-! ## One grid point: the product of two blocks -/

theorem pay (x : Vec Ideal S4224x512 .bf16) (w : Vec Ideal S4224x512 .bf16) (r : Fin 512) (y : Fin 512) :
    k0_pay1 (F := Ideal) x w (ix2 r y) = (∑ k : Fin 4224, x (ix2 k r) * w (ix2 k y) : EReal) := by
  pointwise [k0_pay1]

theorem out (x : Vec Ideal S4224x512 .bf16) (w : Vec Ideal S4224x512 .bf16) (r : Fin 512) (y : Fin 512) :
    out0_2 (F := Ideal) x w (ix2 r y) = (∑ k : Fin 4224, x (ix2 k r) * w (ix2 k y) : EReal) := by
  frame_out
  exact pay x w r y

/-! ## The blocks -/

/-- The block of each window at grid point `t`. -/
theorem idx (t : Fin cfg0.N) : win0_0.index t = ![0, t.val / 2] ∧ win0_1.index t = ![0, t.val % 2] ∧ win0_2.index t = ![t.val / 2, t.val % 2] := by
  have h : ∀ t : Fin grid0.N, win0_0.index t = ![0, t.val / 2] ∧ win0_1.index t = ![0, t.val % 2] ∧ win0_2.index t = ![t.val / 2, t.val % 2] := by
    decide +kernel
  exact h t

theorem lt (t : Fin cfg0.N) : t.val < 16 := lt_of_lt_of_eq t.isLt N_0

theorem blk0 (t : Fin cfg0.N) (r : Fin 512) (i : Fin 4096) (hi : i.val = 512 * (t.val / 2) + r.val) (k : Fin 4224) :
    iblk m c 0 t (ix2 k r) = V m c (Pipeline.arrRef spec0 0) (ix2 k i) := by
  blk_ext [iblk, (idx t).1]

theorem blk1 (t : Fin cfg0.N) (y : Fin 512) (j : Fin 1024) (hj : j.val = 512 * (t.val % 2) + y.val) (k : Fin 4224) :
    iblk m c 1 t (ix2 k y) = V m c (Pipeline.arrRef spec0 1) (ix2 k j) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 2824]⟩ .f32 := m ((c : Thread nD τ).loc main_arg1)
abbrev Ct : FVec Ideal ⟨2, ![4224, 2824]⟩ .f32 := m ((c : Thread nD τ).loc main_arg2)

theorem read0 (i : Fin 4096) (k : Fin 4224) : V m c main_v8 (ix2 k i) = spreadIn (fun o => Ct m c (ix2 k o)) i := by
  by_cases h : i.val < 1536
  · by_cases h' : i.val % 128 < 64
    · refine Eq.trans ?_ (spreadIn_head (fun o => Ct m c (ix2 k o)) i h h').symm
      unfold V
      after_reads_at
      rw [dif_pos h]
      after_reads_at
      exact dif_pos ⟨by omega, h'⟩
    · refine Eq.trans ?_ (spreadIn_pad (fun o => Ct m c (ix2 k o)) i h h').symm
      unfold V
      after_reads_at
      rw [dif_pos h]
      after_reads_at
      exact (dif_neg fun q => h' q.2).trans zero
  · by_cases h1 : i.val - 1536 < 2048
    · refine Eq.trans ?_ (spreadIn_tail (fun o => Ct m c (ix2 k o)) i h ⟨768 + (i.val - 1536), by omega⟩ rfl).symm
      unfold V
      after_reads_at
      rw [dif_neg h, dif_pos h1]
      after_reads_at
    · by_cases h' : i.val - 1536 - 2048 < 8
      · have e : 2816 + (i.val - 1536 - 2048) = 768 + (i.val - 1536) := by omega
        refine Eq.trans ?_ (spreadIn_tail (fun o => Ct m c (ix2 k o)) i h ⟨2816 + (i.val - 1536 - 2048), by omega⟩ e).symm
        unfold V
        after_reads_at
        rw [dif_neg h, dif_neg h1]
        after_reads_at
        exact dif_pos h'
      · refine Eq.trans ?_ (spreadIn_end (fun o => Ct m c (ix2 k o)) i h (by omega)).symm
        unfold V
        after_reads_at
        rw [dif_neg h, dif_neg h1]
        after_reads_at
        exact (dif_neg h').trans zero

theorem read1 (j : Fin 1024) (k : Fin 4224) : V m c main_v9 (ix2 k j) = X m c (ix2 k j) := by
  unfold V
  after_reads_at

/-! ## The array -/

theorem point (t : Fin cfg0.N) (r : Fin 512) (i : Fin 4096) (hi : i.val = 512 * (t.val / 2) + r.val) (y : Fin 512) (j : Fin 1024) (hj : j.val = 512 * (t.val % 2) + y.val) :
    out0_2 (iblk m c 0 t) (iblk m c 1 t) (ix2 r y) = ∑ k : Fin 4224, spreadIn (fun o => Ct m c (ix2 k o)) i * X m c (ix2 k j) :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S4096x1024.Idx => (∑ k : Fin 4224, spreadIn (fun o => Ct m c (ix2 k o)) (i 0) * X m c (ix2 k (i 1)) : EReal) := by
  refine (dats m 0 c).arrAt_eq_of_covers 2 _ (by decide +kernel) fun t hf y => ?_
  have ht := lt t
  have hi := (idx t).2.2
  have hr : (y 0).val < 512 := (y 0).isLt
  have hc : (y 1).val < 512 := (y 1).isLt
  have e0 : (win0_2.blk t).view.emb y 0 = (⟨(t.val / 2) * 512 + (y 0).val, by omega⟩ : Fin 4096) := Fin.ext (by blk_simp [hi])
  have e1 : (win0_2.blk t).view.emb y 1 = (⟨(t.val % 2) * 512 + (y 1).val, by omega⟩ : Fin 1024) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val / 2) 512)) (y 1) _ (congrArg (· + (y 1).val) (Nat.mul_comm (t.val % 2) 512))

/-- The same with the zeros apart. -/
theorem arr' : (dats m 0 c).arrAt 2 cfg0.N = fun i : S4096x1024.Idx => (spreadIn (fun o => ∑ k, Ct m c (ix2 k o) * X m c (ix2 k (i 1))) (i 0) : EReal) :=
  (arr m c).trans (funext fun i => spreadIn_left (fun o k => Ct m c (ix2 k o)) (fun k => X m c (ix2 k (i 1))) (i 0))

end

section
open Cert.Reference11Ideal Cert.Reference11Ideal.Gen Cert.Reference11Ideal.Read

theorem ref (x0 : FVec Ideal ⟨2, ![4224, 1024]⟩ .f32) (x2 : FVec Ideal ⟨2, ![4224, 2824]⟩ .f32) (i : S4096x1024.Idx) :
    val_main_v13 (F := Ideal) x0 x2 i = (spreadIn (fun o => ∑ k, x2 (ix2 k o) * x0 (ix2 k (i 1))) (i 0) : EReal) := by
  rw [eq_ix2 i]
  pointwise [val_main_v13, val_main_v12, val_main_v11, val_main_v9, val_main_v8, val_main_v7, val_main_v6, val_main_v5, val_main_v4, val_main_v2, val_main_v1, val_main_cst, val_main_cst_0]
  rfl

end

theorem algebraic : Cert.algebraic_Kernel11Ideal_Reference11Ideal := by
  intro m g m' g' _ hagree
  refine ⟨fun c i => (spreadIn (fun o => ∑ k, Ct m c (ix2 k o) * X m c (ix2 k (i 1))) (i 0) : EReal), ?_, ?_⟩
  · refine (θ_run _ _ _).mono (fun r h c => ?_) (Cert.Kernel11Ideal.Value.run_blocks m g)
    obtain ⟨h0, hargs⟩ := h c
    exact ⟨h0.trans (arr' m c), hargs⟩
  · refine (θ_run _ _ _).mono (fun r h c => ?_) (Cert.Reference11Ideal.Value.run m' g')
    obtain ⟨h0, hargs⟩ := h c
    obtain ⟨a0, a1, a2⟩ := hagree c
    refine ⟨h0.trans ?_, hargs⟩
    rw [Cert.Reference11Ideal.Read.val_main_v13_eq, a0, a2]; exact funext fun i => ref _ _ i

/-- The reference terminates, keeps its arguments, and has no semaphore. -/
theorem reference : Cert.quiescent_Reference11Ideal := fun m g _ =>
  (θ_run _ _ _).mono (fun r h => ⟨fun c => (h c).2, sem_eq_zero_of_no_sems rfl r.2⟩) (Cert.Reference11Ideal.Value.run m g)

end Cert.Proj.EvenInDw
-- ==== Proof.Proj.EvenInDx.lean ====
/- The input gradient of the first projection of the layer with the sliding-window attention: `ct wᵀ`, over columns spread out with zeros. -/
module

public import proofs.«01_k».proof.Proof.Proj.Heads
public import proofs.«01_k».proof.Proof.Gen.Kernel12Ideal.Value
public import proofs.«01_k».proof.Proof.Gen.Reference12Ideal.Run
public import proofs.«01_k».proof.Proof.Gen.Reference12Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.EvenInDx

open Idealize.ShloMosaic Idealize.ShloMosaic.Pointwise Idealize.ShloMosaic.TcCoe Idealize.SL.Sem Finset

section
open Cert.Kernel12Ideal Cert.Kernel12Ideal.Gen

variable (m : (ℓ : Loc nD τ sig) → Buf (Elt Ideal) ℓ) (c : Dev nD)

/-! ## One grid point: the product of two blocks -/

theorem pay (x : Vec Ideal S704x4096 .bf16) (w : Vec Ideal S4096x512 .bf16) (r : Fin 704) (y : Fin 512) :
    k0_pay1 (F := Ideal) x w (ix2 r y) = (∑ k : Fin 4096, x (ix2 r k) * w (ix2 k y) : EReal) := by
  pointwise [k0_pay1]

theorem out (x : Vec Ideal S704x4096 .bf16) (w : Vec Ideal S4096x512 .bf16) (r : Fin 704) (y : Fin 512) :
    out0_2 (F := Ideal) x w (ix2 r y) = (∑ k : Fin 4096, x (ix2 r k) * w (ix2 k y) : EReal) := by
  frame_out
  exact pay x w r y

/-! ## The blocks -/

/-- The block of each window at grid point `t`. -/
theorem idx (t : Fin cfg0.N) : win0_0.index t = ![t.val % 6, 0] ∧ win0_1.index t = ![0, t.val / 6] ∧ win0_2.index t = ![t.val % 6, t.val / 6] := by
  have h : ∀ t : Fin grid0.N, win0_0.index t = ![t.val % 6, 0] ∧ win0_1.index t = ![0, t.val / 6] ∧ win0_2.index t = ![t.val % 6, t.val / 6] := by
    decide +kernel
  exact h t

theorem lt (t : Fin cfg0.N) : t.val < 12 := lt_of_lt_of_eq t.isLt N_0

theorem blk0 (t : Fin cfg0.N) (r : Fin 704) (i : Fin 4224) (hi : i.val = 704 * (t.val % 6) + r.val) (k : Fin 4096) :
    iblk m c 0 t (ix2 r k) = V m c (Pipeline.arrRef spec0 0) (ix2 i k) := by
  blk_ext [iblk, (idx t).1]

theorem blk1 (t : Fin cfg0.N) (y : Fin 512) (j : Fin 1024) (hj : j.val = 512 * (t.val / 6) + y.val) (k : Fin 4096) :
    iblk m c 1 t (ix2 k y) = V m c (Pipeline.arrRef spec0 1) (ix2 k j) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 2824]⟩ .f32 := m ((c : Thread nD τ).loc main_arg1)
abbrev Ct : FVec Ideal ⟨2, ![4224, 2824]⟩ .f32 := m ((c : Thread nD τ).loc main_arg2)

theorem read0 (i : Fin 4224) (k : Fin 4096) : V m c main_v8 (ix2 i k) = spreadIn (fun o => Ct m c (ix2 i o)) k := by
  by_cases h : k.val < 1536
  · by_cases h' : k.val % 128 < 64
    · refine Eq.trans ?_ (spreadIn_head (fun o => Ct m c (ix2 i o)) k h h').symm
      unfold V
      after_reads_at
      rw [dif_pos h]
      after_reads_at
      exact dif_pos ⟨by omega, h'⟩
    · refine Eq.trans ?_ (spreadIn_pad (fun o => Ct m c (ix2 i o)) k h h').symm
      unfold V
      after_reads_at
      rw [dif_pos h]
      after_reads_at
      exact (dif_neg fun q => h' q.2).trans zero
  · by_cases h1 : k.val - 1536 < 2048
    · refine Eq.trans ?_ (spreadIn_tail (fun o => Ct m c (ix2 i o)) k h ⟨768 + (k.val - 1536), by omega⟩ rfl).symm
      unfold V
      after_reads_at
      rw [dif_neg h, dif_pos h1]
      after_reads_at
    · by_cases h' : k.val - 1536 - 2048 < 8
      · have e : 2816 + (k.val - 1536 - 2048) = 768 + (k.val - 1536) := by omega
        refine Eq.trans ?_ (spreadIn_tail (fun o => Ct m c (ix2 i o)) k h ⟨2816 + (k.val - 1536 - 2048), by omega⟩ e).symm
        unfold V
        after_reads_at
        rw [dif_neg h, dif_neg h1]
        after_reads_at
        exact dif_pos h'
      · refine Eq.trans ?_ (spreadIn_end (fun o => Ct m c (ix2 i o)) k h (by omega)).symm
        unfold V
        after_reads_at
        rw [dif_neg h, dif_neg h1]
        after_reads_at
        exact (dif_neg h').trans zero

theorem read1 (j : Fin 1024) (k : Fin 4096) : V m c main_v18 (ix2 k j) = spreadIn (fun o => W m c (ix2 j o)) k := by
  by_cases h : k.val < 1536
  · by_cases h' : k.val % 128 < 64
    · refine Eq.trans ?_ (spreadIn_head (fun o => W m c (ix2 j o)) k h h').symm
      unfold V
      after_reads_at
      rw [dif_pos h]
      after_reads_at
      exact dif_pos ⟨by omega, h'⟩
    · refine Eq.trans ?_ (spreadIn_pad (fun o => W m c (ix2 j o)) k h h').symm
      unfold V
      after_reads_at
      rw [dif_pos h]
      after_reads_at
      exact (dif_neg fun q => h' q.2).trans zero
  · by_cases h1 : k.val - 1536 < 2048
    · refine Eq.trans ?_ (spreadIn_tail (fun o => W m c (ix2 j o)) k h ⟨768 + (k.val - 1536), by omega⟩ rfl).symm
      unfold V
      after_reads_at
      rw [dif_neg h, dif_pos h1]
      after_reads_at
    · by_cases h' : k.val - 1536 - 2048 < 8
      · have e : 2816 + (k.val - 1536 - 2048) = 768 + (k.val - 1536) := by omega
        refine Eq.trans ?_ (spreadIn_tail (fun o => W m c (ix2 j o)) k h ⟨2816 + (k.val - 1536 - 2048), by omega⟩ e).symm
        unfold V
        after_reads_at
        rw [dif_neg h, dif_neg h1]
        after_reads_at
        exact dif_pos h'
      · refine Eq.trans ?_ (spreadIn_end (fun o => W m c (ix2 j o)) k h (by omega)).symm
        unfold V
        after_reads_at
        rw [dif_neg h, dif_neg h1]
        after_reads_at
        exact (dif_neg h').trans zero

/-! ## The array -/

theorem point (t : Fin cfg0.N) (r : Fin 704) (i : Fin 4224) (hi : i.val = 704 * (t.val % 6) + r.val) (y : Fin 512) (j : Fin 1024) (hj : j.val = 512 * (t.val / 6) + y.val) :
    out0_2 (iblk m c 0 t) (iblk m c 1 t) (ix2 r y) = ∑ k : Fin 4096, spreadIn (fun o => Ct m c (ix2 i o)) k * spreadIn (fun o => W m c (ix2 j o)) k :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S4224x1024.Idx => (∑ k : Fin 4096, spreadIn (fun o => Ct m c (ix2 (i 0) o)) k * spreadIn (fun o => W m c (ix2 (i 1) o)) k : EReal) := by
  refine (dats m 0 c).arrAt_eq_of_covers 2 _ (by decide +kernel) fun t hf y => ?_
  have ht := lt t
  have hi := (idx t).2.2
  have hr : (y 0).val < 704 := (y 0).isLt
  have hc : (y 1).val < 512 := (y 1).isLt
  have e0 : (win0_2.blk t).view.emb y 0 = (⟨(t.val % 6) * 704 + (y 0).val, by omega⟩ : Fin 4224) := Fin.ext (by blk_simp [hi])
  have e1 : (win0_2.blk t).view.emb y 1 = (⟨(t.val / 6) * 512 + (y 1).val, by omega⟩ : Fin 1024) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val % 6) 704)) (y 1) _ (congrArg (· + (y 1).val) (Nat.mul_comm (t.val / 6) 512))

/-- The same with the zeros apart. -/
theorem arr' : (dats m 0 c).arrAt 2 cfg0.N = fun i : S4224x1024.Idx => (∑ o : Fin 2824, Ct m c (ix2 (i 0) o) * W m c (ix2 (i 1) o) : EReal) :=
  (arr m c).trans (funext fun i => sum_spreadIn (fun o => Ct m c (ix2 (i 0) o)) (fun o => W m c (ix2 (i 1) o)))

end

section
open Cert.Reference12Ideal Cert.Reference12Ideal.Gen Cert.Reference12Ideal.Read

theorem ref (x1 : FVec Ideal ⟨2, ![1024, 2824]⟩ .f32) (x2 : FVec Ideal ⟨2, ![4224, 2824]⟩ .f32) (i : S4224x1024.Idx) :
    val_main_v3 (F := Ideal) x1 x2 i = (∑ o : Fin 2824, x2 (ix2 (i 0) o) * x1 (ix2 (i 1) o) : EReal) := by
  rw [eq_ix2 i]
  pointwise [val_main_v3]

end

theorem algebraic : Cert.algebraic_Kernel12Ideal_Reference12Ideal := by
  intro m g m' g' _ hagree
  refine ⟨fun c i => (∑ o : Fin 2824, Ct m c (ix2 (i 0) o) * W m c (ix2 (i 1) o) : EReal), ?_, ?_⟩
  · refine (θ_run _ _ _).mono (fun r h c => ?_) (Cert.Kernel12Ideal.Value.run_blocks m g)
    obtain ⟨h0, hargs⟩ := h c
    exact ⟨h0.trans (arr' m c), hargs⟩
  · refine (θ_run _ _ _).mono (fun r h c => ?_) (Cert.Reference12Ideal.Value.run m' g')
    obtain ⟨h0, hargs⟩ := h c
    obtain ⟨a0, a1, a2⟩ := hagree c
    refine ⟨h0.trans ?_, hargs⟩
    rw [Cert.Reference12Ideal.Read.val_main_v3_eq, a1, a2]; exact funext fun i => ref _ _ i

/-- The reference terminates, keeps its arguments, and has no semaphore. -/
theorem reference : Cert.quiescent_Reference12Ideal := fun m g _ =>
  (θ_run _ _ _).mono (fun r h => ⟨fun c => (h c).2, sem_eq_zero_of_no_sems rfl r.2⟩) (Cert.Reference12Ideal.Value.run m g)

end Cert.Proj.EvenInDx
-- ==== Proof.Proj.EvenIn.lean ====
/- The first projection of the layer with the sliding-window attention: `x w`, its columns spread out with zeros. -/
module

public import proofs.«01_k».proof.Proof.Proj.Heads
public import proofs.«01_k».proof.Proof.Gen.Kernel13Ideal.Value
public import proofs.«01_k».proof.Proof.Gen.Reference13Ideal.Run
public import proofs.«01_k».proof.Proof.Gen.Reference13Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.EvenIn

open Idealize.ShloMosaic Idealize.ShloMosaic.Pointwise Idealize.ShloMosaic.TcCoe Idealize.SL.Sem Finset

section
open Cert.Kernel13Ideal Cert.Kernel13Ideal.Gen

variable (m : (ℓ : Loc nD τ sig) → Buf (Elt Ideal) ℓ) (c : Dev nD)

/-! ## One grid point: the product of two blocks -/

theorem pay (x : Vec Ideal S1408x1024 .bf16) (w : Vec Ideal S1024x1024 .bf16) (r : Fin 1408) (y : Fin 1024) :
    k0_pay1 (F := Ideal) x w (ix2 r y) = (∑ k : Fin 1024, x (ix2 r k) * w (ix2 y k) : EReal) := by
  pointwise [k0_pay1]

theorem out (x : Vec Ideal S1408x1024 .bf16) (w : Vec Ideal S1024x1024 .bf16) (r : Fin 1408) (y : Fin 1024) :
    out0_2 (F := Ideal) x w (ix2 r y) = (∑ k : Fin 1024, x (ix2 r k) * w (ix2 y k) : EReal) := by
  frame_out
  exact pay x w r y

/-! ## The blocks -/

/-- The block of each window at grid point `t`. -/
theorem idx (t : Fin cfg0.N) : win0_0.index t = ![t.val % 3, 0] ∧ win0_1.index t = ![t.val / 3, 0] ∧ win0_2.index t = ![t.val % 3, t.val / 3] := by
  have h : ∀ t : Fin grid0.N, win0_0.index t = ![t.val % 3, 0] ∧ win0_1.index t = ![t.val / 3, 0] ∧ win0_2.index t = ![t.val % 3, t.val / 3] := by
    decide +kernel
  exact h t

theorem lt (t : Fin cfg0.N) : t.val < 12 := lt_of_lt_of_eq t.isLt N_0

theorem blk0 (t : Fin cfg0.N) (r : Fin 1408) (i : Fin 4224) (hi : i.val = 1408 * (t.val % 3) + r.val) (k : Fin 1024) :
    iblk m c 0 t (ix2 r k) = V m c (Pipeline.arrRef spec0 0) (ix2 i k) := by
  blk_ext [iblk, (idx t).1]

theorem blk1 (t : Fin cfg0.N) (y : Fin 1024) (j : Fin 4096) (hj : j.val = 1024 * (t.val / 3) + y.val) (k : Fin 1024) :
    iblk m c 1 t (ix2 y k) = V m c (Pipeline.arrRef spec0 1) (ix2 j k) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 2824]⟩ .f32 := m ((c : Thread nD τ).loc main_arg1)

theorem read0 (i : Fin 4224) (k : Fin 1024) : V m c main_v0 (ix2 i k) = X m c (ix2 i k) := by
  unfold V
  after_reads_at

theorem read1 (j : Fin 4096) (k : Fin 1024) : V m c main_v10 (ix2 j k) = spreadIn (fun o => W m c (ix2 k o)) j := by
  by_cases h : j.val < 1536
  · by_cases h' : j.val % 128 < 64
    · refine Eq.trans ?_ (spreadIn_head (fun o => W m c (ix2 k o)) j h h').symm
      unfold V
      after_reads_at
      rw [dif_pos h]
      after_reads_at
      exact dif_pos ⟨by omega, h'⟩
    · refine Eq.trans ?_ (spreadIn_pad (fun o => W m c (ix2 k o)) j h h').symm
      unfold V
      after_reads_at
      rw [dif_pos h]
      after_reads_at
      exact (dif_neg fun q => h' q.2).trans zero
  · by_cases h1 : j.val - 1536 < 2048
    · refine Eq.trans ?_ (spreadIn_tail (fun o => W m c (ix2 k o)) j h ⟨768 + (j.val - 1536), by omega⟩ rfl).symm
      unfold V
      after_reads_at
      rw [dif_neg h, dif_pos h1]
      after_reads_at
    · by_cases h' : j.val - 1536 - 2048 < 8
      · have e : 2816 + (j.val - 1536 - 2048) = 768 + (j.val - 1536) := by omega
        refine Eq.trans ?_ (spreadIn_tail (fun o => W m c (ix2 k o)) j h ⟨2816 + (j.val - 1536 - 2048), by omega⟩ e).symm
        unfold V
        after_reads_at
        rw [dif_neg h, dif_neg h1]
        after_reads_at
        exact dif_pos h'
      · refine Eq.trans ?_ (spreadIn_end (fun o => W m c (ix2 k o)) j h (by omega)).symm
        unfold V
        after_reads_at
        rw [dif_neg h, dif_neg h1]
        after_reads_at
        exact (dif_neg h').trans zero

/-! ## The array -/

theorem point (t : Fin cfg0.N) (r : Fin 1408) (i : Fin 4224) (hi : i.val = 1408 * (t.val % 3) + r.val) (y : Fin 1024) (j : Fin 4096) (hj : j.val = 1024 * (t.val / 3) + y.val) :
    out0_2 (iblk m c 0 t) (iblk m c 1 t) (ix2 r y) = ∑ k : Fin 1024, X m c (ix2 i k) * spreadIn (fun o => W m c (ix2 k o)) j :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S4224x4096.Idx => (∑ k : Fin 1024, X m c (ix2 (i 0) k) * spreadIn (fun o => W m c (ix2 k o)) (i 1) : EReal) := by
  refine (dats m 0 c).arrAt_eq_of_covers 2 _ (by decide +kernel) fun t hf y => ?_
  have ht := lt t
  have hi := (idx t).2.2
  have hr : (y 0).val < 1408 := (y 0).isLt
  have hc : (y 1).val < 1024 := (y 1).isLt
  have e0 : (win0_2.blk t).view.emb y 0 = (⟨(t.val % 3) * 1408 + (y 0).val, by omega⟩ : Fin 4224) := Fin.ext (by blk_simp [hi])
  have e1 : (win0_2.blk t).view.emb y 1 = (⟨(t.val / 3) * 1024 + (y 1).val, by omega⟩ : Fin 4096) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val % 3) 1408)) (y 1) _ (congrArg (· + (y 1).val) (Nat.mul_comm (t.val / 3) 1024))

/-- The same with the zeros apart. -/
theorem arr' : (dats m 0 c).arrAt 2 cfg0.N = fun i : S4224x4096.Idx => (spreadIn (fun o => ∑ k, X m c (ix2 (i 0) k) * W m c (ix2 k o)) (i 1) : EReal) :=
  (arr m c).trans (funext fun i => spreadIn_right (fun k => X m c (ix2 (i 0) k)) (fun o k => W m c (ix2 k o)) (i 1))

end

section
open Cert.Reference13Ideal Cert.Reference13Ideal.Gen Cert.Reference13Ideal.Read

theorem ref (x0 : FVec Ideal ⟨2, ![4224, 1024]⟩ .f32) (x1 : FVec Ideal ⟨2, ![1024, 2824]⟩ .f32) (i : S4224x4096.Idx) :
    val_main_v9 (F := Ideal) x0 x1 i = (spreadIn (fun o => ∑ k, x0 (ix2 (i 0) k) * x1 (ix2 k o)) (i 1) : EReal) := by
  rw [eq_ix2 i]
  pointwise [val_main_v9, val_main_v8, val_main_v6, val_main_v5, val_main_v4, val_main_v3, val_main_v2, val_main_v1, val_main_v0, val_main_cst, val_main_cst_0]
  rfl

end

theorem algebraic : Cert.algebraic_Kernel13Ideal_Reference13Ideal := by
  intro m g m' g' _ hagree
  refine ⟨fun c i => (spreadIn (fun o => ∑ k, X m c (ix2 (i 0) k) * W m c (ix2 k o)) (i 1) : EReal), ?_, ?_⟩
  · refine (θ_run _ _ _).mono (fun r h c => ?_) (Cert.Kernel13Ideal.Value.run_blocks m g)
    obtain ⟨h0, hargs⟩ := h c
    exact ⟨h0.trans (arr' m c), hargs⟩
  · refine (θ_run _ _ _).mono (fun r h c => ?_) (Cert.Reference13Ideal.Value.run m' g')
    obtain ⟨h0, hargs⟩ := h c
    obtain ⟨a0, a1⟩ := hagree c
    refine ⟨h0.trans ?_, hargs⟩
    rw [Cert.Reference13Ideal.Read.val_main_v9_eq, a0, a1]; exact funext fun i => ref _ _ i

/-- The reference terminates, keeps its arguments, and has no semaphore. -/
theorem reference : Cert.quiescent_Reference13Ideal := fun m g _ =>
  (θ_run _ _ _).mono (fun r h => ⟨fun c => (h c).2, sem_eq_zero_of_no_sems rfl r.2⟩) (Cert.Reference13Ideal.Value.run m g)

end Cert.Proj.EvenIn
-- ==== Proof.Proj.EvenOutDw.lean ====
/- The weight gradient of the last projection of the layer with the sliding-window attention: `xᵀ ct`, its rows spread out with zeros. -/
module

public import proofs.«01_k».proof.Proof.Proj.Heads
public import proofs.«01_k».proof.Proof.Gen.Kernel14Ideal.Value
public import proofs.«01_k».proof.Proof.Gen.Reference14Ideal.Run
public import proofs.«01_k».proof.Proof.Gen.Reference14Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.EvenOutDw

open Idealize.ShloMosaic Idealize.ShloMosaic.Pointwise Idealize.ShloMosaic.TcCoe Idealize.SL.Sem Finset

section
open Cert.Kernel14Ideal Cert.Kernel14Ideal.Gen

variable (m : (ℓ : Loc nD τ sig) → Buf (Elt Ideal) ℓ) (c : Dev nD)

/-! ## One grid point: the product of two blocks -/

theorem pay (x : Vec Ideal S4224x512 .bf16) (w : Vec Ideal S4224x512 .bf16) (r : Fin 512) (y : Fin 512) :
    k0_pay1 (F := Ideal) x w (ix2 r y) = (∑ k : Fin 4224, x (ix2 k r) * w (ix2 k y) : EReal) := by
  pointwise [k0_pay1]

theorem out (x : Vec Ideal S4224x512 .bf16) (w : Vec Ideal S4224x512 .bf16) (r : Fin 512) (y : Fin 512) :
    out0_2 (F := Ideal) x w (ix2 r y) = (∑ k : Fin 4224, x (ix2 k r) * w (ix2 k y) : EReal) := by
  frame_out
  exact pay x w r y

/-! ## The blocks -/

/-- The block of each window at grid point `t`. -/
theorem idx (t : Fin cfg0.N) : win0_0.index t = ![0, t.val / 2] ∧ win0_1.index t = ![0, t.val % 2] ∧ win0_2.index t = ![t.val / 2, t.val % 2] := by
  have h : ∀ t : Fin grid0.N, win0_0.index t = ![0, t.val / 2] ∧ win0_1.index t = ![0, t.val % 2] ∧ win0_2.index t = ![t.val / 2, t.val % 2] := by
    decide +kernel
  exact h t

theorem lt (t : Fin cfg0.N) : t.val < 6 := lt_of_lt_of_eq t.isLt N_0

theorem blk0 (t : Fin cfg0.N) (r : Fin 512) (i : Fin 1536) (hi : i.val = 512 * (t.val / 2) + r.val) (k : Fin 4224) :
    iblk m c 0 t (ix2 k r) = V m c (Pipeline.arrRef spec0 0) (ix2 k i) := by
  blk_ext [iblk, (idx t).1]

theorem blk1 (t : Fin cfg0.N) (y : Fin 512) (j : Fin 1024) (hj : j.val = 512 * (t.val % 2) + y.val) (k : Fin 4224) :
    iblk m c 1 t (ix2 k y) = V m c (Pipeline.arrRef spec0 1) (ix2 k j) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 1024]⟩ .f32 := m ((c : Thread nD τ).loc main_arg1)
abbrev Ct : FVec Ideal ⟨2, ![4224, 1024]⟩ .f32 := m ((c : Thread nD τ).loc main_arg2)

theorem read0 (i : Fin 1536) (k : Fin 4224) : V m c main_v6 (ix2 k i) = spreadOut (fun o => X m c (ix2 k o)) i := by
  unfold V
  after_reads_at
  split
  · after_reads_at
    unfold spreadOut
    split_ifs
    all_goals first | (exfalso; omega) | rfl | exact zero
  · after_reads_at
    unfold spreadOut
    split_ifs
    all_goals first | (exfalso; omega) | rfl

theorem read1 (j : Fin 1024) (k : Fin 4224) : V m c main_v7 (ix2 k j) = Ct m c (ix2 k j) := by
  unfold V
  after_reads_at

/-! ## The array -/

theorem point (t : Fin cfg0.N) (r : Fin 512) (i : Fin 1536) (hi : i.val = 512 * (t.val / 2) + r.val) (y : Fin 512) (j : Fin 1024) (hj : j.val = 512 * (t.val % 2) + y.val) :
    out0_2 (iblk m c 0 t) (iblk m c 1 t) (ix2 r y) = ∑ k : Fin 4224, spreadOut (fun o => X m c (ix2 k o)) i * Ct m c (ix2 k j) :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S1536x1024.Idx => (∑ k : Fin 4224, spreadOut (fun o => X m c (ix2 k o)) (i 0) * Ct m c (ix2 k (i 1)) : EReal) := by
  refine (dats m 0 c).arrAt_eq_of_covers 2 _ (by decide +kernel) fun t hf y => ?_
  have ht := lt t
  have hi := (idx t).2.2
  have hr : (y 0).val < 512 := (y 0).isLt
  have hc : (y 1).val < 512 := (y 1).isLt
  have e0 : (win0_2.blk t).view.emb y 0 = (⟨(t.val / 2) * 512 + (y 0).val, by omega⟩ : Fin 1536) := Fin.ext (by blk_simp [hi])
  have e1 : (win0_2.blk t).view.emb y 1 = (⟨(t.val % 2) * 512 + (y 1).val, by omega⟩ : Fin 1024) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val / 2) 512)) (y 1) _ (congrArg (· + (y 1).val) (Nat.mul_comm (t.val % 2) 512))

/-- The same with the zeros apart. -/
theorem arr' : (dats m 0 c).arrAt 2 cfg0.N = fun i : S1536x1024.Idx => (spreadOut (fun o => ∑ k, X m c (ix2 k o) * Ct m c (ix2 k (i 1))) (i 0) : EReal) :=
  (arr m c).trans (funext fun i => spreadOut_left (fun o k => X m c (ix2 k o)) (fun k => Ct m c (ix2 k (i 1))) (i 0))

end

section
open Cert.Reference14Ideal Cert.Reference14Ideal.Gen Cert.Reference14Ideal.Read

theorem ref (x0 : FVec Ideal ⟨2, ![4224, 1024]⟩ .f32) (x2 : FVec Ideal ⟨2, ![4224, 1024]⟩ .f32) (i : S1536x1024.Idx) :
    val_main_v12 (F := Ideal) x0 x2 i = (spreadOut (fun o => ∑ k, x0 (ix2 k o) * x2 (ix2 k (i 1))) (i 0) : EReal) := by
  rw [eq_ix2 i]
  pointwise [val_main_v12, val_main_v11, val_main_v10, val_main_v9, val_main_v8, val_main_v7, val_main_v6, val_main_v5, val_main_v4, val_main_v2, val_main_v1, val_main_cst]
  unfold spreadOut
  split_ifs
  all_goals first | rfl | exact sum_congr rfl fun k _ => mul_comm _ _

end

theorem algebraic : Cert.algebraic_Kernel14Ideal_Reference14Ideal := by
  intro m g m' g' _ hagree
  refine ⟨fun c i => (spreadOut (fun o => ∑ k, X m c (ix2 k o) * Ct m c (ix2 k (i 1))) (i 0) : EReal), ?_, ?_⟩
  · refine (θ_run _ _ _).mono (fun r h c => ?_) (Cert.Kernel14Ideal.Value.run_blocks m g)
    obtain ⟨h0, hargs⟩ := h c
    exact ⟨h0.trans (arr' m c), hargs⟩
  · refine (θ_run _ _ _).mono (fun r h c => ?_) (Cert.Reference14Ideal.Value.run m' g')
    obtain ⟨h0, hargs⟩ := h c
    obtain ⟨a0, a1, a2⟩ := hagree c
    refine ⟨h0.trans ?_, hargs⟩
    rw [Cert.Reference14Ideal.Read.val_main_v12_eq, a0, a2]; exact funext fun i => ref _ _ i

/-- The reference terminates, keeps its arguments, and has no semaphore. -/
theorem reference : Cert.quiescent_Reference14Ideal := fun m g _ =>
  (θ_run _ _ _).mono (fun r h => ⟨fun c => (h c).2, sem_eq_zero_of_no_sems rfl r.2⟩) (Cert.Reference14Ideal.Value.run m g)

end Cert.Proj.EvenOutDw
-- ==== Proof.Proj.EvenOutDx.lean ====
/- The input gradient of the last projection of the layer with the sliding-window attention: `ct wᵀ`, its columns spread out with zeros. -/
module

public import proofs.«01_k».proof.Proof.Proj.Heads
public import proofs.«01_k».proof.Proof.Gen.Kernel15Ideal.Value
public import proofs.«01_k».proof.Proof.Gen.Reference15Ideal.Run
public import proofs.«01_k».proof.Proof.Gen.Reference15Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.EvenOutDx

open Idealize.ShloMosaic Idealize.ShloMosaic.Pointwise Idealize.ShloMosaic.TcCoe Idealize.SL.Sem Finset

section
open Cert.Kernel15Ideal Cert.Kernel15Ideal.Gen

variable (m : (ℓ : Loc nD τ sig) → Buf (Elt Ideal) ℓ) (c : Dev nD)

/-! ## One grid point: the product of two blocks -/

theorem pay (x : Vec Ideal S1408x1024 .bf16) (w : Vec Ideal S768x1024 .bf16) (r : Fin 1408) (y : Fin 768) :
    k0_pay1 (F := Ideal) x w (ix2 r y) = (∑ k : Fin 1024, x (ix2 r k) * w (ix2 y k) : EReal) := by
  pointwise [k0_pay1]

theorem out (x : Vec Ideal S1408x1024 .bf16) (w : Vec Ideal S768x1024 .bf16) (r : Fin 1408) (y : Fin 768) :
    out0_2 (F := Ideal) x w (ix2 r y) = (∑ k : Fin 1024, x (ix2 r k) * w (ix2 y k) : EReal) := by
  frame_out
  exact pay x w r y

/-! ## The blocks -/

/-- The block of each window at grid point `t`. -/
theorem idx (t : Fin cfg0.N) : win0_0.index t = ![t.val % 3, 0] ∧ win0_1.index t = ![t.val / 3, 0] ∧ win0_2.index t = ![t.val % 3, t.val / 3] := by
  have h : ∀ t : Fin grid0.N, win0_0.index t = ![t.val % 3, 0] ∧ win0_1.index t = ![t.val / 3, 0] ∧ win0_2.index t = ![t.val % 3, t.val / 3] := by
    decide +kernel
  exact h t

theorem lt (t : Fin cfg0.N) : t.val < 6 := lt_of_lt_of_eq t.isLt N_0

theorem blk0 (t : Fin cfg0.N) (r : Fin 1408) (i : Fin 4224) (hi : i.val = 1408 * (t.val % 3) + r.val) (k : Fin 1024) :
    iblk m c 0 t (ix2 r k) = V m c (Pipeline.arrRef spec0 0) (ix2 i k) := by
  blk_ext [iblk, (idx t).1]

theorem blk1 (t : Fin cfg0.N) (y : Fin 768) (j : Fin 1536) (hj : j.val = 768 * (t.val / 3) + y.val) (k : Fin 1024) :
    iblk m c 1 t (ix2 y k) = V m c (Pipeline.arrRef spec0 1) (ix2 j k) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 1024]⟩ .f32 := m ((c : Thread nD τ).loc main_arg1)
abbrev Ct : FVec Ideal ⟨2, ![4224, 1024]⟩ .f32 := m ((c : Thread nD τ).loc main_arg2)

theorem read0 (i : Fin 4224) (k : Fin 1024) : V m c main_v0 (ix2 i k) = Ct m c (ix2 i k) := by
  unfold V
  after_reads_at

theorem read1 (j : Fin 1536) (k : Fin 1024) : V m c main_v9 (ix2 j k) = spreadOut (fun o => W m c (ix2 o k)) j := by
  unfold V
  after_reads_at
  split
  · after_reads_at
    unfold spreadOut
    split_ifs
    all_goals first | (exfalso; omega) | rfl | exact zero
  · after_reads_at
    unfold spreadOut
    split_ifs
    all_goals first | (exfalso; omega) | rfl

/-! ## The array -/

theorem point (t : Fin cfg0.N) (r : Fin 1408) (i : Fin 4224) (hi : i.val = 1408 * (t.val % 3) + r.val) (y : Fin 768) (j : Fin 1536) (hj : j.val = 768 * (t.val / 3) + y.val) :
    out0_2 (iblk m c 0 t) (iblk m c 1 t) (ix2 r y) = ∑ k : Fin 1024, Ct m c (ix2 i k) * spreadOut (fun o => W m c (ix2 o k)) j :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S4224x1536.Idx => (∑ k : Fin 1024, Ct m c (ix2 (i 0) k) * spreadOut (fun o => W m c (ix2 o k)) (i 1) : EReal) := by
  refine (dats m 0 c).arrAt_eq_of_covers 2 _ (by decide +kernel) fun t hf y => ?_
  have ht := lt t
  have hi := (idx t).2.2
  have hr : (y 0).val < 1408 := (y 0).isLt
  have hc : (y 1).val < 768 := (y 1).isLt
  have e0 : (win0_2.blk t).view.emb y 0 = (⟨(t.val % 3) * 1408 + (y 0).val, by omega⟩ : Fin 4224) := Fin.ext (by blk_simp [hi])
  have e1 : (win0_2.blk t).view.emb y 1 = (⟨(t.val / 3) * 768 + (y 1).val, by omega⟩ : Fin 1536) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val % 3) 1408)) (y 1) _ (congrArg (· + (y 1).val) (Nat.mul_comm (t.val / 3) 768))

/-- The same with the zeros apart. -/
theorem arr' : (dats m 0 c).arrAt 2 cfg0.N = fun i : S4224x1536.Idx => (spreadOut (fun o => ∑ k, Ct m c (ix2 (i 0) k) * W m c (ix2 o k)) (i 1) : EReal) :=
  (arr m c).trans (funext fun i => spreadOut_right (fun k => Ct m c (ix2 (i 0) k)) (fun o k => W m c (ix2 o k)) (i 1))

end

section
open Cert.Reference15Ideal Cert.Reference15Ideal.Gen Cert.Reference15Ideal.Read

theorem ref (x1 : FVec Ideal ⟨2, ![1024, 1024]⟩ .f32) (x2 : FVec Ideal ⟨2, ![4224, 1024]⟩ .f32) (i : S4224x1536.Idx) :
    val_main_v10 (F := Ideal) x1 x2 i = (spreadOut (fun o => ∑ k, x2 (ix2 (i 0) k) * x1 (ix2 o k)) (i 1) : EReal) := by
  rw [eq_ix2 i]
  pointwise [val_main_v10, val_main_v9, val_main_v8, val_main_v7, val_main_v6, val_main_v5, val_main_v4, val_main_v3, val_main_cst]
  rfl

end

theorem algebraic : Cert.algebraic_Kernel15Ideal_Reference15Ideal := by
  intro m g m' g' _ hagree
  refine ⟨fun c i => (spreadOut (fun o => ∑ k, Ct m c (ix2 (i 0) k) * W m c (ix2 o k)) (i 1) : EReal), ?_, ?_⟩
  · refine (θ_run _ _ _).mono (fun r h c => ?_) (Cert.Kernel15Ideal.Value.run_blocks m g)
    obtain ⟨h0, hargs⟩ := h c
    exact ⟨h0.trans (arr' m c), hargs⟩
  · refine (θ_run _ _ _).mono (fun r h c => ?_) (Cert.Reference15Ideal.Value.run m' g')
    obtain ⟨h0, hargs⟩ := h c
    obtain ⟨a0, a1, a2⟩ := hagree c
    refine ⟨h0.trans ?_, hargs⟩
    rw [Cert.Reference15Ideal.Read.val_main_v10_eq, a1, a2]; exact funext fun i => ref _ _ i

/-- The reference terminates, keeps its arguments, and has no semaphore. -/
theorem reference : Cert.quiescent_Reference15Ideal := fun m g _ =>
  (θ_run _ _ _).mono (fun r h => ⟨fun c => (h c).2, sem_eq_zero_of_no_sems rfl r.2⟩) (Cert.Reference15Ideal.Value.run m g)

end Cert.Proj.EvenOutDx
-- ==== Proof.Proj.EvenOut.lean ====
/- The last projection of the layer with the sliding-window attention: `x w`, over columns spread out with zeros. -/
module

public import proofs.«01_k».proof.Proof.Proj.Heads
public import proofs.«01_k».proof.Proof.Gen.Kernel16Ideal.Value
public import proofs.«01_k».proof.Proof.Gen.Reference16Ideal.Run
public import proofs.«01_k».proof.Proof.Gen.Reference16Ideal.Read
public import proofs.«01_k».proof.Defs
public import Idealize.ShloMosaic.Lib.Quiescent
public import Idealize.ShloMosaic.Lib.StableHlo.ReadAt
public import Idealize.ShloMosaic.Lib.Pipeline.ValueKit

@[expose] public section

set_option maxRecDepth 16384
set_option maxHeartbeats 400000

noncomputable section

namespace Cert.Proj.EvenOut

open Idealize.ShloMosaic Idealize.ShloMosaic.Pointwise Idealize.ShloMosaic.TcCoe Idealize.SL.Sem Finset

section
open Cert.Kernel16Ideal Cert.Kernel16Ideal.Gen

variable (m : (ℓ : Loc nD τ sig) → Buf (Elt Ideal) ℓ) (c : Dev nD)

/-! ## One grid point: the product of two blocks -/

theorem pay (x : Vec Ideal S1408x1536 .bf16) (w : Vec Ideal S1536x512 .bf16) (r : Fin 1408) (y : Fin 512) :
    k0_pay1 (F := Ideal) x w (ix2 r y) = (∑ k : Fin 1536, x (ix2 r k) * w (ix2 k y) : EReal) := by
  pointwise [k0_pay1]

theorem out (x : Vec Ideal S1408x1536 .bf16) (w : Vec Ideal S1536x512 .bf16) (r : Fin 1408) (y : Fin 512) :
    out0_2 (F := Ideal) x w (ix2 r y) = (∑ k : Fin 1536, x (ix2 r k) * w (ix2 k y) : EReal) := by
  frame_out
  exact pay x w r y

/-! ## The blocks -/

/-- The block of each window at grid point `t`. -/
theorem idx (t : Fin cfg0.N) : win0_0.index t = ![t.val % 3, 0] ∧ win0_1.index t = ![0, t.val / 3] ∧ win0_2.index t = ![t.val % 3, t.val / 3] := by
  have h : ∀ t : Fin grid0.N, win0_0.index t = ![t.val % 3, 0] ∧ win0_1.index t = ![0, t.val / 3] ∧ win0_2.index t = ![t.val % 3, t.val / 3] := by
    decide +kernel
  exact h t

theorem lt (t : Fin cfg0.N) : t.val < 6 := lt_of_lt_of_eq t.isLt N_0

theorem blk0 (t : Fin cfg0.N) (r : Fin 1408) (i : Fin 4224) (hi : i.val = 1408 * (t.val % 3) + r.val) (k : Fin 1536) :
    iblk m c 0 t (ix2 r k) = V m c (Pipeline.arrRef spec0 0) (ix2 i k) := by
  blk_ext [iblk, (idx t).1]

theorem blk1 (t : Fin cfg0.N) (y : Fin 512) (j : Fin 1024) (hj : j.val = 512 * (t.val / 3) + y.val) (k : Fin 1536) :
    iblk m c 1 t (ix2 k y) = V m c (Pipeline.arrRef spec0 1) (ix2 k j) := by
  blk_ext [iblk, (idx t).2.1]

/-! ## The arguments and what the host code prepares -/

abbrev X : FVec Ideal ⟨2, ![4224, 1024]⟩ .f32 := m ((c : Thread nD τ).loc main_arg0)
abbrev W : FVec Ideal ⟨2, ![1024, 1024]⟩ .f32 := m ((c : Thread nD τ).loc main_arg1)

theorem read0 (i : Fin 4224) (k : Fin 1536) : V m c main_v6 (ix2 i k) = spreadOut (fun o => X m c (ix2 i o)) k := by
  unfold V
  after_reads_at
  split
  · after_reads_at
    unfold spreadOut
    split_ifs
    all_goals first | (exfalso; omega) | rfl | exact zero
  · after_reads_at
    unfold spreadOut
    split_ifs
    all_goals first | (exfalso; omega) | rfl

theorem read1 (j : Fin 1024) (k : Fin 1536) : V m c main_v15 (ix2 k j) = spreadOut (fun o => W m c (ix2 o j)) k := by
  unfold V
  after_reads_at
  split
  · after_reads_at
    unfold spreadOut
    split_ifs
    all_goals first | (exfalso; omega) | rfl | exact zero
  · after_reads_at
    unfold spreadOut
    split_ifs
    all_goals first | (exfalso; omega) | rfl

/-! ## The array -/

theorem point (t : Fin cfg0.N) (r : Fin 1408) (i : Fin 4224) (hi : i.val = 1408 * (t.val % 3) + r.val) (y : Fin 512) (j : Fin 1024) (hj : j.val = 512 * (t.val / 3) + y.val) :
    out0_2 (iblk m c 0 t) (iblk m c 1 t) (ix2 r y) = ∑ k : Fin 1536, spreadOut (fun o => X m c (ix2 i o)) k * spreadOut (fun o => W m c (ix2 o j)) k :=
  (out _ _ r y).trans (sum_congr rfl fun k _ => congrArg₂ (· * ·) ((blk0 m c t r i hi k).trans (read0 m c i k))
    ((blk1 m c t y j hj k).trans (read1 m c j k)))

/-- What the kernel leaves. -/
theorem arr : (dats m 0 c).arrAt 2 cfg0.N = fun i : S4224x1024.Idx => (∑ k : Fin 1536, spreadOut (fun o => X m c (ix2 (i 0) o)) k * spreadOut (fun o => W m c (ix2 o (i 1))) k : EReal) := by
  refine (dats m 0 c).arrAt_eq_of_covers 2 _ (by decide +kernel) fun t hf y => ?_
  have ht := lt t
  have hi := (idx t).2.2
  have hr : (y 0).val < 1408 := (y 0).isLt
  have hc : (y 1).val < 512 := (y 1).isLt
  have e0 : (win0_2.blk t).view.emb y 0 = (⟨(t.val % 3) * 1408 + (y 0).val, by omega⟩ : Fin 4224) := Fin.ext (by blk_simp [hi])
  have e1 : (win0_2.blk t).view.emb y 1 = (⟨(t.val / 3) * 512 + (y 1).val, by omega⟩ : Fin 1024) := Fin.ext (by blk_simp [hi])
  blk_simp [after0_2]
  rw [e0, e1]
  refine (congrArg (out0_2 (iblk m c 0 t) (iblk m c 1 t)) (eq_ix2 y)).trans ?_
  exact point m c t (y 0) _ (congrArg (· + (y 0).val) (Nat.mul_comm (t.val % 3) 1408)) (y 1) _ (congrArg (· + (y 1).val) (Nat.mul_comm (t.val / 3) 512))

/-- The same with the zeros apart. -/
theorem arr' : (dats m 0 c).arrAt 2 cfg0.N = fun i : S4224x1024.Idx => (∑ o : Fin 1024, X m c (ix2 (i 0) o) * W m c (ix2 o (i 1)) : EReal) :=
  (arr m c).trans (funext fun i => sum_spreadOut (fun o => X m c (ix2 (i 0) o)) (fun o => W m c (ix2 o (i 1))))

end

section
open Cert.Reference16Ideal Cert.Reference16Ideal.Gen Cert.Reference16Ideal.Read

theorem ref (x0 : FVec Ideal ⟨2, ![4224, 1024]⟩ .f32) (x1 : FVec Ideal ⟨2, ![1024, 1024]⟩ .f32) (i : S4224x1024.Idx) :
    val_main_v0 (F := Ideal) x0 x1 i = (∑ o : Fin 1024, x0 (ix2 (i 0) o) * x1 (ix2 o (i 1)) : EReal) := by
  rw [eq_ix2 i]
  pointwise [val_main_v0]

end

theorem algebraic : Cert.algebraic_Kernel16Ideal_Reference16Ideal := by
  intro m g m' g' _ hagree
  refine ⟨fun c i => (∑ o : Fin 1024, X m c (ix2 (i 0) o) * W m c (ix2 o (i 1)) : EReal), ?_, ?_⟩
  · refine (θ_run _ _ _).mono (fun r h c => ?_) (Cert.Kernel16Ideal.Value.run_blocks m g)
    obtain ⟨h0, hargs⟩ := h c
    exact ⟨h0.trans (arr' m c), hargs⟩
  · refine (θ_run _ _ _).mono (fun r h c => ?_) (Cert.Reference16Ideal.Value.run m' g')
    obtain ⟨h0, hargs⟩ := h c
    obtain ⟨a0, a1⟩ := hagree c
    refine ⟨h0.trans ?_, hargs⟩
    rw [Cert.Reference16Ideal.Read.val_main_v0_eq, a0, a1]; exact funext fun i => ref _ _ i

/-- The reference terminates, keeps its arguments, and has no semaphore. -/
theorem reference : Cert.quiescent_Reference16Ideal := fun m g _ =>
  (θ_run _ _ _).mono (fun r h => ⟨fun c => (h c).2, sem_eq_zero_of_no_sems rfl r.2⟩) (Cert.Reference16Ideal.Value.run m g)

end Cert.Proj.EvenOut
-- ==== Proof.lean ====
module

public import proofs.«01_k».proof.Proof.Gen.Kernel.Frame
public import proofs.«01_k».proof.Proof.Gen.KernelIdeal.Value
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Kernel9Ideal.Frame
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Kernel10Ideal.Frame
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Kernel11Ideal.Frame
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Kernel12Ideal.Frame
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Kernel13Ideal.Frame
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Kernel14Ideal.Frame
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Kernel15Ideal.Frame
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Kernel16Ideal.Frame
public import proofs.«01_k».proof.Proof.Gen.Reference16Ideal.Run
public import proofs.«01_k».proof.Proof.Gen.Reference16Ideal.Read
public import proofs.«01_k».proof.Proof.Gen.Pre_all_finite
public import proofs.«01_k».proof.Proof.Gen.Pre_bx_finite
public import proofs.«01_k».proof.Proof.Gla.Claim
public import proofs.«01_k».proof.Proof.Ffn.FwClaim
public import proofs.«01_k».proof.Proof.Ffn.BxClaim
public import proofs.«01_k».proof.Proof.Ffn.BwClaim
public import proofs.«01_k».proof.Proof.Proj.InDw
public import proofs.«01_k».proof.Proof.Proj.InDx
public import proofs.«01_k».proof.Proof.Proj.In
public import proofs.«01_k».proof.Proof.Proj.OutDw
public import proofs.«01_k».proof.Proof.Proj.OutDx
public import proofs.«01_k».proof.Proof.Proj.Out
public import proofs.«01_k».proof.Proof.Proj.EvenInDw
public import proofs.«01_k».proof.Proof.Proj.EvenInDx
public import proofs.«01_k».proof.Proof.Proj.EvenIn
public import proofs.«01_k».proof.Proof.Proj.EvenOutDw
public import proofs.«01_k».proof.Proof.Proj.EvenOutDx
public import proofs.«01_k».proof.Proof.Proj.EvenOut
public import proofs.«01_k».proof.Defs
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Pre_all_finite.Gen.facts, Cert.Pre_bx_finite.Gen.facts,
  fun m ρ _ => Cert.Kernel.Gen.frame m ρ, fun m ρ _ => Cert.KernelIdeal.Gen.frame m ρ, fun m ρ _ => Cert.KernelIdeal.Gen.frame m ρ,
  fun m ρ _ => Cert.Gla.reference_run m ρ, fun m ρ _ => Cert.Gla.reference_run m ρ,
  fun m ρ _ => Cert.Kernel2.Gen.frame m ρ, fun m ρ _ => Cert.Kernel2Ideal.Gen.frame m ρ, Cert.Ffn.Fw.reference,
  fun m ρ _ => Cert.Kernel3.Gen.frame m ρ, fun m ρ _ => Cert.Kernel3Ideal.Gen.frame m ρ, fun m ρ _ => Cert.Kernel3Ideal.Gen.frame m ρ,
  Cert.Ffn.Bx.reference, fun m ρ _ => Cert.Ffn.Bx.reference m ρ trivial,
  fun m ρ _ => Cert.Kernel4.Gen.frame m ρ, fun m ρ _ => Cert.Kernel4Ideal.Gen.frame m ρ, Cert.Ffn.Bw.reference,
  fun m ρ _ => Cert.Kernel5.Gen.frame m ρ, fun m ρ _ => Cert.Kernel5Ideal.Gen.frame m ρ, Cert.Proj.InDw.reference,
  fun m ρ _ => Cert.Kernel6.Gen.frame m ρ, fun m ρ _ => Cert.Kernel6Ideal.Gen.frame m ρ, Cert.Proj.InDx.reference,
  fun m ρ _ => Cert.Kernel7.Gen.frame m ρ, fun m ρ _ => Cert.Kernel7Ideal.Gen.frame m ρ, Cert.Proj.In.reference,
  fun m ρ _ => Cert.Kernel8.Gen.frame m ρ, fun m ρ _ => Cert.Kernel8Ideal.Gen.frame m ρ, Cert.Proj.OutDw.reference,
  fun m ρ _ => Cert.Kernel9.Gen.frame m ρ, fun m ρ _ => Cert.Kernel9Ideal.Gen.frame m ρ, Cert.Proj.OutDx.reference,
  fun m ρ _ => Cert.Kernel10.Gen.frame m ρ, fun m ρ _ => Cert.Kernel10Ideal.Gen.frame m ρ, Cert.Proj.Out.reference,
  fun m ρ _ => Cert.Kernel11.Gen.frame m ρ, fun m ρ _ => Cert.Kernel11Ideal.Gen.frame m ρ, Cert.Proj.EvenInDw.reference,
  fun m ρ _ => Cert.Kernel12.Gen.frame m ρ, fun m ρ _ => Cert.Kernel12Ideal.Gen.frame m ρ, Cert.Proj.EvenInDx.reference,
  fun m ρ _ => Cert.Kernel13.Gen.frame m ρ, fun m ρ _ => Cert.Kernel13Ideal.Gen.frame m ρ, Cert.Proj.EvenIn.reference,
  fun m ρ _ => Cert.Kernel14.Gen.frame m ρ, fun m ρ _ => Cert.Kernel14Ideal.Gen.frame m ρ, Cert.Proj.EvenOutDw.reference,
  fun m ρ _ => Cert.Kernel15.Gen.frame m ρ, fun m ρ _ => Cert.Kernel15Ideal.Gen.frame m ρ, Cert.Proj.EvenOutDx.reference,
  fun m ρ _ => Cert.Kernel16.Gen.frame m ρ, fun m ρ _ => Cert.Kernel16Ideal.Gen.frame m ρ, Cert.Proj.EvenOut.reference,
  trivial, Cert.Gla.algebraic, trivial, Cert.Ffn.Fw.algebraic, trivial, Cert.Ffn.Bx.algebraic, trivial, Cert.Ffn.Bw.algebraic,
  trivial, Cert.Proj.InDw.algebraic, trivial, Cert.Proj.InDx.algebraic, trivial, Cert.Proj.In.algebraic, trivial, Cert.Proj.OutDw.algebraic,
  trivial, Cert.Proj.OutDx.algebraic, trivial, Cert.Proj.Out.algebraic, trivial, Cert.Proj.EvenInDw.algebraic, trivial, Cert.Proj.EvenInDx.algebraic,
  trivial, Cert.Proj.EvenIn.algebraic, trivial, Cert.Proj.EvenOutDw.algebraic, trivial, Cert.Proj.EvenOutDx.algebraic, trivial, Cert.Proj.EvenOut.algebraic⟩

end Cert.Proof

end
